-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S16 : Shape := ⟨1, ![16]⟩
abbrev S15x4x256x256 : Shape := ⟨4, ![15, 4, 256, 256]⟩
abbrev S4 : Shape := ⟨1, ![4]⟩
abbrev S60 : Shape := ⟨1, ![60]⟩
abbrev S_ : Shape := ⟨0, ![]⟩
abbrev S256x256 : Shape := ⟨2, ![256, 256]⟩
abbrev S256x1024 : Shape := ⟨2, ![256, 1024]⟩
abbrev S1x1x256x256 : Shape := ⟨4, ![1, 1, 256, 256]⟩

abbrev nBuf : Space → Nat
  | .hbm => 7
  | .vmem => 7
  | .smem => 4
  | _ => 0

abbrev bufTy : (tb : Table) → Fin (tcTables nBuf tb) → BufTy
  | .hbm, ⟨0, _⟩ => ⟨S4096x256, .fp8e5m2⟩
  | .hbm, ⟨1, _⟩ => ⟨S256x2048, .fp8e5m2⟩
  | .hbm, ⟨2, _⟩ => ⟨S1, .f32⟩
  | .hbm, ⟨3, _⟩ => ⟨S1, .f32⟩
  | .hbm, ⟨4, _⟩ => ⟨S16, .i32⟩
  | .hbm, ⟨5, _⟩ => ⟨S16, .i32⟩
  | .hbm, ⟨6, _⟩ => ⟨S256x2048, .f32⟩
  | .local _ .vmem, ⟨0, _⟩ => ⟨S4096x256, .fp8e5m2⟩
  | .local _ .vmem, ⟨1, _⟩ => ⟨S256x2048, .fp8e5m2⟩
  | .local _ .vmem, ⟨2, _⟩ => ⟨S256x2048, .f32⟩
  | .local _ .vmem, ⟨3, _⟩ => ⟨S15x4x256x256, .bf16⟩
  | .local _ .vmem, ⟨4, _⟩ => ⟨S15x4x256x256, .bf16⟩
  | .local _ .vmem, ⟨5, _⟩ => ⟨S15x4x256x256, .bf16⟩
  | .local _ .vmem, ⟨6, _⟩ => ⟨S15x4x256x256, .bf16⟩
  | .local _ .smem, ⟨0, _⟩ => ⟨S1, .f32⟩
  | .local _ .smem, ⟨1, _⟩ => ⟨S1, .f32⟩
  | .local _ .smem, ⟨2, _⟩ => ⟨S16, .i32⟩
  | .local _ .smem, ⟨3, _⟩ => ⟨S16, .i32⟩
  | _, _ => ⟨S4096x256, .fp8e5m2⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 1 → Bool
  | ⟨0, _⟩ => false
  | _ => false

abbrev dmaSemScoped : Fin 135 → Bool
  | ⟨i, _⟩ => dmaSemScopedAt i

abbrev sig : RefSig :=
  (ofTc nBuf bufTy 1 135 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg6_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : Index := Scalar.indexCast v2
  ![v3.toNat]
def k0_off2 (v4 : BitVec 32) : Fin 1 → Nat :=
  let c1_i32_0 : BitVec 32 := 1#32
  let v5 : BitVec 32 := Scalar.addi v4 c1_i32_0
  let c16_i32_1 : BitVec 32 := 16#32
  let c0_i32 : BitVec 32 := 0#32
  let v6 : BitVec 1 := Scalar.cmpi .eq c16_i32_1 c0_i32
  let c1_i32_2 : BitVec 32 := 1#32
  let v7 : BitVec 32 := Scalar.select v6 c1_i32_2 c16_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v16 : Index := Scalar.indexCast v15
  ![v16.toNat]

def k0_off3 (v4 : BitVec 32) : Fin 1 → Nat :=
  let c16_i32_6 : BitVec 32 := 16#32
  let v18 : BitVec 32 := Scalar.addi v4 c16_i32_6
  let c1_i32_7 : BitVec 32 := 1#32
  let v19 : BitVec 32 := Scalar.subi v18 c1_i32_7
  let c16_i32_8 : BitVec 32 := 16#32
  let c0_i32_9 : BitVec 32 := 0#32
  let v20 : BitVec 1 := Scalar.cmpi .eq c16_i32_8 c0_i32_9
  let c1_i32_10 : BitVec 32 := 1#32
  let v21 : BitVec 32 := Scalar.select v20 c1_i32_10 c16_i32_8
  let v22 : BitVec 32 := Scalar.remsi v19 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : Index := Scalar.indexCast v29
  ![v30.toNat]
def k0_dev1 (v31 : BitVec 32) : Nat :=
  let c0_i32_16 : BitVec 32 := 0#32
  let c1_i32_15 : BitVec 32 := 1#32
  let v33 : BitVec 32 := Scalar.muli v31 c1_i32_15
  let v34 : BitVec 32 := Scalar.addi c0_i32_16 v33
  v34.toNat

def k0_dev2 (v17 : BitVec 32) : Nat :=
  let c0_i32_19 : BitVec 32 := 0#32
  let c1_i32_18 : BitVec 32 := 1#32
  let v35 : BitVec 32 := Scalar.muli v17 c1_i32_18
  let v36 : BitVec 32 := Scalar.addi c0_i32_19 v35
  v36.toNat

def k0_off4 (v4 : BitVec 32) : Fin 1 → Nat :=
  let c15_i32 : BitVec 32 := 15#32
  let v37 : BitVec 32 := Scalar.addi v4 c15_i32
  let c16_i32_20 : BitVec 32 := 16#32
  let c0_i32_21 : BitVec 32 := 0#32
  let v38 : BitVec 1 := Scalar.cmpi .eq c16_i32_20 c0_i32_21
  let c1_i32_22 : BitVec 32 := 1#32
  let v39 : BitVec 32 := Scalar.select v38 c1_i32_22 c16_i32_20
  let v40 : BitVec 32 := Scalar.remsi v37 v39
  let c0_i32_24 : BitVec 32 := 0#32
  let v42 : BitVec 1 := Scalar.cmpi .slt v40 c0_i32_24
  let c0_i32_25 : BitVec 32 := 0#32
  let v43 : BitVec 1 := Scalar.cmpi .slt v39 c0_i32_25
  let v44 : BitVec 1 := Scalar.xori v42 v43
  let c0_i32_23 : BitVec 32 := 0#32
  let v41 : BitVec 1 := Scalar.cmpi .ne v40 c0_i32_23
  let v45 : BitVec 1 := Scalar.andi v44 v41
  let v46 : BitVec 32 := Scalar.addi v40 v39
  let v47 : BitVec 32 := Scalar.select v45 v46 v40
  let v48 : Index := Scalar.indexCast v47
  ![v48.toNat]
def k0_off5 (v49 : BitVec 32) : Fin 2 → Nat :=
  let c256_i32 : BitVec 32 := 256#32
  let v50 : BitVec 32 := Scalar.muli v49 c256_i32
  let v51 : Index := Scalar.indexCast v50
  let c0 : Index := 0#32
  ![v51.toNat, 0]

def k0_chk4 (v49 : BitVec 32) : Prop :=
  (∀ a, (k0_off5 v49) a + S256x256.size a ≤ S4096x256.size a)
theorem k0_off5_inb : ∀ (v49 : BitVec 32) (k0_hw4 : k0_chk4 v49), ∀ a, (k0_off5 v49) a + S256x256.size a ≤ S4096x256.size a := fun v49 k0_hw4 => k0_hw4

def k0_off6 (v4 : BitVec 32) : Fin 1 → Nat :=
  let c1_i32_28 : BitVec 32 := 1#32
  let v57 : BitVec 32 := Scalar.addi v4 c1_i32_28
  let c16_i32_29 : BitVec 32 := 16#32
  let c0_i32_30 : BitVec 32 := 0#32
  let v58 : BitVec 1 := Scalar.cmpi .eq c16_i32_29 c0_i32_30
  let c1_i32_31 : BitVec 32 := 1#32
  let v59 : BitVec 32 := Scalar.select v58 c1_i32_31 c16_i32_29
  let v60 : BitVec 32 := Scalar.remsi v57 v59
  let c0_i32_33 : BitVec 32 := 0#32
  let v62 : BitVec 1 := Scalar.cmpi .slt v60 c0_i32_33
  let c0_i32_34 : BitVec 32 := 0#32
  let v63 : BitVec 1 := Scalar.cmpi .slt v59 c0_i32_34
  let v64 : BitVec 1 := Scalar.xori v62 v63
  let c0_i32_32 : BitVec 32 := 0#32
  let v61 : BitVec 1 := Scalar.cmpi .ne v60 c0_i32_32
  let v65 : BitVec 1 := Scalar.andi v64 v61
  let v66 : BitVec 32 := Scalar.addi v60 v59
  let v67 : BitVec 32 := Scalar.select v65 v66 v60
  let v68 : Index := Scalar.indexCast v67
  ![v68.toNat]
def k0_off7 (v69 : BitVec 32) : Fin 2 → Nat :=
  let c256_i32_35 : BitVec 32 := 256#32
  let v70 : BitVec 32 := Scalar.muli v69 c256_i32_35
  let v71 : Index := Scalar.indexCast v70
  let c0_36 : Index := 0#32
  ![v71.toNat, 0]

def k0_chk5 (v69 : BitVec 32) : Prop :=
  (∀ a, (k0_off7 v69) a + S256x256.size a ≤ S4096x256.size a)
theorem k0_off7_inb : ∀ (v69 : BitVec 32) (k0_hw5 : k0_chk5 v69), ∀ a, (k0_off7 v69) a + S256x256.size a ≤ S4096x256.size a := fun v69 k0_hw5 => k0_hw5

def k0_dev3 (v17 : BitVec 32) : Nat :=
  let c0_i32_50 : BitVec 32 := 0#32
  let c1_i32_49 : BitVec 32 := 1#32
  let v82 : BitVec 32 := Scalar.muli v17 c1_i32_49
  let v83 : BitVec 32 := Scalar.addi c0_i32_50 v82
  v83.toNat
def k0_dev4 (v31 : BitVec 32) : Nat :=
  let c0_i32_66 : BitVec 32 := 0#32
  let c1_i32_65 : BitVec 32 := 1#32
  let v97 : BitVec 32 := Scalar.muli v31 c1_i32_65
  let v98 : BitVec 32 := Scalar.addi c0_i32_66 v97
  v98.toNat
def k0_dev5 (v17 : BitVec 32) : Nat :=
  let c0_i32_81 : BitVec 32 := 0#32
  let c1_i32_80 : BitVec 32 := 1#32
  let v112 : BitVec 32 := Scalar.muli v17 c1_i32_80
  let v113 : BitVec 32 := Scalar.addi c0_i32_81 v112
  v113.toNat
def k0_dev6 (v31 : BitVec 32) : Nat :=
  let c0_i32_97 : BitVec 32 := 0#32
  let c1_i32_96 : BitVec 32 := 1#32
  let v127 : BitVec 32 := Scalar.muli v31 c1_i32_96
  let v128 : BitVec 32 := Scalar.addi c0_i32_97 v127
  v128.toNat
def k0_dev7 (v17 : BitVec 32) : Nat :=
  let c0_i32_112 : BitVec 32 := 0#32
  let c1_i32_111 : BitVec 32 := 1#32
  let v142 : BitVec 32 := Scalar.muli v17 c1_i32_111
  let v143 : BitVec 32 := Scalar.addi c0_i32_112 v142
  v143.toNat
def k0_dev8 (v31 : BitVec 32) : Nat :=
  let c0_i32_128 : BitVec 32 := 0#32
  let c1_i32_127 : BitVec 32 := 1#32
  let v157 : BitVec 32 := Scalar.muli v31 c1_i32_127
  let v158 : BitVec 32 := Scalar.addi c0_i32_128 v157
  v158.toNat
def k0_dev9 (v17 : BitVec 32) : Nat :=
  let c0_i32_142 : BitVec 32 := 0#32
  let c1_i32_141 : BitVec 32 := 1#32
  let v172 : BitVec 32 := Scalar.muli v17 c1_i32_141
  let v173 : BitVec 32 := Scalar.addi c0_i32_142 v172
  v173.toNat
def k0_dev10 (v31 : BitVec 32) : Nat :=
  let c0_i32_158 : BitVec 32 := 0#32
  let c1_i32_157 : BitVec 32 := 1#32
  let v187 : BitVec 32 := Scalar.muli v31 c1_i32_157
  let v188 : BitVec 32 := Scalar.addi c0_i32_158 v187
  v188.toNat
def k0_off8 (v4 : BitVec 32) : Fin 1 → Nat :=
  let c14_i32 : BitVec 32 := 14#32
  let v197 : BitVec 32 := Scalar.addi v4 c14_i32
  let c16_i32_163 : BitVec 32 := 16#32
  let c0_i32_164 : BitVec 32 := 0#32
  let v198 : BitVec 1 := Scalar.cmpi .eq c16_i32_163 c0_i32_164
  let c1_i32_165 : BitVec 32 := 1#32
  let v199 : BitVec 32 := Scalar.select v198 c1_i32_165 c16_i32_163
  let v200 : BitVec 32 := Scalar.remsi v197 v199
  let c0_i32_167 : BitVec 32 := 0#32
  let v202 : BitVec 1 := Scalar.cmpi .slt v200 c0_i32_167
  let c0_i32_168 : BitVec 32 := 0#32
  let v203 : BitVec 1 := Scalar.cmpi .slt v199 c0_i32_168
  let v204 : BitVec 1 := Scalar.xori v202 v203
  let c0_i32_166 : BitVec 32 := 0#32
  let v201 : BitVec 1 := Scalar.cmpi .ne v200 c0_i32_166
  let v205 : BitVec 1 := Scalar.andi v204 v201
  let v206 : BitVec 32 := Scalar.addi v200 v199
  let v207 : BitVec 32 := Scalar.select v205 v206 v200
  let v208 : Index := Scalar.indexCast v207
  ![v208.toNat]
def k0_off9 (v209 : BitVec 32) : Fin 2 → Nat :=
  let c256_i32_169 : BitVec 32 := 256#32
  let v210 : BitVec 32 := Scalar.muli v209 c256_i32_169
  let v211 : Index := Scalar.indexCast v210
  let c0_170 : Index := 0#32
  ![v211.toNat, 0]

def k0_chk6 (v209 : BitVec 32) : Prop :=
  (∀ a, (k0_off9 v209) a + S256x256.size a ≤ S4096x256.size a)
theorem k0_off9_inb : ∀ (v209 : BitVec 32) (k0_hw6 : k0_chk6 v209), ∀ a, (k0_off9 v209) a + S256x256.size a ≤ S4096x256.size a := fun v209 k0_hw6 => k0_hw6

def k0_off10 (v4 : BitVec 32) : Fin 1 → Nat :=
  let c2_i32_174 : BitVec 32 := 2#32
  let v217 : BitVec 32 := Scalar.addi v4 c2_i32_174
  let c16_i32_175 : BitVec 32 := 16#32
  let c0_i32_176 : BitVec 32 := 0#32
  let v218 : BitVec 1 := Scalar.cmpi .eq c16_i32_175 c0_i32_176
  let c1_i32_177 : BitVec 32 := 1#32
  let v219 : BitVec 32 := Scalar.select v218 c1_i32_177 c16_i32_175
  let v220 : BitVec 32 := Scalar.remsi v217 v219
  let c0_i32_179 : BitVec 32 := 0#32
  let v222 : BitVec 1 := Scalar.cmpi .slt v220 c0_i32_179
  let c0_i32_180 : BitVec 32 := 0#32
  let v223 : BitVec 1 := Scalar.cmpi .slt v219 c0_i32_180
  let v224 : BitVec 1 := Scalar.xori v222 v223
  let c0_i32_178 : BitVec 32 := 0#32
  let v221 : BitVec 1 := Scalar.cmpi .ne v220 c0_i32_178
  let v225 : BitVec 1 := Scalar.andi v224 v221
  let v226 : BitVec 32 := Scalar.addi v220 v219
  let v227 : BitVec 32 := Scalar.select v225 v226 v220
  let v228 : Index := Scalar.indexCast v227
  ![v228.toNat]
def k0_off11 (v229 : BitVec 32) : Fin 2 → Nat :=
  let c256_i32_181 : BitVec 32 := 256#32
  let v230 : BitVec 32 := Scalar.muli v229 c256_i32_181
  let v231 : Index := Scalar.indexCast v230
  let c0_182 : Index := 0#32
  ![v231.toNat, 0]

def k0_chk7 (v229 : BitVec 32) : Prop :=
  (∀ a, (k0_off11 v229) a + S256x256.size a ≤ S4096x256.size a)
theorem k0_off11_inb : ∀ (v229 : BitVec 32) (k0_hw7 : k0_chk7 v229), ∀ a, (k0_off11 v229) a + S256x256.size a ≤ S4096x256.size a := fun v229 k0_hw7 => k0_hw7

def k0_dev11 (v17 : BitVec 32) : Nat :=
  let c0_i32_223 : BitVec 32 := 0#32
  let c1_i32_222 : BitVec 32 := 1#32
  let v260 : BitVec 32 := Scalar.muli v17 c1_i32_222
  let v261 : BitVec 32 := Scalar.addi c0_i32_223 v260
  v261.toNat
def k0_dev12 (v31 : BitVec 32) : Nat :=
  let c0_i32_266 : BitVec 32 := 0#32
  let c1_i32_265 : BitVec 32 := 1#32
  let v293 : BitVec 32 := Scalar.muli v31 c1_i32_265
  let v294 : BitVec 32 := Scalar.addi c0_i32_266 v293
  v294.toNat
def k0_dev13 (v17 : BitVec 32) : Nat :=
  let c0_i32_308 : BitVec 32 := 0#32
  let c1_i32_307 : BitVec 32 := 1#32
  let v326 : BitVec 32 := Scalar.muli v17 c1_i32_307
  let v327 : BitVec 32 := Scalar.addi c0_i32_308 v326
  v327.toNat
def k0_dev14 (v31 : BitVec 32) : Nat :=
  let c0_i32_351 : BitVec 32 := 0#32
  let c1_i32_350 : BitVec 32 := 1#32
  let v359 : BitVec 32 := Scalar.muli v31 c1_i32_350
  let v360 : BitVec 32 := Scalar.addi c0_i32_351 v359
  v360.toNat
def k0_dev15 (v17 : BitVec 32) : Nat :=
  let c0_i32_393 : BitVec 32 := 0#32
  let c1_i32_392 : BitVec 32 := 1#32
  let v392 : BitVec 32 := Scalar.muli v17 c1_i32_392
  let v393 : BitVec 32 := Scalar.addi c0_i32_393 v392
  v393.toNat
def k0_dev16 (v31 : BitVec 32) : Nat :=
  let c0_i32_436 : BitVec 32 := 0#32
  let c1_i32_435 : BitVec 32 := 1#32
  let v425 : BitVec 32 := Scalar.muli v31 c1_i32_435
  let v426 : BitVec 32 := Scalar.addi c0_i32_436 v425
  v426.toNat
def k0_dev17 (v17 : BitVec 32) : Nat :=
  let c0_i32_478 : BitVec 32 := 0#32
  let c1_i32_477 : BitVec 32 := 1#32
  let v458 : BitVec 32 := Scalar.muli v17 c1_i32_477
  let v459 : BitVec 32 := Scalar.addi c0_i32_478 v458
  v459.toNat
def k0_dev18 (v31 : BitVec 32) : Nat :=
  let c0_i32_521 : BitVec 32 := 0#32
  let c1_i32_520 : BitVec 32 := 1#32
  let v491 : BitVec 32 := Scalar.muli v31 c1_i32_520
  let v492 : BitVec 32 := Scalar.addi c0_i32_521 v491
  v492.toNat
def k0_off12 (v4 : BitVec 32) : Fin 1 → Nat :=
  let c13_i32 : BitVec 32 := 13#32
  let v501 : BitVec 32 := Scalar.addi v4 c13_i32
  let c16_i32_526 : BitVec 32 := 16#32
  let c0_i32_527 : BitVec 32 := 0#32
  let v502 : BitVec 1 := Scalar.cmpi .eq c16_i32_526 c0_i32_527
  let c1_i32_528 : BitVec 32 := 1#32
  let v503 : BitVec 32 := Scalar.select v502 c1_i32_528 c16_i32_526
  let v504 : BitVec 32 := Scalar.remsi v501 v503
  let c0_i32_530 : BitVec 32 := 0#32
  let v506 : BitVec 1 := Scalar.cmpi .slt v504 c0_i32_530
  let c0_i32_531 : BitVec 32 := 0#32
  let v507 : BitVec 1 := Scalar.cmpi .slt v503 c0_i32_531
  let v508 : BitVec 1 := Scalar.xori v506 v507
  let c0_i32_529 : BitVec 32 := 0#32
  let v505 : BitVec 1 := Scalar.cmpi .ne v504 c0_i32_529
  let v509 : BitVec 1 := Scalar.andi v508 v505
  let v510 : BitVec 32 := Scalar.addi v504 v503
  let v511 : BitVec 32 := Scalar.select v509 v510 v504
  let v512 : Index := Scalar.indexCast v511
  ![v512.toNat]
def k0_off13 (v513 : BitVec 32) : Fin 2 → Nat :=
  let c256_i32_532 : BitVec 32 := 256#32
  let v514 : BitVec 32 := Scalar.muli v513 c256_i32_532
  let v515 : Index := Scalar.indexCast v514
  let c0_533 : Index := 0#32
  ![v515.toNat, 0]

def k0_chk8 (v513 : BitVec 32) : Prop :=
  (∀ a, (k0_off13 v513) a + S256x256.size a ≤ S4096x256.size a)
theorem k0_off13_inb : ∀ (v513 : BitVec 32) (k0_hw8 : k0_chk8 v513), ∀ a, (k0_off13 v513) a + S256x256.size a ≤ S4096x256.size a := fun v513 k0_hw8 => k0_hw8

def k0_off14 (v4 : BitVec 32) : Fin 1 → Nat :=
  let c3_i32_537 : BitVec 32 := 3#32
  let v521 : BitVec 32 := Scalar.addi v4 c3_i32_537
  let c16_i32_538 : BitVec 32 := 16#32
  let c0_i32_539 : BitVec 32 := 0#32
  let v522 : BitVec 1 := Scalar.cmpi .eq c16_i32_538 c0_i32_539
  let c1_i32_540 : BitVec 32 := 1#32
  let v523 : BitVec 32 := Scalar.select v522 c1_i32_540 c16_i32_538
  let v524 : BitVec 32 := Scalar.remsi v521 v523
  let c0_i32_542 : BitVec 32 := 0#32
  let v526 : BitVec 1 := Scalar.cmpi .slt v524 c0_i32_542
  let c0_i32_543 : BitVec 32 := 0#32
  let v527 : BitVec 1 := Scalar.cmpi .slt v523 c0_i32_543
  let v528 : BitVec 1 := Scalar.xori v526 v527
  let c0_i32_541 : BitVec 32 := 0#32
  let v525 : BitVec 1 := Scalar.cmpi .ne v524 c0_i32_541
  let v529 : BitVec 1 := Scalar.andi v528 v525
  let v530 : BitVec 32 := Scalar.addi v524 v523
  let v531 : BitVec 32 := Scalar.select v529 v530 v524
  let v532 : Index := Scalar.indexCast v531
  ![v532.toNat]
def k0_off15 (v533 : BitVec 32) : Fin 2 → Nat :=
  let c256_i32_544 : BitVec 32 := 256#32
  let v534 : BitVec 32 := Scalar.muli v533 c256_i32_544
  let v535 : Index := Scalar.indexCast v534
  let c0_545 : Index := 0#32
  ![v535.toNat, 0]

def k0_chk9 (v533 : BitVec 32) : Prop :=
  (∀ a, (k0_off15 v533) a + S256x256.size a ≤ S4096x256.size a)
theorem k0_off15_inb : ∀ (v533 : BitVec 32) (k0_hw9 : k0_chk9 v533), ∀ a, (k0_off15 v533) a + S256x256.size a ≤ S4096x256.size a := fun v533 k0_hw9 => k0_hw9

def k0_dev19 (v17 : BitVec 32) : Nat :=
  let c0_i32_586 : BitVec 32 := 0#32
  let c1_i32_585 : BitVec 32 := 1#32
  let v564 : BitVec 32 := Scalar.muli v17 c1_i32_585
  let v565 : BitVec 32 := Scalar.addi c0_i32_586 v564
  v565.toNat
def k0_dev20 (v31 : BitVec 32) : Nat :=
  let c0_i32_629 : BitVec 32 := 0#32
  let c1_i32_628 : BitVec 32 := 1#32
  let v597 : BitVec 32 := Scalar.muli v31 c1_i32_628
  let v598 : BitVec 32 := Scalar.addi c0_i32_629 v597
  v598.toNat
def k0_dev21 (v17 : BitVec 32) : Nat :=
  let c0_i32_671 : BitVec 32 := 0#32
  let c1_i32_670 : BitVec 32 := 1#32
  let v630 : BitVec 32 := Scalar.muli v17 c1_i32_670
  let v631 : BitVec 32 := Scalar.addi c0_i32_671 v630
  v631.toNat
def k0_dev22 (v31 : BitVec 32) : Nat :=
  let c0_i32_714 : BitVec 32 := 0#32
  let c1_i32_713 : BitVec 32 := 1#32
  let v663 : BitVec 32 := Scalar.muli v31 c1_i32_713
  let v664 : BitVec 32 := Scalar.addi c0_i32_714 v663
  v664.toNat
def k0_dev23 (v17 : BitVec 32) : Nat :=
  let c0_i32_756 : BitVec 32 := 0#32
  let c1_i32_755 : BitVec 32 := 1#32
  let v696 : BitVec 32 := Scalar.muli v17 c1_i32_755
  let v697 : BitVec 32 := Scalar.addi c0_i32_756 v696
  v697.toNat
def k0_dev24 (v31 : BitVec 32) : Nat :=
  let c0_i32_799 : BitVec 32 := 0#32
  let c1_i32_798 : BitVec 32 := 1#32
  let v729 : BitVec 32 := Scalar.muli v31 c1_i32_798
  let v730 : BitVec 32 := Scalar.addi c0_i32_799 v729
  v730.toNat
def k0_dev25 (v17 : BitVec 32) : Nat :=
  let c0_i32_841 : BitVec 32 := 0#32
  let c1_i32_840 : BitVec 32 := 1#32
  let v762 : BitVec 32 := Scalar.muli v17 c1_i32_840
  let v763 : BitVec 32 := Scalar.addi c0_i32_841 v762
  v763.toNat
def k0_dev26 (v31 : BitVec 32) : Nat :=
  let c0_i32_884 : BitVec 32 := 0#32
  let c1_i32_883 : BitVec 32 := 1#32
  let v795 : BitVec 32 := Scalar.muli v31 c1_i32_883
  let v796 : BitVec 32 := Scalar.addi c0_i32_884 v795
  v796.toNat
def k0_off16 (v4 : BitVec 32) : Fin 1 → Nat :=
  let c12_i32 : BitVec 32 := 12#32
  let v805 : BitVec 32 := Scalar.addi v4 c12_i32
  let c16_i32_889 : BitVec 32 := 16#32
  let c0_i32_890 : BitVec 32 := 0#32
  let v806 : BitVec 1 := Scalar.cmpi .eq c16_i32_889 c0_i32_890
  let c1_i32_891 : BitVec 32 := 1#32
  let v807 : BitVec 32 := Scalar.select v806 c1_i32_891 c16_i32_889
  let v808 : BitVec 32 := Scalar.remsi v805 v807
  let c0_i32_893 : BitVec 32 := 0#32
  let v810 : BitVec 1 := Scalar.cmpi .slt v808 c0_i32_893
  let c0_i32_894 : BitVec 32 := 0#32
  let v811 : BitVec 1 := Scalar.cmpi .slt v807 c0_i32_894
  let v812 : BitVec 1 := Scalar.xori v810 v811
  let c0_i32_892 : BitVec 32 := 0#32
  let v809 : BitVec 1 := Scalar.cmpi .ne v808 c0_i32_892
  let v813 : BitVec 1 := Scalar.andi v812 v809
  let v814 : BitVec 32 := Scalar.addi v808 v807
  let v815 : BitVec 32 := Scalar.select v813 v814 v808
  let v816 : Index := Scalar.indexCast v815
  ![v816.toNat]
def k0_off17 (v817 : BitVec 32) : Fin 2 → Nat :=
  let c256_i32_895 : BitVec 32 := 256#32
  let v818 : BitVec 32 := Scalar.muli v817 c256_i32_895
  let v819 : Index := Scalar.indexCast v818
  let c0_896 : Index := 0#32
  ![v819.toNat, 0]

def k0_chk10 (v817 : BitVec 32) : Prop :=
  (∀ a, (k0_off17 v817) a + S256x256.size a ≤ S4096x256.size a)
theorem k0_off17_inb : ∀ (v817 : BitVec 32) (k0_hw10 : k0_chk10 v817), ∀ a, (k0_off17 v817) a + S256x256.size a ≤ S4096x256.size a := fun v817 k0_hw10 => k0_hw10

def k0_off18 (v4 : BitVec 32) : Fin 1 → Nat :=
  let c4_i32_900 : BitVec 32 := 4#32
  let v825 : BitVec 32 := Scalar.addi v4 c4_i32_900
  let c16_i32_901 : BitVec 32 := 16#32
  let c0_i32_902 : BitVec 32 := 0#32
  let v826 : BitVec 1 := Scalar.cmpi .eq c16_i32_901 c0_i32_902
  let c1_i32_903 : BitVec 32 := 1#32
  let v827 : BitVec 32 := Scalar.select v826 c1_i32_903 c16_i32_901
  let v828 : BitVec 32 := Scalar.remsi v825 v827
  let c0_i32_905 : BitVec 32 := 0#32
  let v830 : BitVec 1 := Scalar.cmpi .slt v828 c0_i32_905
  let c0_i32_906 : BitVec 32 := 0#32
  let v831 : BitVec 1 := Scalar.cmpi .slt v827 c0_i32_906
  let v832 : BitVec 1 := Scalar.xori v830 v831
  let c0_i32_904 : BitVec 32 := 0#32
  let v829 : BitVec 1 := Scalar.cmpi .ne v828 c0_i32_904
  let v833 : BitVec 1 := Scalar.andi v832 v829
  let v834 : BitVec 32 := Scalar.addi v828 v827
  let v835 : BitVec 32 := Scalar.select v833 v834 v828
  let v836 : Index := Scalar.indexCast v835
  ![v836.toNat]
def k0_off19 (v837 : BitVec 32) : Fin 2 → Nat :=
  let c256_i32_907 : BitVec 32 := 256#32
  let v838 : BitVec 32 := Scalar.muli v837 c256_i32_907
  let v839 : Index := Scalar.indexCast v838
  let c0_908 : Index := 0#32
  ![v839.toNat, 0]

def k0_chk11 (v837 : BitVec 32) : Prop :=
  (∀ a, (k0_off19 v837) a + S256x256.size a ≤ S4096x256.size a)
theorem k0_off19_inb : ∀ (v837 : BitVec 32) (k0_hw11 : k0_chk11 v837), ∀ a, (k0_off19 v837) a + S256x256.size a ≤ S4096x256.size a := fun v837 k0_hw11 => k0_hw11

def k0_dev27 (v17 : BitVec 32) : Nat :=
  let c0_i32_950 : BitVec 32 := 0#32
  let c1_i32_949 : BitVec 32 := 1#32
  let v868 : BitVec 32 := Scalar.muli v17 c1_i32_949
  let v869 : BitVec 32 := Scalar.addi c0_i32_950 v868
  v869.toNat
def k0_dev28 (v31 : BitVec 32) : Nat :=
  let c0_i32_993 : BitVec 32 := 0#32
  let c1_i32_992 : BitVec 32 := 1#32
  let v901 : BitVec 32 := Scalar.muli v31 c1_i32_992
  let v902 : BitVec 32 := Scalar.addi c0_i32_993 v901
  v902.toNat
def k0_dev29 (v17 : BitVec 32) : Nat :=
  let c0_i32_1036 : BitVec 32 := 0#32
  let c1_i32_1035 : BitVec 32 := 1#32
  let v934 : BitVec 32 := Scalar.muli v17 c1_i32_1035
  let v935 : BitVec 32 := Scalar.addi c0_i32_1036 v934
  v935.toNat
def k0_dev30 (v31 : BitVec 32) : Nat :=
  let c0_i32_1079 : BitVec 32 := 0#32
  let c1_i32_1078 : BitVec 32 := 1#32
  let v967 : BitVec 32 := Scalar.muli v31 c1_i32_1078
  let v968 : BitVec 32 := Scalar.addi c0_i32_1079 v967
  v968.toNat
def k0_dev31 (v17 : BitVec 32) : Nat :=
  let c0_i32_1122 : BitVec 32 := 0#32
  let c1_i32_1121 : BitVec 32 := 1#32
  let v1000 : BitVec 32 := Scalar.muli v17 c1_i32_1121
  let v1001 : BitVec 32 := Scalar.addi c0_i32_1122 v1000
  v1001.toNat
def k0_dev32 (v31 : BitVec 32) : Nat :=
  let c0_i32_1165 : BitVec 32 := 0#32
  let c1_i32_1164 : BitVec 32 := 1#32
  let v1033 : BitVec 32 := Scalar.muli v31 c1_i32_1164
  let v1034 : BitVec 32 := Scalar.addi c0_i32_1165 v1033
  v1034.toNat
def k0_dev33 (v17 : BitVec 32) : Nat :=
  let c0_i32_1208 : BitVec 32 := 0#32
  let c1_i32_1207 : BitVec 32 := 1#32
  let v1066 : BitVec 32 := Scalar.muli v17 c1_i32_1207
  let v1067 : BitVec 32 := Scalar.addi c0_i32_1208 v1066
  v1067.toNat
def k0_dev34 (v31 : BitVec 32) : Nat :=
  let c0_i32_1251 : BitVec 32 := 0#32
  let c1_i32_1250 : BitVec 32 := 1#32
  let v1099 : BitVec 32 := Scalar.muli v31 c1_i32_1250
  let v1100 : BitVec 32 := Scalar.addi c0_i32_1251 v1099
  v1100.toNat
def k0_off20 (v4 : BitVec 32) : Fin 1 → Nat :=
  let c11_i32_1256 : BitVec 32 := 11#32
  let v1109 : BitVec 32 := Scalar.addi v4 c11_i32_1256
  let c16_i32_1257 : BitVec 32 := 16#32
  let c0_i32_1258 : BitVec 32 := 0#32
  let v1110 : BitVec 1 := Scalar.cmpi .eq c16_i32_1257 c0_i32_1258
  let c1_i32_1259 : BitVec 32 := 1#32
  let v1111 : BitVec 32 := Scalar.select v1110 c1_i32_1259 c16_i32_1257
  let v1112 : BitVec 32 := Scalar.remsi v1109 v1111
  let c0_i32_1261 : BitVec 32 := 0#32
  let v1114 : BitVec 1 := Scalar.cmpi .slt v1112 c0_i32_1261
  let c0_i32_1262 : BitVec 32 := 0#32
  let v1115 : BitVec 1 := Scalar.cmpi .slt v1111 c0_i32_1262
  let v1116 : BitVec 1 := Scalar.xori v1114 v1115
  let c0_i32_1260 : BitVec 32 := 0#32
  let v1113 : BitVec 1 := Scalar.cmpi .ne v1112 c0_i32_1260
  let v1117 : BitVec 1 := Scalar.andi v1116 v1113
  let v1118 : BitVec 32 := Scalar.addi v1112 v1111
  let v1119 : BitVec 32 := Scalar.select v1117 v1118 v1112
  let v1120 : Index := Scalar.indexCast v1119
  ![v1120.toNat]
def k0_off21 (v1121 : BitVec 32) : Fin 2 → Nat :=
  let c256_i32_1263 : BitVec 32 := 256#32
  let v1122 : BitVec 32 := Scalar.muli v1121 c256_i32_1263
  let v1123 : Index := Scalar.indexCast v1122
  let c0_1264 : Index := 0#32
  ![v1123.toNat, 0]

def k0_chk12 (v1121 : BitVec 32) : Prop :=
  (∀ a, (k0_off21 v1121) a + S256x256.size a ≤ S4096x256.size a)
theorem k0_off21_inb : ∀ (v1121 : BitVec 32) (k0_hw12 : k0_chk12 v1121), ∀ a, (k0_off21 v1121) a + S256x256.size a ≤ S4096x256.size a := fun v1121 k0_hw12 => k0_hw12

def k0_off22 (v4 : BitVec 32) : Fin 1 → Nat :=
  let c5_i32_1268 : BitVec 32 := 5#32
  let v1129 : BitVec 32 := Scalar.addi v4 c5_i32_1268
  let c16_i32_1269 : BitVec 32 := 16#32
  let c0_i32_1270 : BitVec 32 := 0#32
  let v1130 : BitVec 1 := Scalar.cmpi .eq c16_i32_1269 c0_i32_1270
  let c1_i32_1271 : BitVec 32 := 1#32
  let v1131 : BitVec 32 := Scalar.select v1130 c1_i32_1271 c16_i32_1269
  let v1132 : BitVec 32 := Scalar.remsi v1129 v1131
  let c0_i32_1273 : BitVec 32 := 0#32
  let v1134 : BitVec 1 := Scalar.cmpi .slt v1132 c0_i32_1273
  let c0_i32_1274 : BitVec 32 := 0#32
  let v1135 : BitVec 1 := Scalar.cmpi .slt v1131 c0_i32_1274
  let v1136 : BitVec 1 := Scalar.xori v1134 v1135
  let c0_i32_1272 : BitVec 32 := 0#32
  let v1133 : BitVec 1 := Scalar.cmpi .ne v1132 c0_i32_1272
  let v1137 : BitVec 1 := Scalar.andi v1136 v1133
  let v1138 : BitVec 32 := Scalar.addi v1132 v1131
  let v1139 : BitVec 32 := Scalar.select v1137 v1138 v1132
  let v1140 : Index := Scalar.indexCast v1139
  ![v1140.toNat]
def k0_off23 (v1141 : BitVec 32) : Fin 2 → Nat :=
  let c256_i32_1275 : BitVec 32 := 256#32
  let v1142 : BitVec 32 := Scalar.muli v1141 c256_i32_1275
  let v1143 : Index := Scalar.indexCast v1142
  let c0_1276 : Index := 0#32
  ![v1143.toNat, 0]

def k0_chk13 (v1141 : BitVec 32) : Prop :=
  (∀ a, (k0_off23 v1141) a + S256x256.size a ≤ S4096x256.size a)
theorem k0_off23_inb : ∀ (v1141 : BitVec 32) (k0_hw13 : k0_chk13 v1141), ∀ a, (k0_off23 v1141) a + S256x256.size a ≤ S4096x256.size a := fun v1141 k0_hw13 => k0_hw13

def k0_dev35 (v17 : BitVec 32) : Nat :=
  let c0_i32_1317 : BitVec 32 := 0#32
  let c1_i32_1316 : BitVec 32 := 1#32
  let v1172 : BitVec 32 := Scalar.muli v17 c1_i32_1316
  let v1173 : BitVec 32 := Scalar.addi c0_i32_1317 v1172
  v1173.toNat
def k0_dev36 (v31 : BitVec 32) : Nat :=
  let c0_i32_1360 : BitVec 32 := 0#32
  let c1_i32_1359 : BitVec 32 := 1#32
  let v1205 : BitVec 32 := Scalar.muli v31 c1_i32_1359
  let v1206 : BitVec 32 := Scalar.addi c0_i32_1360 v1205
  v1206.toNat
def k0_dev37 (v17 : BitVec 32) : Nat :=
  let c0_i32_1402 : BitVec 32 := 0#32
  let c1_i32_1401 : BitVec 32 := 1#32
  let v1238 : BitVec 32 := Scalar.muli v17 c1_i32_1401
  let v1239 : BitVec 32 := Scalar.addi c0_i32_1402 v1238
  v1239.toNat
def k0_dev38 (v31 : BitVec 32) : Nat :=
  let c0_i32_1445 : BitVec 32 := 0#32
  let c1_i32_1444 : BitVec 32 := 1#32
  let v1271 : BitVec 32 := Scalar.muli v31 c1_i32_1444
  let v1272 : BitVec 32 := Scalar.addi c0_i32_1445 v1271
  v1272.toNat
def k0_dev39 (v17 : BitVec 32) : Nat :=
  let c0_i32_1487 : BitVec 32 := 0#32
  let c1_i32_1486 : BitVec 32 := 1#32
  let v1304 : BitVec 32 := Scalar.muli v17 c1_i32_1486
  let v1305 : BitVec 32 := Scalar.addi c0_i32_1487 v1304
  v1305.toNat
def k0_dev40 (v31 : BitVec 32) : Nat :=
  let c0_i32_1530 : BitVec 32 := 0#32
  let c1_i32_1529 : BitVec 32 := 1#32
  let v1337 : BitVec 32 := Scalar.muli v31 c1_i32_1529
  let v1338 : BitVec 32 := Scalar.addi c0_i32_1530 v1337
  v1338.toNat
def k0_dev41 (v17 : BitVec 32) : Nat :=
  let c0_i32_1572 : BitVec 32 := 0#32
  let c1_i32_1571 : BitVec 32 := 1#32
  let v1370 : BitVec 32 := Scalar.muli v17 c1_i32_1571
  let v1371 : BitVec 32 := Scalar.addi c0_i32_1572 v1370
  v1371.toNat
def k0_dev42 (v31 : BitVec 32) : Nat :=
  let c0_i32_1615 : BitVec 32 := 0#32
  let c1_i32_1614 : BitVec 32 := 1#32
  let v1403 : BitVec 32 := Scalar.muli v31 c1_i32_1614
  let v1404 : BitVec 32 := Scalar.addi c0_i32_1615 v1403
  v1404.toNat
def k0_off24 (v4 : BitVec 32) : Fin 1 → Nat :=
  let c10_i32_1620 : BitVec 32 := 10#32
  let v1413 : BitVec 32 := Scalar.addi v4 c10_i32_1620
  let c16_i32_1621 : BitVec 32 := 16#32
  let c0_i32_1622 : BitVec 32 := 0#32
  let v1414 : BitVec 1 := Scalar.cmpi .eq c16_i32_1621 c0_i32_1622
  let c1_i32_1623 : BitVec 32 := 1#32
  let v1415 : BitVec 32 := Scalar.select v1414 c1_i32_1623 c16_i32_1621
  let v1416 : BitVec 32 := Scalar.remsi v1413 v1415
  let c0_i32_1625 : BitVec 32 := 0#32
  let v1418 : BitVec 1 := Scalar.cmpi .slt v1416 c0_i32_1625
  let c0_i32_1626 : BitVec 32 := 0#32
  let v1419 : BitVec 1 := Scalar.cmpi .slt v1415 c0_i32_1626
  let v1420 : BitVec 1 := Scalar.xori v1418 v1419
  let c0_i32_1624 : BitVec 32 := 0#32
  let v1417 : BitVec 1 := Scalar.cmpi .ne v1416 c0_i32_1624
  let v1421 : BitVec 1 := Scalar.andi v1420 v1417
  let v1422 : BitVec 32 := Scalar.addi v1416 v1415
  let v1423 : BitVec 32 := Scalar.select v1421 v1422 v1416
  let v1424 : Index := Scalar.indexCast v1423
  ![v1424.toNat]
def k0_off25 (v1425 : BitVec 32) : Fin 2 → Nat :=
  let c256_i32_1627 : BitVec 32 := 256#32
  let v1426 : BitVec 32 := Scalar.muli v1425 c256_i32_1627
  let v1427 : Index := Scalar.indexCast v1426
  let c0_1628 : Index := 0#32
  ![v1427.toNat, 0]

def k0_chk14 (v1425 : BitVec 32) : Prop :=
  (∀ a, (k0_off25 v1425) a + S256x256.size a ≤ S4096x256.size a)
theorem k0_off25_inb : ∀ (v1425 : BitVec 32) (k0_hw14 : k0_chk14 v1425), ∀ a, (k0_off25 v1425) a + S256x256.size a ≤ S4096x256.size a := fun v1425 k0_hw14 => k0_hw14

def k0_off26 (v4 : BitVec 32) : Fin 1 → Nat :=
  let c6_i32_1632 : BitVec 32 := 6#32
  let v1433 : BitVec 32 := Scalar.addi v4 c6_i32_1632
  let c16_i32_1633 : BitVec 32 := 16#32
  let c0_i32_1634 : BitVec 32 := 0#32
  let v1434 : BitVec 1 := Scalar.cmpi .eq c16_i32_1633 c0_i32_1634
  let c1_i32_1635 : BitVec 32 := 1#32
  let v1435 : BitVec 32 := Scalar.select v1434 c1_i32_1635 c16_i32_1633
  let v1436 : BitVec 32 := Scalar.remsi v1433 v1435
  let c0_i32_1637 : BitVec 32 := 0#32
  let v1438 : BitVec 1 := Scalar.cmpi .slt v1436 c0_i32_1637
  let c0_i32_1638 : BitVec 32 := 0#32
  let v1439 : BitVec 1 := Scalar.cmpi .slt v1435 c0_i32_1638
  let v1440 : BitVec 1 := Scalar.xori v1438 v1439
  let c0_i32_1636 : BitVec 32 := 0#32
  let v1437 : BitVec 1 := Scalar.cmpi .ne v1436 c0_i32_1636
  let v1441 : BitVec 1 := Scalar.andi v1440 v1437
  let v1442 : BitVec 32 := Scalar.addi v1436 v1435
  let v1443 : BitVec 32 := Scalar.select v1441 v1442 v1436
  let v1444 : Index := Scalar.indexCast v1443
  ![v1444.toNat]
def k0_off27 (v1445 : BitVec 32) : Fin 2 → Nat :=
  let c256_i32_1639 : BitVec 32 := 256#32
  let v1446 : BitVec 32 := Scalar.muli v1445 c256_i32_1639
  let v1447 : Index := Scalar.indexCast v1446
  let c0_1640 : Index := 0#32
  ![v1447.toNat, 0]

def k0_chk15 (v1445 : BitVec 32) : Prop :=
  (∀ a, (k0_off27 v1445) a + S256x256.size a ≤ S4096x256.size a)
theorem k0_off27_inb : ∀ (v1445 : BitVec 32) (k0_hw15 : k0_chk15 v1445), ∀ a, (k0_off27 v1445) a + S256x256.size a ≤ S4096x256.size a := fun v1445 k0_hw15 => k0_hw15

def k0_dev43 (v17 : BitVec 32) : Nat :=
  let c0_i32_1680 : BitVec 32 := 0#32
  let c1_i32_1679 : BitVec 32 := 1#32
  let v1476 : BitVec 32 := Scalar.muli v17 c1_i32_1679
  let v1477 : BitVec 32 := Scalar.addi c0_i32_1680 v1476
  v1477.toNat
def k0_dev44 (v31 : BitVec 32) : Nat :=
  let c0_i32_1723 : BitVec 32 := 0#32
  let c1_i32_1722 : BitVec 32 := 1#32
  let v1509 : BitVec 32 := Scalar.muli v31 c1_i32_1722
  let v1510 : BitVec 32 := Scalar.addi c0_i32_1723 v1509
  v1510.toNat
def k0_dev45 (v17 : BitVec 32) : Nat :=
  let c0_i32_1765 : BitVec 32 := 0#32
  let c1_i32_1764 : BitVec 32 := 1#32
  let v1542 : BitVec 32 := Scalar.muli v17 c1_i32_1764
  let v1543 : BitVec 32 := Scalar.addi c0_i32_1765 v1542
  v1543.toNat
def k0_dev46 (v31 : BitVec 32) : Nat :=
  let c0_i32_1808 : BitVec 32 := 0#32
  let c1_i32_1807 : BitVec 32 := 1#32
  let v1575 : BitVec 32 := Scalar.muli v31 c1_i32_1807
  let v1576 : BitVec 32 := Scalar.addi c0_i32_1808 v1575
  v1576.toNat
def k0_dev47 (v17 : BitVec 32) : Nat :=
  let c0_i32_1850 : BitVec 32 := 0#32
  let c1_i32_1849 : BitVec 32 := 1#32
  let v1608 : BitVec 32 := Scalar.muli v17 c1_i32_1849
  let v1609 : BitVec 32 := Scalar.addi c0_i32_1850 v1608
  v1609.toNat
def k0_dev48 (v31 : BitVec 32) : Nat :=
  let c0_i32_1893 : BitVec 32 := 0#32
  let c1_i32_1892 : BitVec 32 := 1#32
  let v1641 : BitVec 32 := Scalar.muli v31 c1_i32_1892
  let v1642 : BitVec 32 := Scalar.addi c0_i32_1893 v1641
  v1642.toNat
def k0_dev49 (v17 : BitVec 32) : Nat :=
  let c0_i32_1935 : BitVec 32 := 0#32
  let c1_i32_1934 : BitVec 32 := 1#32
  let v1674 : BitVec 32 := Scalar.muli v17 c1_i32_1934
  let v1675 : BitVec 32 := Scalar.addi c0_i32_1935 v1674
  v1675.toNat
def k0_dev50 (v31 : BitVec 32) : Nat :=
  let c0_i32_1978 : BitVec 32 := 0#32
  let c1_i32_1977 : BitVec 32 := 1#32
  let v1707 : BitVec 32 := Scalar.muli v31 c1_i32_1977
  let v1708 : BitVec 32 := Scalar.addi c0_i32_1978 v1707
  v1708.toNat
def k0_off28 (v4 : BitVec 32) : Fin 1 → Nat :=
  let c9_i32_1983 : BitVec 32 := 9#32
  let v1717 : BitVec 32 := Scalar.addi v4 c9_i32_1983
  let c16_i32_1984 : BitVec 32 := 16#32
  let c0_i32_1985 : BitVec 32 := 0#32
  let v1718 : BitVec 1 := Scalar.cmpi .eq c16_i32_1984 c0_i32_1985
  let c1_i32_1986 : BitVec 32 := 1#32
  let v1719 : BitVec 32 := Scalar.select v1718 c1_i32_1986 c16_i32_1984
  let v1720 : BitVec 32 := Scalar.remsi v1717 v1719
  let c0_i32_1988 : BitVec 32 := 0#32
  let v1722 : BitVec 1 := Scalar.cmpi .slt v1720 c0_i32_1988
  let c0_i32_1989 : BitVec 32 := 0#32
  let v1723 : BitVec 1 := Scalar.cmpi .slt v1719 c0_i32_1989
  let v1724 : BitVec 1 := Scalar.xori v1722 v1723
  let c0_i32_1987 : BitVec 32 := 0#32
  let v1721 : BitVec 1 := Scalar.cmpi .ne v1720 c0_i32_1987
  let v1725 : BitVec 1 := Scalar.andi v1724 v1721
  let v1726 : BitVec 32 := Scalar.addi v1720 v1719
  let v1727 : BitVec 32 := Scalar.select v1725 v1726 v1720
  let v1728 : Index := Scalar.indexCast v1727
  ![v1728.toNat]
def k0_off29 (v1729 : BitVec 32) : Fin 2 → Nat :=
  let c256_i32_1990 : BitVec 32 := 256#32
  let v1730 : BitVec 32 := Scalar.muli v1729 c256_i32_1990
  let v1731 : Index := Scalar.indexCast v1730
  let c0_1991 : Index := 0#32
  ![v1731.toNat, 0]

def k0_chk16 (v1729 : BitVec 32) : Prop :=
  (∀ a, (k0_off29 v1729) a + S256x256.size a ≤ S4096x256.size a)
theorem k0_off29_inb : ∀ (v1729 : BitVec 32) (k0_hw16 : k0_chk16 v1729), ∀ a, (k0_off29 v1729) a + S256x256.size a ≤ S4096x256.size a := fun v1729 k0_hw16 => k0_hw16

def k0_off30 (v4 : BitVec 32) : Fin 1 → Nat :=
  let c7_i32_1995 : BitVec 32 := 7#32
  let v1737 : BitVec 32 := Scalar.addi v4 c7_i32_1995
  let c16_i32_1996 : BitVec 32 := 16#32
  let c0_i32_1997 : BitVec 32 := 0#32
  let v1738 : BitVec 1 := Scalar.cmpi .eq c16_i32_1996 c0_i32_1997
  let c1_i32_1998 : BitVec 32 := 1#32
  let v1739 : BitVec 32 := Scalar.select v1738 c1_i32_1998 c16_i32_1996
  let v1740 : BitVec 32 := Scalar.remsi v1737 v1739
  let c0_i32_2000 : BitVec 32 := 0#32
  let v1742 : BitVec 1 := Scalar.cmpi .slt v1740 c0_i32_2000
  let c0_i32_2001 : BitVec 32 := 0#32
  let v1743 : BitVec 1 := Scalar.cmpi .slt v1739 c0_i32_2001
  let v1744 : BitVec 1 := Scalar.xori v1742 v1743
  let c0_i32_1999 : BitVec 32 := 0#32
  let v1741 : BitVec 1 := Scalar.cmpi .ne v1740 c0_i32_1999
  let v1745 : BitVec 1 := Scalar.andi v1744 v1741
  let v1746 : BitVec 32 := Scalar.addi v1740 v1739
  let v1747 : BitVec 32 := Scalar.select v1745 v1746 v1740
  let v1748 : Index := Scalar.indexCast v1747
  ![v1748.toNat]
def k0_off31 (v1749 : BitVec 32) : Fin 2 → Nat :=
  let c256_i32_2002 : BitVec 32 := 256#32
  let v1750 : BitVec 32 := Scalar.muli v1749 c256_i32_2002
  let v1751 : Index := Scalar.indexCast v1750
  let c0_2003 : Index := 0#32
  ![v1751.toNat, 0]

def k0_chk17 (v1749 : BitVec 32) : Prop :=
  (∀ a, (k0_off31 v1749) a + S256x256.size a ≤ S4096x256.size a)
theorem k0_off31_inb : ∀ (v1749 : BitVec 32) (k0_hw17 : k0_chk17 v1749), ∀ a, (k0_off31 v1749) a + S256x256.size a ≤ S4096x256.size a := fun v1749 k0_hw17 => k0_hw17

def k0_dev51 (v17 : BitVec 32) : Nat :=
  let c0_i32_2043 : BitVec 32 := 0#32
  let c1_i32_2042 : BitVec 32 := 1#32
  let v1780 : BitVec 32 := Scalar.muli v17 c1_i32_2042
  let v1781 : BitVec 32 := Scalar.addi c0_i32_2043 v1780
  v1781.toNat
def k0_dev52 (v31 : BitVec 32) : Nat :=
  let c0_i32_2086 : BitVec 32 := 0#32
  let c1_i32_2085 : BitVec 32 := 1#32
  let v1813 : BitVec 32 := Scalar.muli v31 c1_i32_2085
  let v1814 : BitVec 32 := Scalar.addi c0_i32_2086 v1813
  v1814.toNat
def k0_dev53 (v17 : BitVec 32) : Nat :=
  let c0_i32_2128 : BitVec 32 := 0#32
  let c1_i32_2127 : BitVec 32 := 1#32
  let v1846 : BitVec 32 := Scalar.muli v17 c1_i32_2127
  let v1847 : BitVec 32 := Scalar.addi c0_i32_2128 v1846
  v1847.toNat
def k0_dev54 (v31 : BitVec 32) : Nat :=
  let c0_i32_2171 : BitVec 32 := 0#32
  let c1_i32_2170 : BitVec 32 := 1#32
  let v1879 : BitVec 32 := Scalar.muli v31 c1_i32_2170
  let v1880 : BitVec 32 := Scalar.addi c0_i32_2171 v1879
  v1880.toNat
def k0_dev55 (v17 : BitVec 32) : Nat :=
  let c0_i32_2213 : BitVec 32 := 0#32
  let c1_i32_2212 : BitVec 32 := 1#32
  let v1912 : BitVec 32 := Scalar.muli v17 c1_i32_2212
  let v1913 : BitVec 32 := Scalar.addi c0_i32_2213 v1912
  v1913.toNat
def k0_dev56 (v31 : BitVec 32) : Nat :=
  let c0_i32_2256 : BitVec 32 := 0#32
  let c1_i32_2255 : BitVec 32 := 1#32
  let v1945 : BitVec 32 := Scalar.muli v31 c1_i32_2255
  let v1946 : BitVec 32 := Scalar.addi c0_i32_2256 v1945
  v1946.toNat
def k0_dev57 (v17 : BitVec 32) : Nat :=
  let c0_i32_2298 : BitVec 32 := 0#32
  let c1_i32_2297 : BitVec 32 := 1#32
  let v1978 : BitVec 32 := Scalar.muli v17 c1_i32_2297
  let v1979 : BitVec 32 := Scalar.addi c0_i32_2298 v1978
  v1979.toNat
def k0_dev58 (v31 : BitVec 32) : Nat :=
  let c0_i32_2341 : BitVec 32 := 0#32
  let c1_i32_2340 : BitVec 32 := 1#32
  let v2011 : BitVec 32 := Scalar.muli v31 c1_i32_2340
  let v2012 : BitVec 32 := Scalar.addi c0_i32_2341 v2011
  v2012.toNat
def k0_off32 (v4 : BitVec 32) : Fin 1 → Nat :=
  let c8_i32_2346 : BitVec 32 := 8#32
  let v2021 : BitVec 32 := Scalar.addi v4 c8_i32_2346
  let c16_i32_2347 : BitVec 32 := 16#32
  let c0_i32_2348 : BitVec 32 := 0#32
  let v2022 : BitVec 1 := Scalar.cmpi .eq c16_i32_2347 c0_i32_2348
  let c1_i32_2349 : BitVec 32 := 1#32
  let v2023 : BitVec 32 := Scalar.select v2022 c1_i32_2349 c16_i32_2347
  let v2024 : BitVec 32 := Scalar.remsi v2021 v2023
  let c0_i32_2351 : BitVec 32 := 0#32
  let v2026 : BitVec 1 := Scalar.cmpi .slt v2024 c0_i32_2351
  let c0_i32_2352 : BitVec 32 := 0#32
  let v2027 : BitVec 1 := Scalar.cmpi .slt v2023 c0_i32_2352
  let v2028 : BitVec 1 := Scalar.xori v2026 v2027
  let c0_i32_2350 : BitVec 32 := 0#32
  let v2025 : BitVec 1 := Scalar.cmpi .ne v2024 c0_i32_2350
  let v2029 : BitVec 1 := Scalar.andi v2028 v2025
  let v2030 : BitVec 32 := Scalar.addi v2024 v2023
  let v2031 : BitVec 32 := Scalar.select v2029 v2030 v2024
  let v2032 : Index := Scalar.indexCast v2031
  ![v2032.toNat]
def k0_off33 (v2033 : BitVec 32) : Fin 2 → Nat :=
  let c256_i32_2353 : BitVec 32 := 256#32
  let v2034 : BitVec 32 := Scalar.muli v2033 c256_i32_2353
  let v2035 : Index := Scalar.indexCast v2034
  let c0_2354 : Index := 0#32
  ![v2035.toNat, 0]

def k0_chk18 (v2033 : BitVec 32) : Prop :=
  (∀ a, (k0_off33 v2033) a + S256x256.size a ≤ S4096x256.size a)
theorem k0_off33_inb : ∀ (v2033 : BitVec 32) (k0_hw18 : k0_chk18 v2033), ∀ a, (k0_off33 v2033) a + S256x256.size a ≤ S4096x256.size a := fun v2033 k0_hw18 => k0_hw18

def k0_off34 (v4 : BitVec 32) : Fin 1 → Nat :=
  let c8_i32_2358 : BitVec 32 := 8#32
  let v2041 : BitVec 32 := Scalar.addi v4 c8_i32_2358
  let c16_i32_2359 : BitVec 32 := 16#32
  let c0_i32_2360 : BitVec 32 := 0#32
  let v2042 : BitVec 1 := Scalar.cmpi .eq c16_i32_2359 c0_i32_2360
  let c1_i32_2361 : BitVec 32 := 1#32
  let v2043 : BitVec 32 := Scalar.select v2042 c1_i32_2361 c16_i32_2359
  let v2044 : BitVec 32 := Scalar.remsi v2041 v2043
  let c0_i32_2363 : BitVec 32 := 0#32
  let v2046 : BitVec 1 := Scalar.cmpi .slt v2044 c0_i32_2363
  let c0_i32_2364 : BitVec 32 := 0#32
  let v2047 : BitVec 1 := Scalar.cmpi .slt v2043 c0_i32_2364
  let v2048 : BitVec 1 := Scalar.xori v2046 v2047
  let c0_i32_2362 : BitVec 32 := 0#32
  let v2045 : BitVec 1 := Scalar.cmpi .ne v2044 c0_i32_2362
  let v2049 : BitVec 1 := Scalar.andi v2048 v2045
  let v2050 : BitVec 32 := Scalar.addi v2044 v2043
  let v2051 : BitVec 32 := Scalar.select v2049 v2050 v2044
  let v2052 : Index := Scalar.indexCast v2051
  ![v2052.toNat]
def k0_off35 (v2053 : BitVec 32) : Fin 2 → Nat :=
  let c256_i32_2365 : BitVec 32 := 256#32
  let v2054 : BitVec 32 := Scalar.muli v2053 c256_i32_2365
  let v2055 : Index := Scalar.indexCast v2054
  let c0_2366 : Index := 0#32
  ![v2055.toNat, 0]

def k0_chk19 (v2053 : BitVec 32) : Prop :=
  (∀ a, (k0_off35 v2053) a + S256x256.size a ≤ S4096x256.size a)
theorem k0_off35_inb : ∀ (v2053 : BitVec 32) (k0_hw19 : k0_chk19 v2053), ∀ a, (k0_off35 v2053) a + S256x256.size a ≤ S4096x256.size a := fun v2053 k0_hw19 => k0_hw19

def k0_dev59 (v17 : BitVec 32) : Nat :=
  let c0_i32_2406 : BitVec 32 := 0#32
  let c1_i32_2405 : BitVec 32 := 1#32
  let v2084 : BitVec 32 := Scalar.muli v17 c1_i32_2405
  let v2085 : BitVec 32 := Scalar.addi c0_i32_2406 v2084
  v2085.toNat
def k0_dev60 (v31 : BitVec 32) : Nat :=
  let c0_i32_2449 : BitVec 32 := 0#32
  let c1_i32_2448 : BitVec 32 := 1#32
  let v2117 : BitVec 32 := Scalar.muli v31 c1_i32_2448
  let v2118 : BitVec 32 := Scalar.addi c0_i32_2449 v2117
  v2118.toNat
def k0_dev61 (v17 : BitVec 32) : Nat :=
  let c0_i32_2491 : BitVec 32 := 0#32
  let c1_i32_2490 : BitVec 32 := 1#32
  let v2150 : BitVec 32 := Scalar.muli v17 c1_i32_2490
  let v2151 : BitVec 32 := Scalar.addi c0_i32_2491 v2150
  v2151.toNat
def k0_dev62 (v31 : BitVec 32) : Nat :=
  let c0_i32_2534 : BitVec 32 := 0#32
  let c1_i32_2533 : BitVec 32 := 1#32
  let v2183 : BitVec 32 := Scalar.muli v31 c1_i32_2533
  let v2184 : BitVec 32 := Scalar.addi c0_i32_2534 v2183
  v2184.toNat
def k0_dev63 (v17 : BitVec 32) : Nat :=
  let c0_i32_2576 : BitVec 32 := 0#32
  let c1_i32_2575 : BitVec 32 := 1#32
  let v2216 : BitVec 32 := Scalar.muli v17 c1_i32_2575
  let v2217 : BitVec 32 := Scalar.addi c0_i32_2576 v2216
  v2217.toNat
def k0_dev64 (v31 : BitVec 32) : Nat :=
  let c0_i32_2619 : BitVec 32 := 0#32
  let c1_i32_2618 : BitVec 32 := 1#32
  let v2249 : BitVec 32 := Scalar.muli v31 c1_i32_2618
  let v2250 : BitVec 32 := Scalar.addi c0_i32_2619 v2249
  v2250.toNat
def k0_dev65 (v17 : BitVec 32) : Nat :=
  let c0_i32_2661 : BitVec 32 := 0#32
  let c1_i32_2660 : BitVec 32 := 1#32
  let v2282 : BitVec 32 := Scalar.muli v17 c1_i32_2660
  let v2283 : BitVec 32 := Scalar.addi c0_i32_2661 v2282
  v2283.toNat
def k0_dev66 (v31 : BitVec 32) : Nat :=
  let c0_i32_2704 : BitVec 32 := 0#32
  let c1_i32_2703 : BitVec 32 := 1#32
  let v2315 : BitVec 32 := Scalar.muli v31 c1_i32_2703
  let v2316 : BitVec 32 := Scalar.addi c0_i32_2704 v2315
  v2316.toNat
def k0_off36 (v4 : BitVec 32) : Fin 1 → Nat :=
  let c7_i32_2709 : BitVec 32 := 7#32
  let v2325 : BitVec 32 := Scalar.addi v4 c7_i32_2709
  let c16_i32_2710 : BitVec 32 := 16#32
  let c0_i32_2711 : BitVec 32 := 0#32
  let v2326 : BitVec 1 := Scalar.cmpi .eq c16_i32_2710 c0_i32_2711
  let c1_i32_2712 : BitVec 32 := 1#32
  let v2327 : BitVec 32 := Scalar.select v2326 c1_i32_2712 c16_i32_2710
  let v2328 : BitVec 32 := Scalar.remsi v2325 v2327
  let c0_i32_2714 : BitVec 32 := 0#32
  let v2330 : BitVec 1 := Scalar.cmpi .slt v2328 c0_i32_2714
  let c0_i32_2715 : BitVec 32 := 0#32
  let v2331 : BitVec 1 := Scalar.cmpi .slt v2327 c0_i32_2715
  let v2332 : BitVec 1 := Scalar.xori v2330 v2331
  let c0_i32_2713 : BitVec 32 := 0#32
  let v2329 : BitVec 1 := Scalar.cmpi .ne v2328 c0_i32_2713
  let v2333 : BitVec 1 := Scalar.andi v2332 v2329
  let v2334 : BitVec 32 := Scalar.addi v2328 v2327
  let v2335 : BitVec 32 := Scalar.select v2333 v2334 v2328
  let v2336 : Index := Scalar.indexCast v2335
  ![v2336.toNat]
def k0_off37 (v2337 : BitVec 32) : Fin 2 → Nat :=
  let c256_i32_2716 : BitVec 32 := 256#32
  let v2338 : BitVec 32 := Scalar.muli v2337 c256_i32_2716
  let v2339 : Index := Scalar.indexCast v2338
  let c0_2717 : Index := 0#32
  ![v2339.toNat, 0]

def k0_chk20 (v2337 : BitVec 32) : Prop :=
  (∀ a, (k0_off37 v2337) a + S256x256.size a ≤ S4096x256.size a)
theorem k0_off37_inb : ∀ (v2337 : BitVec 32) (k0_hw20 : k0_chk20 v2337), ∀ a, (k0_off37 v2337) a + S256x256.size a ≤ S4096x256.size a := fun v2337 k0_hw20 => k0_hw20

def k0_off38 (v4 : BitVec 32) : Fin 1 → Nat :=
  let c9_i32_2721 : BitVec 32 := 9#32
  let v2345 : BitVec 32 := Scalar.addi v4 c9_i32_2721
  let c16_i32_2722 : BitVec 32 := 16#32
  let c0_i32_2723 : BitVec 32 := 0#32
  let v2346 : BitVec 1 := Scalar.cmpi .eq c16_i32_2722 c0_i32_2723
  let c1_i32_2724 : BitVec 32 := 1#32
  let v2347 : BitVec 32 := Scalar.select v2346 c1_i32_2724 c16_i32_2722
  let v2348 : BitVec 32 := Scalar.remsi v2345 v2347
  let c0_i32_2726 : BitVec 32 := 0#32
  let v2350 : BitVec 1 := Scalar.cmpi .slt v2348 c0_i32_2726
  let c0_i32_2727 : BitVec 32 := 0#32
  let v2351 : BitVec 1 := Scalar.cmpi .slt v2347 c0_i32_2727
  let v2352 : BitVec 1 := Scalar.xori v2350 v2351
  let c0_i32_2725 : BitVec 32 := 0#32
  let v2349 : BitVec 1 := Scalar.cmpi .ne v2348 c0_i32_2725
  let v2353 : BitVec 1 := Scalar.andi v2352 v2349
  let v2354 : BitVec 32 := Scalar.addi v2348 v2347
  let v2355 : BitVec 32 := Scalar.select v2353 v2354 v2348
  let v2356 : Index := Scalar.indexCast v2355
  ![v2356.toNat]
def k0_off39 (v2357 : BitVec 32) : Fin 2 → Nat :=
  let c256_i32_2728 : BitVec 32 := 256#32
  let v2358 : BitVec 32 := Scalar.muli v2357 c256_i32_2728
  let v2359 : Index := Scalar.indexCast v2358
  let c0_2729 : Index := 0#32
  ![v2359.toNat, 0]

def k0_chk21 (v2357 : BitVec 32) : Prop :=
  (∀ a, (k0_off39 v2357) a + S256x256.size a ≤ S4096x256.size a)
theorem k0_off39_inb : ∀ (v2357 : BitVec 32) (k0_hw21 : k0_chk21 v2357), ∀ a, (k0_off39 v2357) a + S256x256.size a ≤ S4096x256.size a := fun v2357 k0_hw21 => k0_hw21

def k0_dev67 (v17 : BitVec 32) : Nat :=
  let c0_i32_2769 : BitVec 32 := 0#32
  let c1_i32_2768 : BitVec 32 := 1#32
  let v2388 : BitVec 32 := Scalar.muli v17 c1_i32_2768
  let v2389 : BitVec 32 := Scalar.addi c0_i32_2769 v2388
  v2389.toNat
def k0_dev68 (v31 : BitVec 32) : Nat :=
  let c0_i32_2812 : BitVec 32 := 0#32
  let c1_i32_2811 : BitVec 32 := 1#32
  let v2421 : BitVec 32 := Scalar.muli v31 c1_i32_2811
  let v2422 : BitVec 32 := Scalar.addi c0_i32_2812 v2421
  v2422.toNat
def k0_dev69 (v17 : BitVec 32) : Nat :=
  let c0_i32_2854 : BitVec 32 := 0#32
  let c1_i32_2853 : BitVec 32 := 1#32
  let v2454 : BitVec 32 := Scalar.muli v17 c1_i32_2853
  let v2455 : BitVec 32 := Scalar.addi c0_i32_2854 v2454
  v2455.toNat
def k0_dev70 (v31 : BitVec 32) : Nat :=
  let c0_i32_2897 : BitVec 32 := 0#32
  let c1_i32_2896 : BitVec 32 := 1#32
  let v2487 : BitVec 32 := Scalar.muli v31 c1_i32_2896
  let v2488 : BitVec 32 := Scalar.addi c0_i32_2897 v2487
  v2488.toNat
def k0_dev71 (v17 : BitVec 32) : Nat :=
  let c0_i32_2939 : BitVec 32 := 0#32
  let c1_i32_2938 : BitVec 32 := 1#32
  let v2520 : BitVec 32 := Scalar.muli v17 c1_i32_2938
  let v2521 : BitVec 32 := Scalar.addi c0_i32_2939 v2520
  v2521.toNat
def k0_dev72 (v31 : BitVec 32) : Nat :=
  let c0_i32_2982 : BitVec 32 := 0#32
  let c1_i32_2981 : BitVec 32 := 1#32
  let v2553 : BitVec 32 := Scalar.muli v31 c1_i32_2981
  let v2554 : BitVec 32 := Scalar.addi c0_i32_2982 v2553
  v2554.toNat
def k0_dev73 (v17 : BitVec 32) : Nat :=
  let c0_i32_3024 : BitVec 32 := 0#32
  let c1_i32_3023 : BitVec 32 := 1#32
  let v2586 : BitVec 32 := Scalar.muli v17 c1_i32_3023
  let v2587 : BitVec 32 := Scalar.addi c0_i32_3024 v2586
  v2587.toNat
def k0_dev74 (v31 : BitVec 32) : Nat :=
  let c0_i32_3067 : BitVec 32 := 0#32
  let c1_i32_3066 : BitVec 32 := 1#32
  let v2619 : BitVec 32 := Scalar.muli v31 c1_i32_3066
  let v2620 : BitVec 32 := Scalar.addi c0_i32_3067 v2619
  v2620.toNat
def k0_off40 (v4 : BitVec 32) : Fin 1 → Nat :=
  let c6_i32_3072 : BitVec 32 := 6#32
  let v2629 : BitVec 32 := Scalar.addi v4 c6_i32_3072
  let c16_i32_3073 : BitVec 32 := 16#32
  let c0_i32_3074 : BitVec 32 := 0#32
  let v2630 : BitVec 1 := Scalar.cmpi .eq c16_i32_3073 c0_i32_3074
  let c1_i32_3075 : BitVec 32 := 1#32
  let v2631 : BitVec 32 := Scalar.select v2630 c1_i32_3075 c16_i32_3073
  let v2632 : BitVec 32 := Scalar.remsi v2629 v2631
  let c0_i32_3077 : BitVec 32 := 0#32
  let v2634 : BitVec 1 := Scalar.cmpi .slt v2632 c0_i32_3077
  let c0_i32_3078 : BitVec 32 := 0#32
  let v2635 : BitVec 1 := Scalar.cmpi .slt v2631 c0_i32_3078
  let v2636 : BitVec 1 := Scalar.xori v2634 v2635
  let c0_i32_3076 : BitVec 32 := 0#32
  let v2633 : BitVec 1 := Scalar.cmpi .ne v2632 c0_i32_3076
  let v2637 : BitVec 1 := Scalar.andi v2636 v2633
  let v2638 : BitVec 32 := Scalar.addi v2632 v2631
  let v2639 : BitVec 32 := Scalar.select v2637 v2638 v2632
  let v2640 : Index := Scalar.indexCast v2639
  ![v2640.toNat]
def k0_off41 (v2641 : BitVec 32) : Fin 2 → Nat :=
  let c256_i32_3079 : BitVec 32 := 256#32
  let v2642 : BitVec 32 := Scalar.muli v2641 c256_i32_3079
  let v2643 : Index := Scalar.indexCast v2642
  let c0_3080 : Index := 0#32
  ![v2643.toNat, 0]

def k0_chk22 (v2641 : BitVec 32) : Prop :=
  (∀ a, (k0_off41 v2641) a + S256x256.size a ≤ S4096x256.size a)
theorem k0_off41_inb : ∀ (v2641 : BitVec 32) (k0_hw22 : k0_chk22 v2641), ∀ a, (k0_off41 v2641) a + S256x256.size a ≤ S4096x256.size a := fun v2641 k0_hw22 => k0_hw22

def k0_off42 (v4 : BitVec 32) : Fin 1 → Nat :=
  let c10_i32_3084 : BitVec 32 := 10#32
  let v2649 : BitVec 32 := Scalar.addi v4 c10_i32_3084
  let c16_i32_3085 : BitVec 32 := 16#32
  let c0_i32_3086 : BitVec 32 := 0#32
  let v2650 : BitVec 1 := Scalar.cmpi .eq c16_i32_3085 c0_i32_3086
  let c1_i32_3087 : BitVec 32 := 1#32
  let v2651 : BitVec 32 := Scalar.select v2650 c1_i32_3087 c16_i32_3085
  let v2652 : BitVec 32 := Scalar.remsi v2649 v2651
  let c0_i32_3089 : BitVec 32 := 0#32
  let v2654 : BitVec 1 := Scalar.cmpi .slt v2652 c0_i32_3089
  let c0_i32_3090 : BitVec 32 := 0#32
  let v2655 : BitVec 1 := Scalar.cmpi .slt v2651 c0_i32_3090
  let v2656 : BitVec 1 := Scalar.xori v2654 v2655
  let c0_i32_3088 : BitVec 32 := 0#32
  let v2653 : BitVec 1 := Scalar.cmpi .ne v2652 c0_i32_3088
  let v2657 : BitVec 1 := Scalar.andi v2656 v2653
  let v2658 : BitVec 32 := Scalar.addi v2652 v2651
  let v2659 : BitVec 32 := Scalar.select v2657 v2658 v2652
  let v2660 : Index := Scalar.indexCast v2659
  ![v2660.toNat]
def k0_off43 (v2661 : BitVec 32) : Fin 2 → Nat :=
  let c256_i32_3091 : BitVec 32 := 256#32
  let v2662 : BitVec 32 := Scalar.muli v2661 c256_i32_3091
  let v2663 : Index := Scalar.indexCast v2662
  let c0_3092 : Index := 0#32
  ![v2663.toNat, 0]

def k0_chk23 (v2661 : BitVec 32) : Prop :=
  (∀ a, (k0_off43 v2661) a + S256x256.size a ≤ S4096x256.size a)
theorem k0_off43_inb : ∀ (v2661 : BitVec 32) (k0_hw23 : k0_chk23 v2661), ∀ a, (k0_off43 v2661) a + S256x256.size a ≤ S4096x256.size a := fun v2661 k0_hw23 => k0_hw23

def k0_dev75 (v17 : BitVec 32) : Nat :=
  let c0_i32_3132 : BitVec 32 := 0#32
  let c1_i32_3131 : BitVec 32 := 1#32
  let v2692 : BitVec 32 := Scalar.muli v17 c1_i32_3131
  let v2693 : BitVec 32 := Scalar.addi c0_i32_3132 v2692
  v2693.toNat
def k0_dev76 (v31 : BitVec 32) : Nat :=
  let c0_i32_3175 : BitVec 32 := 0#32
  let c1_i32_3174 : BitVec 32 := 1#32
  let v2725 : BitVec 32 := Scalar.muli v31 c1_i32_3174
  let v2726 : BitVec 32 := Scalar.addi c0_i32_3175 v2725
  v2726.toNat
def k0_dev77 (v17 : BitVec 32) : Nat :=
  let c0_i32_3217 : BitVec 32 := 0#32
  let c1_i32_3216 : BitVec 32 := 1#32
  let v2758 : BitVec 32 := Scalar.muli v17 c1_i32_3216
  let v2759 : BitVec 32 := Scalar.addi c0_i32_3217 v2758
  v2759.toNat
def k0_dev78 (v31 : BitVec 32) : Nat :=
  let c0_i32_3260 : BitVec 32 := 0#32
  let c1_i32_3259 : BitVec 32 := 1#32
  let v2791 : BitVec 32 := Scalar.muli v31 c1_i32_3259
  let v2792 : BitVec 32 := Scalar.addi c0_i32_3260 v2791
  v2792.toNat
def k0_dev79 (v17 : BitVec 32) : Nat :=
  let c0_i32_3302 : BitVec 32 := 0#32
  let c1_i32_3301 : BitVec 32 := 1#32
  let v2824 : BitVec 32 := Scalar.muli v17 c1_i32_3301
  let v2825 : BitVec 32 := Scalar.addi c0_i32_3302 v2824
  v2825.toNat
def k0_dev80 (v31 : BitVec 32) : Nat :=
  let c0_i32_3345 : BitVec 32 := 0#32
  let c1_i32_3344 : BitVec 32 := 1#32
  let v2857 : BitVec 32 := Scalar.muli v31 c1_i32_3344
  let v2858 : BitVec 32 := Scalar.addi c0_i32_3345 v2857
  v2858.toNat
def k0_dev81 (v17 : BitVec 32) : Nat :=
  let c0_i32_3387 : BitVec 32 := 0#32
  let c1_i32_3386 : BitVec 32 := 1#32
  let v2890 : BitVec 32 := Scalar.muli v17 c1_i32_3386
  let v2891 : BitVec 32 := Scalar.addi c0_i32_3387 v2890
  v2891.toNat
def k0_dev82 (v31 : BitVec 32) : Nat :=
  let c0_i32_3430 : BitVec 32 := 0#32
  let c1_i32_3429 : BitVec 32 := 1#32
  let v2923 : BitVec 32 := Scalar.muli v31 c1_i32_3429
  let v2924 : BitVec 32 := Scalar.addi c0_i32_3430 v2923
  v2924.toNat
def k0_off44 (v4 : BitVec 32) : Fin 1 → Nat :=
  let c5_i32_3435 : BitVec 32 := 5#32
  let v2933 : BitVec 32 := Scalar.addi v4 c5_i32_3435
  let c16_i32_3436 : BitVec 32 := 16#32
  let c0_i32_3437 : BitVec 32 := 0#32
  let v2934 : BitVec 1 := Scalar.cmpi .eq c16_i32_3436 c0_i32_3437
  let c1_i32_3438 : BitVec 32 := 1#32
  let v2935 : BitVec 32 := Scalar.select v2934 c1_i32_3438 c16_i32_3436
  let v2936 : BitVec 32 := Scalar.remsi v2933 v2935
  let c0_i32_3440 : BitVec 32 := 0#32
  let v2938 : BitVec 1 := Scalar.cmpi .slt v2936 c0_i32_3440
  let c0_i32_3441 : BitVec 32 := 0#32
  let v2939 : BitVec 1 := Scalar.cmpi .slt v2935 c0_i32_3441
  let v2940 : BitVec 1 := Scalar.xori v2938 v2939
  let c0_i32_3439 : BitVec 32 := 0#32
  let v2937 : BitVec 1 := Scalar.cmpi .ne v2936 c0_i32_3439
  let v2941 : BitVec 1 := Scalar.andi v2940 v2937
  let v2942 : BitVec 32 := Scalar.addi v2936 v2935
  let v2943 : BitVec 32 := Scalar.select v2941 v2942 v2936
  let v2944 : Index := Scalar.indexCast v2943
  ![v2944.toNat]
def k0_off45 (v2945 : BitVec 32) : Fin 2 → Nat :=
  let c256_i32_3442 : BitVec 32 := 256#32
  let v2946 : BitVec 32 := Scalar.muli v2945 c256_i32_3442
  let v2947 : Index := Scalar.indexCast v2946
  let c0_3443 : Index := 0#32
  ![v2947.toNat, 0]

def k0_chk24 (v2945 : BitVec 32) : Prop :=
  (∀ a, (k0_off45 v2945) a + S256x256.size a ≤ S4096x256.size a)
theorem k0_off45_inb : ∀ (v2945 : BitVec 32) (k0_hw24 : k0_chk24 v2945), ∀ a, (k0_off45 v2945) a + S256x256.size a ≤ S4096x256.size a := fun v2945 k0_hw24 => k0_hw24

def k0_off46 (v4 : BitVec 32) : Fin 1 → Nat :=
  let c11_i32_3447 : BitVec 32 := 11#32
  let v2953 : BitVec 32 := Scalar.addi v4 c11_i32_3447
  let c16_i32_3448 : BitVec 32 := 16#32
  let c0_i32_3449 : BitVec 32 := 0#32
  let v2954 : BitVec 1 := Scalar.cmpi .eq c16_i32_3448 c0_i32_3449
  let c1_i32_3450 : BitVec 32 := 1#32
  let v2955 : BitVec 32 := Scalar.select v2954 c1_i32_3450 c16_i32_3448
  let v2956 : BitVec 32 := Scalar.remsi v2953 v2955
  let c0_i32_3452 : BitVec 32 := 0#32
  let v2958 : BitVec 1 := Scalar.cmpi .slt v2956 c0_i32_3452
  let c0_i32_3453 : BitVec 32 := 0#32
  let v2959 : BitVec 1 := Scalar.cmpi .slt v2955 c0_i32_3453
  let v2960 : BitVec 1 := Scalar.xori v2958 v2959
  let c0_i32_3451 : BitVec 32 := 0#32
  let v2957 : BitVec 1 := Scalar.cmpi .ne v2956 c0_i32_3451
  let v2961 : BitVec 1 := Scalar.andi v2960 v2957
  let v2962 : BitVec 32 := Scalar.addi v2956 v2955
  let v2963 : BitVec 32 := Scalar.select v2961 v2962 v2956
  let v2964 : Index := Scalar.indexCast v2963
  ![v2964.toNat]
def k0_off47 (v2965 : BitVec 32) : Fin 2 → Nat :=
  let c256_i32_3454 : BitVec 32 := 256#32
  let v2966 : BitVec 32 := Scalar.muli v2965 c256_i32_3454
  let v2967 : Index := Scalar.indexCast v2966
  let c0_3455 : Index := 0#32
  ![v2967.toNat, 0]

def k0_chk25 (v2965 : BitVec 32) : Prop :=
  (∀ a, (k0_off47 v2965) a + S256x256.size a ≤ S4096x256.size a)
theorem k0_off47_inb : ∀ (v2965 : BitVec 32) (k0_hw25 : k0_chk25 v2965), ∀ a, (k0_off47 v2965) a + S256x256.size a ≤ S4096x256.size a := fun v2965 k0_hw25 => k0_hw25

def k0_dev83 (v17 : BitVec 32) : Nat :=
  let c0_i32_3495 : BitVec 32 := 0#32
  let c1_i32_3494 : BitVec 32 := 1#32
  let v2996 : BitVec 32 := Scalar.muli v17 c1_i32_3494
  let v2997 : BitVec 32 := Scalar.addi c0_i32_3495 v2996
  v2997.toNat
def k0_dev84 (v31 : BitVec 32) : Nat :=
  let c0_i32_3538 : BitVec 32 := 0#32
  let c1_i32_3537 : BitVec 32 := 1#32
  let v3029 : BitVec 32 := Scalar.muli v31 c1_i32_3537
  let v3030 : BitVec 32 := Scalar.addi c0_i32_3538 v3029
  v3030.toNat
def k0_dev85 (v17 : BitVec 32) : Nat :=
  let c0_i32_3580 : BitVec 32 := 0#32
  let c1_i32_3579 : BitVec 32 := 1#32
  let v3062 : BitVec 32 := Scalar.muli v17 c1_i32_3579
  let v3063 : BitVec 32 := Scalar.addi c0_i32_3580 v3062
  v3063.toNat
def k0_dev86 (v31 : BitVec 32) : Nat :=
  let c0_i32_3623 : BitVec 32 := 0#32
  let c1_i32_3622 : BitVec 32 := 1#32
  let v3095 : BitVec 32 := Scalar.muli v31 c1_i32_3622
  let v3096 : BitVec 32 := Scalar.addi c0_i32_3623 v3095
  v3096.toNat
def k0_dev87 (v17 : BitVec 32) : Nat :=
  let c0_i32_3665 : BitVec 32 := 0#32
  let c1_i32_3664 : BitVec 32 := 1#32
  let v3128 : BitVec 32 := Scalar.muli v17 c1_i32_3664
  let v3129 : BitVec 32 := Scalar.addi c0_i32_3665 v3128
  v3129.toNat
def k0_dev88 (v31 : BitVec 32) : Nat :=
  let c0_i32_3708 : BitVec 32 := 0#32
  let c1_i32_3707 : BitVec 32 := 1#32
  let v3161 : BitVec 32 := Scalar.muli v31 c1_i32_3707
  let v3162 : BitVec 32 := Scalar.addi c0_i32_3708 v3161
  v3162.toNat
def k0_dev89 (v17 : BitVec 32) : Nat :=
  let c0_i32_3750 : BitVec 32 := 0#32
  let c1_i32_3749 : BitVec 32 := 1#32
  let v3194 : BitVec 32 := Scalar.muli v17 c1_i32_3749
  let v3195 : BitVec 32 := Scalar.addi c0_i32_3750 v3194
  v3195.toNat
def k0_dev90 (v31 : BitVec 32) : Nat :=
  let c0_i32_3793 : BitVec 32 := 0#32
  let c1_i32_3792 : BitVec 32 := 1#32
  let v3227 : BitVec 32 := Scalar.muli v31 c1_i32_3792
  let v3228 : BitVec 32 := Scalar.addi c0_i32_3793 v3227
  v3228.toNat
def k0_off48 (v4 : BitVec 32) : Fin 1 → Nat :=
  let c4_i32_3798 : BitVec 32 := 4#32
  let v3237 : BitVec 32 := Scalar.addi v4 c4_i32_3798
  let c16_i32_3799 : BitVec 32 := 16#32
  let c0_i32_3800 : BitVec 32 := 0#32
  let v3238 : BitVec 1 := Scalar.cmpi .eq c16_i32_3799 c0_i32_3800
  let c1_i32_3801 : BitVec 32 := 1#32
  let v3239 : BitVec 32 := Scalar.select v3238 c1_i32_3801 c16_i32_3799
  let v3240 : BitVec 32 := Scalar.remsi v3237 v3239
  let c0_i32_3803 : BitVec 32 := 0#32
  let v3242 : BitVec 1 := Scalar.cmpi .slt v3240 c0_i32_3803
  let c0_i32_3804 : BitVec 32 := 0#32
  let v3243 : BitVec 1 := Scalar.cmpi .slt v3239 c0_i32_3804
  let v3244 : BitVec 1 := Scalar.xori v3242 v3243
  let c0_i32_3802 : BitVec 32 := 0#32
  let v3241 : BitVec 1 := Scalar.cmpi .ne v3240 c0_i32_3802
  let v3245 : BitVec 1 := Scalar.andi v3244 v3241
  let v3246 : BitVec 32 := Scalar.addi v3240 v3239
  let v3247 : BitVec 32 := Scalar.select v3245 v3246 v3240
  let v3248 : Index := Scalar.indexCast v3247
  ![v3248.toNat]
def k0_off49 (v3249 : BitVec 32) : Fin 2 → Nat :=
  let c256_i32_3805 : BitVec 32 := 256#32
  let v3250 : BitVec 32 := Scalar.muli v3249 c256_i32_3805
  let v3251 : Index := Scalar.indexCast v3250
  let c0_3806 : Index := 0#32
  ![v3251.toNat, 0]

def k0_chk26 (v3249 : BitVec 32) : Prop :=
  (∀ a, (k0_off49 v3249) a + S256x256.size a ≤ S4096x256.size a)
theorem k0_off49_inb : ∀ (v3249 : BitVec 32) (k0_hw26 : k0_chk26 v3249), ∀ a, (k0_off49 v3249) a + S256x256.size a ≤ S4096x256.size a := fun v3249 k0_hw26 => k0_hw26

def k0_off50 (v4 : BitVec 32) : Fin 1 → Nat :=
  let c12_i32_3810 : BitVec 32 := 12#32
  let v3257 : BitVec 32 := Scalar.addi v4 c12_i32_3810
  let c16_i32_3811 : BitVec 32 := 16#32
  let c0_i32_3812 : BitVec 32 := 0#32
  let v3258 : BitVec 1 := Scalar.cmpi .eq c16_i32_3811 c0_i32_3812
  let c1_i32_3813 : BitVec 32 := 1#32
  let v3259 : BitVec 32 := Scalar.select v3258 c1_i32_3813 c16_i32_3811
  let v3260 : BitVec 32 := Scalar.remsi v3257 v3259
  let c0_i32_3815 : BitVec 32 := 0#32
  let v3262 : BitVec 1 := Scalar.cmpi .slt v3260 c0_i32_3815
  let c0_i32_3816 : BitVec 32 := 0#32
  let v3263 : BitVec 1 := Scalar.cmpi .slt v3259 c0_i32_3816
  let v3264 : BitVec 1 := Scalar.xori v3262 v3263
  let c0_i32_3814 : BitVec 32 := 0#32
  let v3261 : BitVec 1 := Scalar.cmpi .ne v3260 c0_i32_3814
  let v3265 : BitVec 1 := Scalar.andi v3264 v3261
  let v3266 : BitVec 32 := Scalar.addi v3260 v3259
  let v3267 : BitVec 32 := Scalar.select v3265 v3266 v3260
  let v3268 : Index := Scalar.indexCast v3267
  ![v3268.toNat]
def k0_off51 (v3269 : BitVec 32) : Fin 2 → Nat :=
  let c256_i32_3817 : BitVec 32 := 256#32
  let v3270 : BitVec 32 := Scalar.muli v3269 c256_i32_3817
  let v3271 : Index := Scalar.indexCast v3270
  let c0_3818 : Index := 0#32
  ![v3271.toNat, 0]

def k0_chk27 (v3269 : BitVec 32) : Prop :=
  (∀ a, (k0_off51 v3269) a + S256x256.size a ≤ S4096x256.size a)
theorem k0_off51_inb : ∀ (v3269 : BitVec 32) (k0_hw27 : k0_chk27 v3269), ∀ a, (k0_off51 v3269) a + S256x256.size a ≤ S4096x256.size a := fun v3269 k0_hw27 => k0_hw27

def k0_dev91 (v17 : BitVec 32) : Nat :=
  let c0_i32_3858 : BitVec 32 := 0#32
  let c1_i32_3857 : BitVec 32 := 1#32
  let v3300 : BitVec 32 := Scalar.muli v17 c1_i32_3857
  let v3301 : BitVec 32 := Scalar.addi c0_i32_3858 v3300
  v3301.toNat
def k0_dev92 (v31 : BitVec 32) : Nat :=
  let c0_i32_3901 : BitVec 32 := 0#32
  let c1_i32_3900 : BitVec 32 := 1#32
  let v3333 : BitVec 32 := Scalar.muli v31 c1_i32_3900
  let v3334 : BitVec 32 := Scalar.addi c0_i32_3901 v3333
  v3334.toNat
def k0_dev93 (v17 : BitVec 32) : Nat :=
  let c0_i32_3943 : BitVec 32 := 0#32
  let c1_i32_3942 : BitVec 32 := 1#32
  let v3366 : BitVec 32 := Scalar.muli v17 c1_i32_3942
  let v3367 : BitVec 32 := Scalar.addi c0_i32_3943 v3366
  v3367.toNat
def k0_dev94 (v31 : BitVec 32) : Nat :=
  let c0_i32_3986 : BitVec 32 := 0#32
  let c1_i32_3985 : BitVec 32 := 1#32
  let v3399 : BitVec 32 := Scalar.muli v31 c1_i32_3985
  let v3400 : BitVec 32 := Scalar.addi c0_i32_3986 v3399
  v3400.toNat
def k0_dev95 (v17 : BitVec 32) : Nat :=
  let c0_i32_4028 : BitVec 32 := 0#32
  let c1_i32_4027 : BitVec 32 := 1#32
  let v3432 : BitVec 32 := Scalar.muli v17 c1_i32_4027
  let v3433 : BitVec 32 := Scalar.addi c0_i32_4028 v3432
  v3433.toNat
def k0_dev96 (v31 : BitVec 32) : Nat :=
  let c0_i32_4071 : BitVec 32 := 0#32
  let c1_i32_4070 : BitVec 32 := 1#32
  let v3465 : BitVec 32 := Scalar.muli v31 c1_i32_4070
  let v3466 : BitVec 32 := Scalar.addi c0_i32_4071 v3465
  v3466.toNat
def k0_dev97 (v17 : BitVec 32) : Nat :=
  let c0_i32_4113 : BitVec 32 := 0#32
  let c1_i32_4112 : BitVec 32 := 1#32
  let v3498 : BitVec 32 := Scalar.muli v17 c1_i32_4112
  let v3499 : BitVec 32 := Scalar.addi c0_i32_4113 v3498
  v3499.toNat
def k0_dev98 (v31 : BitVec 32) : Nat :=
  let c0_i32_4156 : BitVec 32 := 0#32
  let c1_i32_4155 : BitVec 32 := 1#32
  let v3531 : BitVec 32 := Scalar.muli v31 c1_i32_4155
  let v3532 : BitVec 32 := Scalar.addi c0_i32_4156 v3531
  v3532.toNat
def k0_off52 (v4 : BitVec 32) : Fin 1 → Nat :=
  let c3_i32_4161 : BitVec 32 := 3#32
  let v3541 : BitVec 32 := Scalar.addi v4 c3_i32_4161
  let c16_i32_4162 : BitVec 32 := 16#32
  let c0_i32_4163 : BitVec 32 := 0#32
  let v3542 : BitVec 1 := Scalar.cmpi .eq c16_i32_4162 c0_i32_4163
  let c1_i32_4164 : BitVec 32 := 1#32
  let v3543 : BitVec 32 := Scalar.select v3542 c1_i32_4164 c16_i32_4162
  let v3544 : BitVec 32 := Scalar.remsi v3541 v3543
  let c0_i32_4166 : BitVec 32 := 0#32
  let v3546 : BitVec 1 := Scalar.cmpi .slt v3544 c0_i32_4166
  let c0_i32_4167 : BitVec 32 := 0#32
  let v3547 : BitVec 1 := Scalar.cmpi .slt v3543 c0_i32_4167
  let v3548 : BitVec 1 := Scalar.xori v3546 v3547
  let c0_i32_4165 : BitVec 32 := 0#32
  let v3545 : BitVec 1 := Scalar.cmpi .ne v3544 c0_i32_4165
  let v3549 : BitVec 1 := Scalar.andi v3548 v3545
  let v3550 : BitVec 32 := Scalar.addi v3544 v3543
  let v3551 : BitVec 32 := Scalar.select v3549 v3550 v3544
  let v3552 : Index := Scalar.indexCast v3551
  ![v3552.toNat]
def k0_off53 (v3553 : BitVec 32) : Fin 2 → Nat :=
  let c256_i32_4168 : BitVec 32 := 256#32
  let v3554 : BitVec 32 := Scalar.muli v3553 c256_i32_4168
  let v3555 : Index := Scalar.indexCast v3554
  let c0_4169 : Index := 0#32
  ![v3555.toNat, 0]

def k0_chk28 (v3553 : BitVec 32) : Prop :=
  (∀ a, (k0_off53 v3553) a + S256x256.size a ≤ S4096x256.size a)
theorem k0_off53_inb : ∀ (v3553 : BitVec 32) (k0_hw28 : k0_chk28 v3553), ∀ a, (k0_off53 v3553) a + S256x256.size a ≤ S4096x256.size a := fun v3553 k0_hw28 => k0_hw28

def k0_off54 (v4 : BitVec 32) : Fin 1 → Nat :=
  let c13_i32_4173 : BitVec 32 := 13#32
  let v3561 : BitVec 32 := Scalar.addi v4 c13_i32_4173
  let c16_i32_4174 : BitVec 32 := 16#32
  let c0_i32_4175 : BitVec 32 := 0#32
  let v3562 : BitVec 1 := Scalar.cmpi .eq c16_i32_4174 c0_i32_4175
  let c1_i32_4176 : BitVec 32 := 1#32
  let v3563 : BitVec 32 := Scalar.select v3562 c1_i32_4176 c16_i32_4174
  let v3564 : BitVec 32 := Scalar.remsi v3561 v3563
  let c0_i32_4178 : BitVec 32 := 0#32
  let v3566 : BitVec 1 := Scalar.cmpi .slt v3564 c0_i32_4178
  let c0_i32_4179 : BitVec 32 := 0#32
  let v3567 : BitVec 1 := Scalar.cmpi .slt v3563 c0_i32_4179
  let v3568 : BitVec 1 := Scalar.xori v3566 v3567
  let c0_i32_4177 : BitVec 32 := 0#32
  let v3565 : BitVec 1 := Scalar.cmpi .ne v3564 c0_i32_4177
  let v3569 : BitVec 1 := Scalar.andi v3568 v3565
  let v3570 : BitVec 32 := Scalar.addi v3564 v3563
  let v3571 : BitVec 32 := Scalar.select v3569 v3570 v3564
  let v3572 : Index := Scalar.indexCast v3571
  ![v3572.toNat]
def k0_off55 (v3573 : BitVec 32) : Fin 2 → Nat :=
  let c256_i32_4180 : BitVec 32 := 256#32
  let v3574 : BitVec 32 := Scalar.muli v3573 c256_i32_4180
  let v3575 : Index := Scalar.indexCast v3574
  let c0_4181 : Index := 0#32
  ![v3575.toNat, 0]

def k0_chk29 (v3573 : BitVec 32) : Prop :=
  (∀ a, (k0_off55 v3573) a + S256x256.size a ≤ S4096x256.size a)
theorem k0_off55_inb : ∀ (v3573 : BitVec 32) (k0_hw29 : k0_chk29 v3573), ∀ a, (k0_off55 v3573) a + S256x256.size a ≤ S4096x256.size a := fun v3573 k0_hw29 => k0_hw29

def k0_dev99 (v17 : BitVec 32) : Nat :=
  let c0_i32_4221 : BitVec 32 := 0#32
  let c1_i32_4220 : BitVec 32 := 1#32
  let v3604 : BitVec 32 := Scalar.muli v17 c1_i32_4220
  let v3605 : BitVec 32 := Scalar.addi c0_i32_4221 v3604
  v3605.toNat
def k0_dev100 (v31 : BitVec 32) : Nat :=
  let c0_i32_4264 : BitVec 32 := 0#32
  let c1_i32_4263 : BitVec 32 := 1#32
  let v3637 : BitVec 32 := Scalar.muli v31 c1_i32_4263
  let v3638 : BitVec 32 := Scalar.addi c0_i32_4264 v3637
  v3638.toNat
def k0_dev101 (v17 : BitVec 32) : Nat :=
  let c0_i32_4306 : BitVec 32 := 0#32
  let c1_i32_4305 : BitVec 32 := 1#32
  let v3670 : BitVec 32 := Scalar.muli v17 c1_i32_4305
  let v3671 : BitVec 32 := Scalar.addi c0_i32_4306 v3670
  v3671.toNat
def k0_dev102 (v31 : BitVec 32) : Nat :=
  let c0_i32_4349 : BitVec 32 := 0#32
  let c1_i32_4348 : BitVec 32 := 1#32
  let v3703 : BitVec 32 := Scalar.muli v31 c1_i32_4348
  let v3704 : BitVec 32 := Scalar.addi c0_i32_4349 v3703
  v3704.toNat
def k0_dev103 (v17 : BitVec 32) : Nat :=
  let c0_i32_4391 : BitVec 32 := 0#32
  let c1_i32_4390 : BitVec 32 := 1#32
  let v3736 : BitVec 32 := Scalar.muli v17 c1_i32_4390
  let v3737 : BitVec 32 := Scalar.addi c0_i32_4391 v3736
  v3737.toNat
def k0_dev104 (v31 : BitVec 32) : Nat :=
  let c0_i32_4434 : BitVec 32 := 0#32
  let c1_i32_4433 : BitVec 32 := 1#32
  let v3769 : BitVec 32 := Scalar.muli v31 c1_i32_4433
  let v3770 : BitVec 32 := Scalar.addi c0_i32_4434 v3769
  v3770.toNat
def k0_dev105 (v17 : BitVec 32) : Nat :=
  let c0_i32_4476 : BitVec 32 := 0#32
  let c1_i32_4475 : BitVec 32 := 1#32
  let v3802 : BitVec 32 := Scalar.muli v17 c1_i32_4475
  let v3803 : BitVec 32 := Scalar.addi c0_i32_4476 v3802
  v3803.toNat
def k0_dev106 (v31 : BitVec 32) : Nat :=
  let c0_i32_4519 : BitVec 32 := 0#32
  let c1_i32_4518 : BitVec 32 := 1#32
  let v3835 : BitVec 32 := Scalar.muli v31 c1_i32_4518
  let v3836 : BitVec 32 := Scalar.addi c0_i32_4519 v3835
  v3836.toNat
def k0_off56 (v4 : BitVec 32) : Fin 1 → Nat :=
  let c2_i32_4524 : BitVec 32 := 2#32
  let v3845 : BitVec 32 := Scalar.addi v4 c2_i32_4524
  let c16_i32_4525 : BitVec 32 := 16#32
  let c0_i32_4526 : BitVec 32 := 0#32
  let v3846 : BitVec 1 := Scalar.cmpi .eq c16_i32_4525 c0_i32_4526
  let c1_i32_4527 : BitVec 32 := 1#32
  let v3847 : BitVec 32 := Scalar.select v3846 c1_i32_4527 c16_i32_4525
  let v3848 : BitVec 32 := Scalar.remsi v3845 v3847
  let c0_i32_4529 : BitVec 32 := 0#32
  let v3850 : BitVec 1 := Scalar.cmpi .slt v3848 c0_i32_4529
  let c0_i32_4530 : BitVec 32 := 0#32
  let v3851 : BitVec 1 := Scalar.cmpi .slt v3847 c0_i32_4530
  let v3852 : BitVec 1 := Scalar.xori v3850 v3851
  let c0_i32_4528 : BitVec 32 := 0#32
  let v3849 : BitVec 1 := Scalar.cmpi .ne v3848 c0_i32_4528
  let v3853 : BitVec 1 := Scalar.andi v3852 v3849
  let v3854 : BitVec 32 := Scalar.addi v3848 v3847
  let v3855 : BitVec 32 := Scalar.select v3853 v3854 v3848
  let v3856 : Index := Scalar.indexCast v3855
  ![v3856.toNat]
def k0_off57 (v3857 : BitVec 32) : Fin 2 → Nat :=
  let c256_i32_4531 : BitVec 32 := 256#32
  let v3858 : BitVec 32 := Scalar.muli v3857 c256_i32_4531
  let v3859 : Index := Scalar.indexCast v3858
  let c0_4532 : Index := 0#32
  ![v3859.toNat, 0]

def k0_chk30 (v3857 : BitVec 32) : Prop :=
  (∀ a, (k0_off57 v3857) a + S256x256.size a ≤ S4096x256.size a)
theorem k0_off57_inb : ∀ (v3857 : BitVec 32) (k0_hw30 : k0_chk30 v3857), ∀ a, (k0_off57 v3857) a + S256x256.size a ≤ S4096x256.size a := fun v3857 k0_hw30 => k0_hw30

def k0_off58 (v4 : BitVec 32) : Fin 1 → Nat :=
  let c14_i32_4536 : BitVec 32 := 14#32
  let v3865 : BitVec 32 := Scalar.addi v4 c14_i32_4536
  let c16_i32_4537 : BitVec 32 := 16#32
  let c0_i32_4538 : BitVec 32 := 0#32
  let v3866 : BitVec 1 := Scalar.cmpi .eq c16_i32_4537 c0_i32_4538
  let c1_i32_4539 : BitVec 32 := 1#32
  let v3867 : BitVec 32 := Scalar.select v3866 c1_i32_4539 c16_i32_4537
  let v3868 : BitVec 32 := Scalar.remsi v3865 v3867
  let c0_i32_4541 : BitVec 32 := 0#32
  let v3870 : BitVec 1 := Scalar.cmpi .slt v3868 c0_i32_4541
  let c0_i32_4542 : BitVec 32 := 0#32
  let v3871 : BitVec 1 := Scalar.cmpi .slt v3867 c0_i32_4542
  let v3872 : BitVec 1 := Scalar.xori v3870 v3871
  let c0_i32_4540 : BitVec 32 := 0#32
  let v3869 : BitVec 1 := Scalar.cmpi .ne v3868 c0_i32_4540
  let v3873 : BitVec 1 := Scalar.andi v3872 v3869
  let v3874 : BitVec 32 := Scalar.addi v3868 v3867
  let v3875 : BitVec 32 := Scalar.select v3873 v3874 v3868
  let v3876 : Index := Scalar.indexCast v3875
  ![v3876.toNat]
def k0_off59 (v3877 : BitVec 32) : Fin 2 → Nat :=
  let c256_i32_4543 : BitVec 32 := 256#32
  let v3878 : BitVec 32 := Scalar.muli v3877 c256_i32_4543
  let v3879 : Index := Scalar.indexCast v3878
  let c0_4544 : Index := 0#32
  ![v3879.toNat, 0]

def k0_chk31 (v3877 : BitVec 32) : Prop :=
  (∀ a, (k0_off59 v3877) a + S256x256.size a ≤ S4096x256.size a)
theorem k0_off59_inb : ∀ (v3877 : BitVec 32) (k0_hw31 : k0_chk31 v3877), ∀ a, (k0_off59 v3877) a + S256x256.size a ≤ S4096x256.size a := fun v3877 k0_hw31 => k0_hw31

def k0_dev107 (v17 : BitVec 32) : Nat :=
  let c0_i32_4584 : BitVec 32 := 0#32
  let c1_i32_4583 : BitVec 32 := 1#32
  let v3908 : BitVec 32 := Scalar.muli v17 c1_i32_4583
  let v3909 : BitVec 32 := Scalar.addi c0_i32_4584 v3908
  v3909.toNat
def k0_dev108 (v31 : BitVec 32) : Nat :=
  let c0_i32_4627 : BitVec 32 := 0#32
  let c1_i32_4626 : BitVec 32 := 1#32
  let v3941 : BitVec 32 := Scalar.muli v31 c1_i32_4626
  let v3942 : BitVec 32 := Scalar.addi c0_i32_4627 v3941
  v3942.toNat
def k0_dev109 (v17 : BitVec 32) : Nat :=
  let c0_i32_4669 : BitVec 32 := 0#32
  let c1_i32_4668 : BitVec 32 := 1#32
  let v3974 : BitVec 32 := Scalar.muli v17 c1_i32_4668
  let v3975 : BitVec 32 := Scalar.addi c0_i32_4669 v3974
  v3975.toNat
def k0_dev110 (v31 : BitVec 32) : Nat :=
  let c0_i32_4712 : BitVec 32 := 0#32
  let c1_i32_4711 : BitVec 32 := 1#32
  let v4007 : BitVec 32 := Scalar.muli v31 c1_i32_4711
  let v4008 : BitVec 32 := Scalar.addi c0_i32_4712 v4007
  v4008.toNat
def k0_dev111 (v17 : BitVec 32) : Nat :=
  let c0_i32_4754 : BitVec 32 := 0#32
  let c1_i32_4753 : BitVec 32 := 1#32
  let v4040 : BitVec 32 := Scalar.muli v17 c1_i32_4753
  let v4041 : BitVec 32 := Scalar.addi c0_i32_4754 v4040
  v4041.toNat
def k0_dev112 (v31 : BitVec 32) : Nat :=
  let c0_i32_4797 : BitVec 32 := 0#32
  let c1_i32_4796 : BitVec 32 := 1#32
  let v4073 : BitVec 32 := Scalar.muli v31 c1_i32_4796
  let v4074 : BitVec 32 := Scalar.addi c0_i32_4797 v4073
  v4074.toNat
def k0_dev113 (v17 : BitVec 32) : Nat :=
  let c0_i32_4839 : BitVec 32 := 0#32
  let c1_i32_4838 : BitVec 32 := 1#32
  let v4106 : BitVec 32 := Scalar.muli v17 c1_i32_4838
  let v4107 : BitVec 32 := Scalar.addi c0_i32_4839 v4106
  v4107.toNat
def k0_dev114 (v31 : BitVec 32) : Nat :=
  let c0_i32_4882 : BitVec 32 := 0#32
  let c1_i32_4881 : BitVec 32 := 1#32
  let v4139 : BitVec 32 := Scalar.muli v31 c1_i32_4881
  let v4140 : BitVec 32 := Scalar.addi c0_i32_4882 v4139
  v4140.toNat
def k0_off60 (v4 : BitVec 32) : Fin 1 → Nat :=
  let c1_i32_4887 : BitVec 32 := 1#32
  let v4149 : BitVec 32 := Scalar.addi v4 c1_i32_4887
  let c16_i32_4888 : BitVec 32 := 16#32
  let c0_i32_4889 : BitVec 32 := 0#32
  let v4150 : BitVec 1 := Scalar.cmpi .eq c16_i32_4888 c0_i32_4889
  let c1_i32_4890 : BitVec 32 := 1#32
  let v4151 : BitVec 32 := Scalar.select v4150 c1_i32_4890 c16_i32_4888
  let v4152 : BitVec 32 := Scalar.remsi v4149 v4151
  let c0_i32_4892 : BitVec 32 := 0#32
  let v4154 : BitVec 1 := Scalar.cmpi .slt v4152 c0_i32_4892
  let c0_i32_4893 : BitVec 32 := 0#32
  let v4155 : BitVec 1 := Scalar.cmpi .slt v4151 c0_i32_4893
  let v4156 : BitVec 1 := Scalar.xori v4154 v4155
  let c0_i32_4891 : BitVec 32 := 0#32
  let v4153 : BitVec 1 := Scalar.cmpi .ne v4152 c0_i32_4891
  let v4157 : BitVec 1 := Scalar.andi v4156 v4153
  let v4158 : BitVec 32 := Scalar.addi v4152 v4151
  let v4159 : BitVec 32 := Scalar.select v4157 v4158 v4152
  let v4160 : Index := Scalar.indexCast v4159
  ![v4160.toNat]
def k0_off61 (v4161 : BitVec 32) : Fin 2 → Nat :=
  let c256_i32_4894 : BitVec 32 := 256#32
  let v4162 : BitVec 32 := Scalar.muli v4161 c256_i32_4894
  let v4163 : Index := Scalar.indexCast v4162
  let c0_4895 : Index := 0#32
  ![v4163.toNat, 0]

def k0_chk32 (v4161 : BitVec 32) : Prop :=
  (∀ a, (k0_off61 v4161) a + S256x256.size a ≤ S4096x256.size a)
theorem k0_off61_inb : ∀ (v4161 : BitVec 32) (k0_hw32 : k0_chk32 v4161), ∀ a, (k0_off61 v4161) a + S256x256.size a ≤ S4096x256.size a := fun v4161 k0_hw32 => k0_hw32

def k0_off62 (v4 : BitVec 32) : Fin 1 → Nat :=
  let c15_i32_4899 : BitVec 32 := 15#32
  let v4169 : BitVec 32 := Scalar.addi v4 c15_i32_4899
  let c16_i32_4900 : BitVec 32 := 16#32
  let c0_i32_4901 : BitVec 32 := 0#32
  let v4170 : BitVec 1 := Scalar.cmpi .eq c16_i32_4900 c0_i32_4901
  let c1_i32_4902 : BitVec 32 := 1#32
  let v4171 : BitVec 32 := Scalar.select v4170 c1_i32_4902 c16_i32_4900
  let v4172 : BitVec 32 := Scalar.remsi v4169 v4171
  let c0_i32_4904 : BitVec 32 := 0#32
  let v4174 : BitVec 1 := Scalar.cmpi .slt v4172 c0_i32_4904
  let c0_i32_4905 : BitVec 32 := 0#32
  let v4175 : BitVec 1 := Scalar.cmpi .slt v4171 c0_i32_4905
  let v4176 : BitVec 1 := Scalar.xori v4174 v4175
  let c0_i32_4903 : BitVec 32 := 0#32
  let v4173 : BitVec 1 := Scalar.cmpi .ne v4172 c0_i32_4903
  let v4177 : BitVec 1 := Scalar.andi v4176 v4173
  let v4178 : BitVec 32 := Scalar.addi v4172 v4171
  let v4179 : BitVec 32 := Scalar.select v4177 v4178 v4172
  let v4180 : Index := Scalar.indexCast v4179
  ![v4180.toNat]
def k0_off63 (v4181 : BitVec 32) : Fin 2 → Nat :=
  let c256_i32_4906 : BitVec 32 := 256#32
  let v4182 : BitVec 32 := Scalar.muli v4181 c256_i32_4906
  let v4183 : Index := Scalar.indexCast v4182
  let c0_4907 : Index := 0#32
  ![v4183.toNat, 0]

def k0_chk33 (v4181 : BitVec 32) : Prop :=
  (∀ a, (k0_off63 v4181) a + S256x256.size a ≤ S4096x256.size a)
theorem k0_off63_inb : ∀ (v4181 : BitVec 32) (k0_hw33 : k0_chk33 v4181), ∀ a, (k0_off63 v4181) a + S256x256.size a ≤ S4096x256.size a := fun v4181 k0_hw33 => k0_hw33

def k0_dev115 (v17 : BitVec 32) : Nat :=
  let c0_i32_4947 : BitVec 32 := 0#32
  let c1_i32_4946 : BitVec 32 := 1#32
  let v4212 : BitVec 32 := Scalar.muli v17 c1_i32_4946
  let v4213 : BitVec 32 := Scalar.addi c0_i32_4947 v4212
  v4213.toNat
def k0_dev116 (v31 : BitVec 32) : Nat :=
  let c0_i32_4990 : BitVec 32 := 0#32
  let c1_i32_4989 : BitVec 32 := 1#32
  let v4245 : BitVec 32 := Scalar.muli v31 c1_i32_4989
  let v4246 : BitVec 32 := Scalar.addi c0_i32_4990 v4245
  v4246.toNat
def k0_dev117 (v17 : BitVec 32) : Nat :=
  let c0_i32_5032 : BitVec 32 := 0#32
  let c1_i32_5031 : BitVec 32 := 1#32
  let v4278 : BitVec 32 := Scalar.muli v17 c1_i32_5031
  let v4279 : BitVec 32 := Scalar.addi c0_i32_5032 v4278
  v4279.toNat
def k0_dev118 (v31 : BitVec 32) : Nat :=
  let c0_i32_5075 : BitVec 32 := 0#32
  let c1_i32_5074 : BitVec 32 := 1#32
  let v4311 : BitVec 32 := Scalar.muli v31 c1_i32_5074
  let v4312 : BitVec 32 := Scalar.addi c0_i32_5075 v4311
  v4312.toNat
def k0_dev119 (v17 : BitVec 32) : Nat :=
  let c0_i32_5117 : BitVec 32 := 0#32
  let c1_i32_5116 : BitVec 32 := 1#32
  let v4344 : BitVec 32 := Scalar.muli v17 c1_i32_5116
  let v4345 : BitVec 32 := Scalar.addi c0_i32_5117 v4344
  v4345.toNat
def k0_dev120 (v31 : BitVec 32) : Nat :=
  let c0_i32_5160 : BitVec 32 := 0#32
  let c1_i32_5159 : BitVec 32 := 1#32
  let v4377 : BitVec 32 := Scalar.muli v31 c1_i32_5159
  let v4378 : BitVec 32 := Scalar.addi c0_i32_5160 v4377
  v4378.toNat
def k0_dev121 (v17 : BitVec 32) : Nat :=
  let c0_i32_5202 : BitVec 32 := 0#32
  let c1_i32_5201 : BitVec 32 := 1#32
  let v4410 : BitVec 32 := Scalar.muli v17 c1_i32_5201
  let v4411 : BitVec 32 := Scalar.addi c0_i32_5202 v4410
  v4411.toNat

def k0_chk3_0 (v17 : BitVec 32) : Prop :=
  ((k0_dev2 v17) < nD) ∧
  ((k0_dev3 v17) < nD) ∧
  ((k0_dev5 v17) < nD) ∧
  ((k0_dev7 v17) < nD) ∧
  ((k0_dev9 v17) < nD) ∧
  ((k0_dev11 v17) < nD) ∧
  ((k0_dev13 v17) < nD) ∧
  ((k0_dev15 v17) < nD) ∧
  ((k0_dev17 v17) < nD) ∧
  ((k0_dev19 v17) < nD) ∧
  ((k0_dev21 v17) < nD) ∧
  ((k0_dev23 v17) < nD) ∧
  ((k0_dev25 v17) < nD) ∧
  ((k0_dev27 v17) < nD) ∧
  ((k0_dev29 v17) < nD) ∧
  ((k0_dev31 v17) < nD) ∧
  ((k0_dev33 v17) < nD) ∧
  ((k0_dev35 v17) < nD) ∧
  ((k0_dev37 v17) < nD) ∧
  ((k0_dev39 v17) < nD) ∧
  ((k0_dev41 v17) < nD) ∧
  ((k0_dev43 v17) < nD) ∧
  ((k0_dev45 v17) < nD) ∧
  ((k0_dev47 v17) < nD) ∧
  ((k0_dev49 v17) < nD) ∧
  ((k0_dev51 v17) < nD) ∧
  ((k0_dev53 v17) < nD) ∧
  ((k0_dev55 v17) < nD) ∧
  ((k0_dev57 v17) < nD) ∧
  ((k0_dev59 v17) < nD) ∧
  ((k0_dev61 v17) < nD) ∧
  ((k0_dev63 v17) < nD)
def k0_chk3_1 (v17 : BitVec 32) : Prop :=
  ((k0_dev65 v17) < nD) ∧
  ((k0_dev67 v17) < nD) ∧
  ((k0_dev69 v17) < nD) ∧
  ((k0_dev71 v17) < nD) ∧
  ((k0_dev73 v17) < nD) ∧
  ((k0_dev75 v17) < nD) ∧
  ((k0_dev77 v17) < nD) ∧
  ((k0_dev79 v17) < nD) ∧
  ((k0_dev81 v17) < nD) ∧
  ((k0_dev83 v17) < nD) ∧
  ((k0_dev85 v17) < nD) ∧
  ((k0_dev87 v17) < nD) ∧
  ((k0_dev89 v17) < nD) ∧
  ((k0_dev91 v17) < nD) ∧
  ((k0_dev93 v17) < nD) ∧
  ((k0_dev95 v17) < nD) ∧
  ((k0_dev97 v17) < nD) ∧
  ((k0_dev99 v17) < nD) ∧
  ((k0_dev101 v17) < nD) ∧
  ((k0_dev103 v17) < nD) ∧
  ((k0_dev105 v17) < nD) ∧
  ((k0_dev107 v17) < nD) ∧
  ((k0_dev109 v17) < nD) ∧
  ((k0_dev111 v17) < nD) ∧
  ((k0_dev113 v17) < nD) ∧
  ((k0_dev115 v17) < nD) ∧
  ((k0_dev117 v17) < nD) ∧
  ((k0_dev119 v17) < nD) ∧
  ((k0_dev121 v17) < nD)
def k0_chk3 (v17 : BitVec 32) : Prop :=
  k0_chk3_0 v17 ∧
  k0_chk3_1 v17
theorem k0_dev2_lt : ∀ (v17 : BitVec 32) (k0_hw3 : k0_chk3 v17), (k0_dev2 v17) < nD := fun v17 k0_hw3 => k0_hw3.1.1
theorem k0_dev3_lt : ∀ (v17 : BitVec 32) (k0_hw3 : k0_chk3 v17), (k0_dev3 v17) < nD := fun v17 k0_hw3 => k0_hw3.1.2.1
theorem k0_dev5_lt : ∀ (v17 : BitVec 32) (k0_hw3 : k0_chk3 v17), (k0_dev5 v17) < nD := fun v17 k0_hw3 => k0_hw3.1.2.2.1
theorem k0_dev7_lt : ∀ (v17 : BitVec 32) (k0_hw3 : k0_chk3 v17), (k0_dev7 v17) < nD := fun v17 k0_hw3 => k0_hw3.1.2.2.2.1
theorem k0_dev9_lt : ∀ (v17 : BitVec 32) (k0_hw3 : k0_chk3 v17), (k0_dev9 v17) < nD := fun v17 k0_hw3 => k0_hw3.1.2.2.2.2.1
theorem k0_dev11_lt : ∀ (v17 : BitVec 32) (k0_hw3 : k0_chk3 v17), (k0_dev11 v17) < nD := fun v17 k0_hw3 => k0_hw3.1.2.2.2.2.2.1
theorem k0_dev13_lt : ∀ (v17 : BitVec 32) (k0_hw3 : k0_chk3 v17), (k0_dev13 v17) < nD := fun v17 k0_hw3 => k0_hw3.1.2.2.2.2.2.2.1
theorem k0_dev15_lt : ∀ (v17 : BitVec 32) (k0_hw3 : k0_chk3 v17), (k0_dev15 v17) < nD := fun v17 k0_hw3 => k0_hw3.1.2.2.2.2.2.2.2.1
theorem k0_dev17_lt : ∀ (v17 : BitVec 32) (k0_hw3 : k0_chk3 v17), (k0_dev17 v17) < nD := fun v17 k0_hw3 => k0_hw3.1.2.2.2.2.2.2.2.2.1
theorem k0_dev19_lt : ∀ (v17 : BitVec 32) (k0_hw3 : k0_chk3 v17), (k0_dev19 v17) < nD := fun v17 k0_hw3 => k0_hw3.1.2.2.2.2.2.2.2.2.2.1
theorem k0_dev21_lt : ∀ (v17 : BitVec 32) (k0_hw3 : k0_chk3 v17), (k0_dev21 v17) < nD := fun v17 k0_hw3 => k0_hw3.1.2.2.2.2.2.2.2.2.2.2.1
theorem k0_dev23_lt : ∀ (v17 : BitVec 32) (k0_hw3 : k0_chk3 v17), (k0_dev23 v17) < nD := fun v17 k0_hw3 => k0_hw3.1.2.2.2.2.2.2.2.2.2.2.2.1
theorem k0_dev25_lt : ∀ (v17 : BitVec 32) (k0_hw3 : k0_chk3 v17), (k0_dev25 v17) < nD := fun v17 k0_hw3 => k0_hw3.1.2.2.2.2.2.2.2.2.2.2.2.2.1
theorem k0_dev27_lt : ∀ (v17 : BitVec 32) (k0_hw3 : k0_chk3 v17), (k0_dev27 v17) < nD := fun v17 k0_hw3 => k0_hw3.1.2.2.2.2.2.2.2.2.2.2.2.2.2.1
theorem k0_dev29_lt : ∀ (v17 : BitVec 32) (k0_hw3 : k0_chk3 v17), (k0_dev29 v17) < nD := fun v17 k0_hw3 => k0_hw3.1.2.2.2.2.2.2.2.2.2.2.2.2.2.2.1
theorem k0_dev31_lt : ∀ (v17 : BitVec 32) (k0_hw3 : k0_chk3 v17), (k0_dev31 v17) < nD := fun v17 k0_hw3 => k0_hw3.1.2.2.2.2.2.2.2.2.2.2.2.2.2.2.2.1
theorem k0_dev33_lt : ∀ (v17 : BitVec 32) (k0_hw3 : k0_chk3 v17), (k0_dev33 v17) < nD := fun v17 k0_hw3 => k0_hw3.1.2.2.2.2.2.2.2.2.2.2.2.2.2.2.2.2.1
theorem k0_dev35_lt : ∀ (v17 : BitVec 32) (k0_hw3 : k0_chk3 v17), (k0_dev35 v17) < nD := fun v17 k0_hw3 => k0_hw3.1.2.2.2.2.2.2.2.2.2.2.2.2.2.2.2.2.2.1
theorem k0_dev37_lt : ∀ (v17 : BitVec 32) (k0_hw3 : k0_chk3 v17), (k0_dev37 v17) < nD := fun v17 k0_hw3 => k0_hw3.1.2.2.2.2.2.2.2.2.2.2.2.2.2.2.2.2.2.2.1
theorem k0_dev39_lt : ∀ (v17 : BitVec 32) (k0_hw3 : k0_chk3 v17), (k0_dev39 v17) < nD := fun v17 k0_hw3 => k0_hw3.1.2.2.2.2.2.2.2.2.2.2.2.2.2.2.2.2.2.2.2.1
theorem k0_dev41_lt : ∀ (v17 : BitVec 32) (k0_hw3 : k0_chk3 v17), (k0_dev41 v17) < nD := fun v17 k0_hw3 => k0_hw3.1.2.2.2.2.2.2.2.2.2.2.2.2.2.2.2.2.2.2.2.2.1
theorem k0_dev43_lt : ∀ (v17 : BitVec 32) (k0_hw3 : k0_chk3 v17), (k0_dev43 v17) < nD := fun v17 k0_hw3 => k0_hw3.1.2.2.2.2.2.2.2.2.2.2.2.2.2.2.2.2.2.2.2.2.2.1
theorem k0_dev45_lt : ∀ (v17 : BitVec 32) (k0_hw3 : k0_chk3 v17), (k0_dev45 v17) < nD := fun v17 k0_hw3 => k0_hw3.1.2.2.2.2.2.2.2.2.2.2.2.2.2.2.2.2.2.2.2.2.2.2.1
theorem k0_dev47_lt : ∀ (v17 : BitVec 32) (k0_hw3 : k0_chk3 v17), (k0_dev47 v17) < nD := fun v17 k0_hw3 => k0_hw3.1.2.2.2.2.2.2.2.2.2.2.2.2.2.2.2.2.2.2.2.2.2.2.2.1
theorem k0_dev49_lt : ∀ (v17 : BitVec 32) (k0_hw3 : k0_chk3 v17), (k0_dev49 v17) < nD := fun v17 k0_hw3 => k0_hw3.1.2.2.2.2.2.2.2.2.2.2.2.2.2.2.2.2.2.2.2.2.2.2.2.2.1
theorem k0_dev51_lt : ∀ (v17 : BitVec 32) (k0_hw3 : k0_chk3 v17), (k0_dev51 v17) < nD := fun v17 k0_hw3 => k0_hw3.1.2.2.2.2.2.2.2.2.2.2.2.2.2.2.2.2.2.2.2.2.2.2.2.2.2.1
theorem k0_dev53_lt : ∀ (v17 : BitVec 32) (k0_hw3 : k0_chk3 v17), (k0_dev53 v17) < nD := fun v17 k0_hw3 => k0_hw3.1.2.2.2.2.2.2.2.2.2.2.2.2.2.2.2.2.2.2.2.2.2.2.2.2.2.2.1
theorem k0_dev55_lt : ∀ (v17 : BitVec 32) (k0_hw3 : k0_chk3 v17), (k0_dev55 v17) < nD := fun v17 k0_hw3 => k0_hw3.1.2.2.2.2.2.2.2.2.2.2.2.2.2.2.2.2.2.2.2.2.2.2.2.2.2.2.2.1
theorem k0_dev57_lt : ∀ (v17 : BitVec 32) (k0_hw3 : k0_chk3 v17), (k0_dev57 v17) < nD := fun v17 k0_hw3 => k0_hw3.1.2.2.2.2.2.2.2.2.2.2.2.2.2.2.2.2.2.2.2.2.2.2.2.2.2.2.2.2.1
theorem k0_dev59_lt : ∀ (v17 : BitVec 32) (k0_hw3 : k0_chk3 v17), (k0_dev59 v17) < nD := fun v17 k0_hw3 => k0_hw3.1.2.2.2.2.2.2.2.2.2.2.2.2.2.2.2.2.2.2.2.2.2.2.2.2.2.2.2.2.2.1
theorem k0_dev61_lt : ∀ (v17 : BitVec 32) (k0_hw3 : k0_chk3 v17), (k0_dev61 v17) < nD := fun v17 k0_hw3 => k0_hw3.1.2.2.2.2.2.2.2.2.2.2.2.2.2.2.2.2.2.2.2.2.2.2.2.2.2.2.2.2.2.2.1
theorem k0_dev63_lt : ∀ (v17 : BitVec 32) (k0_hw3 : k0_chk3 v17), (k0_dev63 v17) < nD := fun v17 k0_hw3 => k0_hw3.1.2.2.2.2.2.2.2.2.2.2.2.2.2.2.2.2.2.2.2.2.2.2.2.2.2.2.2.2.2.2.2
theorem k0_dev65_lt : ∀ (v17 : BitVec 32) (k0_hw3 : k0_chk3 v17), (k0_dev65 v17) < nD := fun v17 k0_hw3 => k0_hw3.2.1
theorem k0_dev67_lt : ∀ (v17 : BitVec 32) (k0_hw3 : k0_chk3 v17), (k0_dev67 v17) < nD := fun v17 k0_hw3 => k0_hw3.2.2.1
theorem k0_dev69_lt : ∀ (v17 : BitVec 32) (k0_hw3 : k0_chk3 v17), (k0_dev69 v17) < nD := fun v17 k0_hw3 => k0_hw3.2.2.2.1
theorem k0_dev71_lt : ∀ (v17 : BitVec 32) (k0_hw3 : k0_chk3 v17), (k0_dev71 v17) < nD := fun v17 k0_hw3 => k0_hw3.2.2.2.2.1
theorem k0_dev73_lt : ∀ (v17 : BitVec 32) (k0_hw3 : k0_chk3 v17), (k0_dev73 v17) < nD := fun v17 k0_hw3 => k0_hw3.2.2.2.2.2.1
theorem k0_dev75_lt : ∀ (v17 : BitVec 32) (k0_hw3 : k0_chk3 v17), (k0_dev75 v17) < nD := fun v17 k0_hw3 => k0_hw3.2.2.2.2.2.2.1
theorem k0_dev77_lt : ∀ (v17 : BitVec 32) (k0_hw3 : k0_chk3 v17), (k0_dev77 v17) < nD := fun v17 k0_hw3 => k0_hw3.2.2.2.2.2.2.2.1
theorem k0_dev79_lt : ∀ (v17 : BitVec 32) (k0_hw3 : k0_chk3 v17), (k0_dev79 v17) < nD := fun v17 k0_hw3 => k0_hw3.2.2.2.2.2.2.2.2.1
theorem k0_dev81_lt : ∀ (v17 : BitVec 32) (k0_hw3 : k0_chk3 v17), (k0_dev81 v17) < nD := fun v17 k0_hw3 => k0_hw3.2.2.2.2.2.2.2.2.2.1
theorem k0_dev83_lt : ∀ (v17 : BitVec 32) (k0_hw3 : k0_chk3 v17), (k0_dev83 v17) < nD := fun v17 k0_hw3 => k0_hw3.2.2.2.2.2.2.2.2.2.2.1
theorem k0_dev85_lt : ∀ (v17 : BitVec 32) (k0_hw3 : k0_chk3 v17), (k0_dev85 v17) < nD := fun v17 k0_hw3 => k0_hw3.2.2.2.2.2.2.2.2.2.2.2.1
theorem k0_dev87_lt : ∀ (v17 : BitVec 32) (k0_hw3 : k0_chk3 v17), (k0_dev87 v17) < nD := fun v17 k0_hw3 => k0_hw3.2.2.2.2.2.2.2.2.2.2.2.2.1
theorem k0_dev89_lt : ∀ (v17 : BitVec 32) (k0_hw3 : k0_chk3 v17), (k0_dev89 v17) < nD := fun v17 k0_hw3 => k0_hw3.2.2.2.2.2.2.2.2.2.2.2.2.2.1
theorem k0_dev91_lt : ∀ (v17 : BitVec 32) (k0_hw3 : k0_chk3 v17), (k0_dev91 v17) < nD := fun v17 k0_hw3 => k0_hw3.2.2.2.2.2.2.2.2.2.2.2.2.2.2.1
theorem k0_dev93_lt : ∀ (v17 : BitVec 32) (k0_hw3 : k0_chk3 v17), (k0_dev93 v17) < nD := fun v17 k0_hw3 => k0_hw3.2.2.2.2.2.2.2.2.2.2.2.2.2.2.2.1
theorem k0_dev95_lt : ∀ (v17 : BitVec 32) (k0_hw3 : k0_chk3 v17), (k0_dev95 v17) < nD := fun v17 k0_hw3 => k0_hw3.2.2.2.2.2.2.2.2.2.2.2.2.2.2.2.2.1
theorem k0_dev97_lt : ∀ (v17 : BitVec 32) (k0_hw3 : k0_chk3 v17), (k0_dev97 v17) < nD := fun v17 k0_hw3 => k0_hw3.2.2.2.2.2.2.2.2.2.2.2.2.2.2.2.2.2.1
theorem k0_dev99_lt : ∀ (v17 : BitVec 32) (k0_hw3 : k0_chk3 v17), (k0_dev99 v17) < nD := fun v17 k0_hw3 => k0_hw3.2.2.2.2.2.2.2.2.2.2.2.2.2.2.2.2.2.2.1
theorem k0_dev101_lt : ∀ (v17 : BitVec 32) (k0_hw3 : k0_chk3 v17), (k0_dev101 v17) < nD := fun v17 k0_hw3 => k0_hw3.2.2.2.2.2.2.2.2.2.2.2.2.2.2.2.2.2.2.2.1
theorem k0_dev103_lt : ∀ (v17 : BitVec 32) (k0_hw3 : k0_chk3 v17), (k0_dev103 v17) < nD := fun v17 k0_hw3 => k0_hw3.2.2.2.2.2.2.2.2.2.2.2.2.2.2.2.2.2.2.2.2.1
theorem k0_dev105_lt : ∀ (v17 : BitVec 32) (k0_hw3 : k0_chk3 v17), (k0_dev105 v17) < nD := fun v17 k0_hw3 => k0_hw3.2.2.2.2.2.2.2.2.2.2.2.2.2.2.2.2.2.2.2.2.2.1
theorem k0_dev107_lt : ∀ (v17 : BitVec 32) (k0_hw3 : k0_chk3 v17), (k0_dev107 v17) < nD := fun v17 k0_hw3 => k0_hw3.2.2.2.2.2.2.2.2.2.2.2.2.2.2.2.2.2.2.2.2.2.2.1
theorem k0_dev109_lt : ∀ (v17 : BitVec 32) (k0_hw3 : k0_chk3 v17), (k0_dev109 v17) < nD := fun v17 k0_hw3 => k0_hw3.2.2.2.2.2.2.2.2.2.2.2.2.2.2.2.2.2.2.2.2.2.2.2.1
theorem k0_dev111_lt : ∀ (v17 : BitVec 32) (k0_hw3 : k0_chk3 v17), (k0_dev111 v17) < nD := fun v17 k0_hw3 => k0_hw3.2.2.2.2.2.2.2.2.2.2.2.2.2.2.2.2.2.2.2.2.2.2.2.2.1
theorem k0_dev113_lt : ∀ (v17 : BitVec 32) (k0_hw3 : k0_chk3 v17), (k0_dev113 v17) < nD := fun v17 k0_hw3 => k0_hw3.2.2.2.2.2.2.2.2.2.2.2.2.2.2.2.2.2.2.2.2.2.2.2.2.2.1
theorem k0_dev115_lt : ∀ (v17 : BitVec 32) (k0_hw3 : k0_chk3 v17), (k0_dev115 v17) < nD := fun v17 k0_hw3 => k0_hw3.2.2.2.2.2.2.2.2.2.2.2.2.2.2.2.2.2.2.2.2.2.2.2.2.2.2.1
theorem k0_dev117_lt : ∀ (v17 : BitVec 32) (k0_hw3 : k0_chk3 v17), (k0_dev117 v17) < nD := fun v17 k0_hw3 => k0_hw3.2.2.2.2.2.2.2.2.2.2.2.2.2.2.2.2.2.2.2.2.2.2.2.2.2.2.2.1
theorem k0_dev119_lt : ∀ (v17 : BitVec 32) (k0_hw3 : k0_chk3 v17), (k0_dev119 v17) < nD := fun v17 k0_hw3 => k0_hw3.2.2.2.2.2.2.2.2.2.2.2.2.2.2.2.2.2.2.2.2.2.2.2.2.2.2.2.2.1
theorem k0_dev121_lt : ∀ (v17 : BitVec 32) (k0_hw3 : k0_chk3 v17), (k0_dev121 v17) < nD := fun v17 k0_hw3 => k0_hw3.2.2.2.2.2.2.2.2.2.2.2.2.2.2.2.2.2.2.2.2.2.2.2.2.2.2.2.2.2

def k0_dev122 (v31 : BitVec 32) : Nat :=
  let c0_i32_5245 : BitVec 32 := 0#32
  let c1_i32_5244 : BitVec 32 := 1#32
  let v4443 : BitVec 32 := Scalar.muli v31 c1_i32_5244
  let v4444 : BitVec 32 := Scalar.addi c0_i32_5245 v4443
  v4444.toNat

def k0_chk2_0 (v31 : BitVec 32) : Prop :=
  ((k0_dev1 v31) < nD) ∧
  ((k0_dev4 v31) < nD) ∧
  ((k0_dev6 v31) < nD) ∧
  ((k0_dev8 v31) < nD) ∧
  ((k0_dev10 v31) < nD) ∧
  ((k0_dev12 v31) < nD) ∧
  ((k0_dev14 v31) < nD) ∧
  ((k0_dev16 v31) < nD) ∧
  ((k0_dev18 v31) < nD) ∧
  ((k0_dev20 v31) < nD) ∧
  ((k0_dev22 v31) < nD) ∧
  ((k0_dev24 v31) < nD) ∧
  ((k0_dev26 v31) < nD) ∧
  ((k0_dev28 v31) < nD) ∧
  ((k0_dev30 v31) < nD) ∧
  ((k0_dev32 v31) < nD) ∧
  ((k0_dev34 v31) < nD) ∧
  ((k0_dev36 v31) < nD) ∧
  ((k0_dev38 v31) < nD) ∧
  ((k0_dev40 v31) < nD) ∧
  ((k0_dev42 v31) < nD) ∧
  ((k0_dev44 v31) < nD) ∧
  ((k0_dev46 v31) < nD) ∧
  ((k0_dev48 v31) < nD) ∧
  ((k0_dev50 v31) < nD) ∧
  ((k0_dev52 v31) < nD) ∧
  ((k0_dev54 v31) < nD) ∧
  ((k0_dev56 v31) < nD) ∧
  ((k0_dev58 v31) < nD) ∧
  ((k0_dev60 v31) < nD) ∧
  ((k0_dev62 v31) < nD) ∧
  ((k0_dev64 v31) < nD)
def k0_chk2_1 (v31 : BitVec 32) : Prop :=
  ((k0_dev66 v31) < nD) ∧
  ((k0_dev68 v31) < nD) ∧
  ((k0_dev70 v31) < nD) ∧
  ((k0_dev72 v31) < nD) ∧
  ((k0_dev74 v31) < nD) ∧
  ((k0_dev76 v31) < nD) ∧
  ((k0_dev78 v31) < nD) ∧
  ((k0_dev80 v31) < nD) ∧
  ((k0_dev82 v31) < nD) ∧
  ((k0_dev84 v31) < nD) ∧
  ((k0_dev86 v31) < nD) ∧
  ((k0_dev88 v31) < nD) ∧
  ((k0_dev90 v31) < nD) ∧
  ((k0_dev92 v31) < nD) ∧
  ((k0_dev94 v31) < nD) ∧
  ((k0_dev96 v31) < nD) ∧
  ((k0_dev98 v31) < nD) ∧
  ((k0_dev100 v31) < nD) ∧
  ((k0_dev102 v31) < nD) ∧
  ((k0_dev104 v31) < nD) ∧
  ((k0_dev106 v31) < nD) ∧
  ((k0_dev108 v31) < nD) ∧
  ((k0_dev110 v31) < nD) ∧
  ((k0_dev112 v31) < nD) ∧
  ((k0_dev114 v31) < nD) ∧
  ((k0_dev116 v31) < nD) ∧
  ((k0_dev118 v31) < nD) ∧
  ((k0_dev120 v31) < nD) ∧
  ((k0_dev122 v31) < nD)
def k0_chk2 (v31 : BitVec 32) : Prop :=
  k0_chk2_0 v31 ∧
  k0_chk2_1 v31
theorem k0_dev1_lt : ∀ (v31 : BitVec 32) (k0_hw2 : k0_chk2 v31), (k0_dev1 v31) < nD := fun v31 k0_hw2 => k0_hw2.1.1
theorem k0_dev4_lt : ∀ (v31 : BitVec 32) (k0_hw2 : k0_chk2 v31), (k0_dev4 v31) < nD := fun v31 k0_hw2 => k0_hw2.1.2.1
theorem k0_dev6_lt : ∀ (v31 : BitVec 32) (k0_hw2 : k0_chk2 v31), (k0_dev6 v31) < nD := fun v31 k0_hw2 => k0_hw2.1.2.2.1
theorem k0_dev8_lt : ∀ (v31 : BitVec 32) (k0_hw2 : k0_chk2 v31), (k0_dev8 v31) < nD := fun v31 k0_hw2 => k0_hw2.1.2.2.2.1
theorem k0_dev10_lt : ∀ (v31 : BitVec 32) (k0_hw2 : k0_chk2 v31), (k0_dev10 v31) < nD := fun v31 k0_hw2 => k0_hw2.1.2.2.2.2.1
theorem k0_dev12_lt : ∀ (v31 : BitVec 32) (k0_hw2 : k0_chk2 v31), (k0_dev12 v31) < nD := fun v31 k0_hw2 => k0_hw2.1.2.2.2.2.2.1
theorem k0_dev14_lt : ∀ (v31 : BitVec 32) (k0_hw2 : k0_chk2 v31), (k0_dev14 v31) < nD := fun v31 k0_hw2 => k0_hw2.1.2.2.2.2.2.2.1
theorem k0_dev16_lt : ∀ (v31 : BitVec 32) (k0_hw2 : k0_chk2 v31), (k0_dev16 v31) < nD := fun v31 k0_hw2 => k0_hw2.1.2.2.2.2.2.2.2.1
theorem k0_dev18_lt : ∀ (v31 : BitVec 32) (k0_hw2 : k0_chk2 v31), (k0_dev18 v31) < nD := fun v31 k0_hw2 => k0_hw2.1.2.2.2.2.2.2.2.2.1
theorem k0_dev20_lt : ∀ (v31 : BitVec 32) (k0_hw2 : k0_chk2 v31), (k0_dev20 v31) < nD := fun v31 k0_hw2 => k0_hw2.1.2.2.2.2.2.2.2.2.2.1
theorem k0_dev22_lt : ∀ (v31 : BitVec 32) (k0_hw2 : k0_chk2 v31), (k0_dev22 v31) < nD := fun v31 k0_hw2 => k0_hw2.1.2.2.2.2.2.2.2.2.2.2.1
theorem k0_dev24_lt : ∀ (v31 : BitVec 32) (k0_hw2 : k0_chk2 v31), (k0_dev24 v31) < nD := fun v31 k0_hw2 => k0_hw2.1.2.2.2.2.2.2.2.2.2.2.2.1
theorem k0_dev26_lt : ∀ (v31 : BitVec 32) (k0_hw2 : k0_chk2 v31), (k0_dev26 v31) < nD := fun v31 k0_hw2 => k0_hw2.1.2.2.2.2.2.2.2.2.2.2.2.2.1
theorem k0_dev28_lt : ∀ (v31 : BitVec 32) (k0_hw2 : k0_chk2 v31), (k0_dev28 v31) < nD := fun v31 k0_hw2 => k0_hw2.1.2.2.2.2.2.2.2.2.2.2.2.2.2.1
theorem k0_dev30_lt : ∀ (v31 : BitVec 32) (k0_hw2 : k0_chk2 v31), (k0_dev30 v31) < nD := fun v31 k0_hw2 => k0_hw2.1.2.2.2.2.2.2.2.2.2.2.2.2.2.2.1
theorem k0_dev32_lt : ∀ (v31 : BitVec 32) (k0_hw2 : k0_chk2 v31), (k0_dev32 v31) < nD := fun v31 k0_hw2 => k0_hw2.1.2.2.2.2.2.2.2.2.2.2.2.2.2.2.2.1
theorem k0_dev34_lt : ∀ (v31 : BitVec 32) (k0_hw2 : k0_chk2 v31), (k0_dev34 v31) < nD := fun v31 k0_hw2 => k0_hw2.1.2.2.2.2.2.2.2.2.2.2.2.2.2.2.2.2.1
theorem k0_dev36_lt : ∀ (v31 : BitVec 32) (k0_hw2 : k0_chk2 v31), (k0_dev36 v31) < nD := fun v31 k0_hw2 => k0_hw2.1.2.2.2.2.2.2.2.2.2.2.2.2.2.2.2.2.2.1
theorem k0_dev38_lt : ∀ (v31 : BitVec 32) (k0_hw2 : k0_chk2 v31), (k0_dev38 v31) < nD := fun v31 k0_hw2 => k0_hw2.1.2.2.2.2.2.2.2.2.2.2.2.2.2.2.2.2.2.2.1
theorem k0_dev40_lt : ∀ (v31 : BitVec 32) (k0_hw2 : k0_chk2 v31), (k0_dev40 v31) < nD := fun v31 k0_hw2 => k0_hw2.1.2.2.2.2.2.2.2.2.2.2.2.2.2.2.2.2.2.2.2.1
theorem k0_dev42_lt : ∀ (v31 : BitVec 32) (k0_hw2 : k0_chk2 v31), (k0_dev42 v31) < nD := fun v31 k0_hw2 => k0_hw2.1.2.2.2.2.2.2.2.2.2.2.2.2.2.2.2.2.2.2.2.2.1
theorem k0_dev44_lt : ∀ (v31 : BitVec 32) (k0_hw2 : k0_chk2 v31), (k0_dev44 v31) < nD := fun v31 k0_hw2 => k0_hw2.1.2.2.2.2.2.2.2.2.2.2.2.2.2.2.2.2.2.2.2.2.2.1
theorem k0_dev46_lt : ∀ (v31 : BitVec 32) (k0_hw2 : k0_chk2 v31), (k0_dev46 v31) < nD := fun v31 k0_hw2 => k0_hw2.1.2.2.2.2.2.2.2.2.2.2.2.2.2.2.2.2.2.2.2.2.2.2.1
theorem k0_dev48_lt : ∀ (v31 : BitVec 32) (k0_hw2 : k0_chk2 v31), (k0_dev48 v31) < nD := fun v31 k0_hw2 => k0_hw2.1.2.2.2.2.2.2.2.2.2.2.2.2.2.2.2.2.2.2.2.2.2.2.2.1
theorem k0_dev50_lt : ∀ (v31 : BitVec 32) (k0_hw2 : k0_chk2 v31), (k0_dev50 v31) < nD := fun v31 k0_hw2 => k0_hw2.1.2.2.2.2.2.2.2.2.2.2.2.2.2.2.2.2.2.2.2.2.2.2.2.2.1
theorem k0_dev52_lt : ∀ (v31 : BitVec 32) (k0_hw2 : k0_chk2 v31), (k0_dev52 v31) < nD := fun v31 k0_hw2 => k0_hw2.1.2.2.2.2.2.2.2.2.2.2.2.2.2.2.2.2.2.2.2.2.2.2.2.2.2.1
theorem k0_dev54_lt : ∀ (v31 : BitVec 32) (k0_hw2 : k0_chk2 v31), (k0_dev54 v31) < nD := fun v31 k0_hw2 => k0_hw2.1.2.2.2.2.2.2.2.2.2.2.2.2.2.2.2.2.2.2.2.2.2.2.2.2.2.2.1
theorem k0_dev56_lt : ∀ (v31 : BitVec 32) (k0_hw2 : k0_chk2 v31), (k0_dev56 v31) < nD := fun v31 k0_hw2 => k0_hw2.1.2.2.2.2.2.2.2.2.2.2.2.2.2.2.2.2.2.2.2.2.2.2.2.2.2.2.2.1
theorem k0_dev58_lt : ∀ (v31 : BitVec 32) (k0_hw2 : k0_chk2 v31), (k0_dev58 v31) < nD := fun v31 k0_hw2 => k0_hw2.1.2.2.2.2.2.2.2.2.2.2.2.2.2.2.2.2.2.2.2.2.2.2.2.2.2.2.2.2.1
theorem k0_dev60_lt : ∀ (v31 : BitVec 32) (k0_hw2 : k0_chk2 v31), (k0_dev60 v31) < nD := fun v31 k0_hw2 => k0_hw2.1.2.2.2.2.2.2.2.2.2.2.2.2.2.2.2.2.2.2.2.2.2.2.2.2.2.2.2.2.2.1
theorem k0_dev62_lt : ∀ (v31 : BitVec 32) (k0_hw2 : k0_chk2 v31), (k0_dev62 v31) < nD := fun v31 k0_hw2 => k0_hw2.1.2.2.2.2.2.2.2.2.2.2.2.2.2.2.2.2.2.2.2.2.2.2.2.2.2.2.2.2.2.2.1
theorem k0_dev64_lt : ∀ (v31 : BitVec 32) (k0_hw2 : k0_chk2 v31), (k0_dev64 v31) < nD := fun v31 k0_hw2 => k0_hw2.1.2.2.2.2.2.2.2.2.2.2.2.2.2.2.2.2.2.2.2.2.2.2.2.2.2.2.2.2.2.2.2
theorem k0_dev66_lt : ∀ (v31 : BitVec 32) (k0_hw2 : k0_chk2 v31), (k0_dev66 v31) < nD := fun v31 k0_hw2 => k0_hw2.2.1
theorem k0_dev68_lt : ∀ (v31 : BitVec 32) (k0_hw2 : k0_chk2 v31), (k0_dev68 v31) < nD := fun v31 k0_hw2 => k0_hw2.2.2.1
theorem k0_dev70_lt : ∀ (v31 : BitVec 32) (k0_hw2 : k0_chk2 v31), (k0_dev70 v31) < nD := fun v31 k0_hw2 => k0_hw2.2.2.2.1
theorem k0_dev72_lt : ∀ (v31 : BitVec 32) (k0_hw2 : k0_chk2 v31), (k0_dev72 v31) < nD := fun v31 k0_hw2 => k0_hw2.2.2.2.2.1
theorem k0_dev74_lt : ∀ (v31 : BitVec 32) (k0_hw2 : k0_chk2 v31), (k0_dev74 v31) < nD := fun v31 k0_hw2 => k0_hw2.2.2.2.2.2.1
theorem k0_dev76_lt : ∀ (v31 : BitVec 32) (k0_hw2 : k0_chk2 v31), (k0_dev76 v31) < nD := fun v31 k0_hw2 => k0_hw2.2.2.2.2.2.2.1
theorem k0_dev78_lt : ∀ (v31 : BitVec 32) (k0_hw2 : k0_chk2 v31), (k0_dev78 v31) < nD := fun v31 k0_hw2 => k0_hw2.2.2.2.2.2.2.2.1
theorem k0_dev80_lt : ∀ (v31 : BitVec 32) (k0_hw2 : k0_chk2 v31), (k0_dev80 v31) < nD := fun v31 k0_hw2 => k0_hw2.2.2.2.2.2.2.2.2.1
theorem k0_dev82_lt : ∀ (v31 : BitVec 32) (k0_hw2 : k0_chk2 v31), (k0_dev82 v31) < nD := fun v31 k0_hw2 => k0_hw2.2.2.2.2.2.2.2.2.2.1
theorem k0_dev84_lt : ∀ (v31 : BitVec 32) (k0_hw2 : k0_chk2 v31), (k0_dev84 v31) < nD := fun v31 k0_hw2 => k0_hw2.2.2.2.2.2.2.2.2.2.2.1
theorem k0_dev86_lt : ∀ (v31 : BitVec 32) (k0_hw2 : k0_chk2 v31), (k0_dev86 v31) < nD := fun v31 k0_hw2 => k0_hw2.2.2.2.2.2.2.2.2.2.2.2.1
theorem k0_dev88_lt : ∀ (v31 : BitVec 32) (k0_hw2 : k0_chk2 v31), (k0_dev88 v31) < nD := fun v31 k0_hw2 => k0_hw2.2.2.2.2.2.2.2.2.2.2.2.2.1
theorem k0_dev90_lt : ∀ (v31 : BitVec 32) (k0_hw2 : k0_chk2 v31), (k0_dev90 v31) < nD := fun v31 k0_hw2 => k0_hw2.2.2.2.2.2.2.2.2.2.2.2.2.2.1
theorem k0_dev92_lt : ∀ (v31 : BitVec 32) (k0_hw2 : k0_chk2 v31), (k0_dev92 v31) < nD := fun v31 k0_hw2 => k0_hw2.2.2.2.2.2.2.2.2.2.2.2.2.2.2.1
theorem k0_dev94_lt : ∀ (v31 : BitVec 32) (k0_hw2 : k0_chk2 v31), (k0_dev94 v31) < nD := fun v31 k0_hw2 => k0_hw2.2.2.2.2.2.2.2.2.2.2.2.2.2.2.2.1
theorem k0_dev96_lt : ∀ (v31 : BitVec 32) (k0_hw2 : k0_chk2 v31), (k0_dev96 v31) < nD := fun v31 k0_hw2 => k0_hw2.2.2.2.2.2.2.2.2.2.2.2.2.2.2.2.2.1
theorem k0_dev98_lt : ∀ (v31 : BitVec 32) (k0_hw2 : k0_chk2 v31), (k0_dev98 v31) < nD := fun v31 k0_hw2 => k0_hw2.2.2.2.2.2.2.2.2.2.2.2.2.2.2.2.2.2.1
theorem k0_dev100_lt : ∀ (v31 : BitVec 32) (k0_hw2 : k0_chk2 v31), (k0_dev100 v31) < nD := fun v31 k0_hw2 => k0_hw2.2.2.2.2.2.2.2.2.2.2.2.2.2.2.2.2.2.2.1
theorem k0_dev102_lt : ∀ (v31 : BitVec 32) (k0_hw2 : k0_chk2 v31), (k0_dev102 v31) < nD := fun v31 k0_hw2 => k0_hw2.2.2.2.2.2.2.2.2.2.2.2.2.2.2.2.2.2.2.2.1
theorem k0_dev104_lt : ∀ (v31 : BitVec 32) (k0_hw2 : k0_chk2 v31), (k0_dev104 v31) < nD := fun v31 k0_hw2 => k0_hw2.2.2.2.2.2.2.2.2.2.2.2.2.2.2.2.2.2.2.2.2.1
theorem k0_dev106_lt : ∀ (v31 : BitVec 32) (k0_hw2 : k0_chk2 v31), (k0_dev106 v31) < nD := fun v31 k0_hw2 => k0_hw2.2.2.2.2.2.2.2.2.2.2.2.2.2.2.2.2.2.2.2.2.2.1
theorem k0_dev108_lt : ∀ (v31 : BitVec 32) (k0_hw2 : k0_chk2 v31), (k0_dev108 v31) < nD := fun v31 k0_hw2 => k0_hw2.2.2.2.2.2.2.2.2.2.2.2.2.2.2.2.2.2.2.2.2.2.2.1
theorem k0_dev110_lt : ∀ (v31 : BitVec 32) (k0_hw2 : k0_chk2 v31), (k0_dev110 v31) < nD := fun v31 k0_hw2 => k0_hw2.2.2.2.2.2.2.2.2.2.2.2.2.2.2.2.2.2.2.2.2.2.2.2.1
theorem k0_dev112_lt : ∀ (v31 : BitVec 32) (k0_hw2 : k0_chk2 v31), (k0_dev112 v31) < nD := fun v31 k0_hw2 => k0_hw2.2.2.2.2.2.2.2.2.2.2.2.2.2.2.2.2.2.2.2.2.2.2.2.2.1
theorem k0_dev114_lt : ∀ (v31 : BitVec 32) (k0_hw2 : k0_chk2 v31), (k0_dev114 v31) < nD := fun v31 k0_hw2 => k0_hw2.2.2.2.2.2.2.2.2.2.2.2.2.2.2.2.2.2.2.2.2.2.2.2.2.2.1
theorem k0_dev116_lt : ∀ (v31 : BitVec 32) (k0_hw2 : k0_chk2 v31), (k0_dev116 v31) < nD := fun v31 k0_hw2 => k0_hw2.2.2.2.2.2.2.2.2.2.2.2.2.2.2.2.2.2.2.2.2.2.2.2.2.2.2.1
theorem k0_dev118_lt : ∀ (v31 : BitVec 32) (k0_hw2 : k0_chk2 v31), (k0_dev118 v31) < nD := fun v31 k0_hw2 => k0_hw2.2.2.2.2.2.2.2.2.2.2.2.2.2.2.2.2.2.2.2.2.2.2.2.2.2.2.2.1
theorem k0_dev120_lt : ∀ (v31 : BitVec 32) (k0_hw2 : k0_chk2 v31), (k0_dev120 v31) < nD := fun v31 k0_hw2 => k0_hw2.2.2.2.2.2.2.2.2.2.2.2.2.2.2.2.2.2.2.2.2.2.2.2.2.2.2.2.2.1
theorem k0_dev122_lt : ∀ (v31 : BitVec 32) (k0_hw2 : k0_chk2 v31), (k0_dev122 v31) < nD := fun v31 k0_hw2 => k0_hw2.2.2.2.2.2.2.2.2.2.2.2.2.2.2.2.2.2.2.2.2.2.2.2.2.2.2.2.2.2

def k0_off64 (v4 : BitVec 32) : Fin 1 → Nat :=
  let c0_i32_5252 : BitVec 32 := 0#32
  let v4456 : BitVec 32 := Scalar.addi v4 c0_i32_5252
  let c16_i32_5253 : BitVec 32 := 16#32
  let c0_i32_5254 : BitVec 32 := 0#32
  let v4457 : BitVec 1 := Scalar.cmpi .eq c16_i32_5253 c0_i32_5254
  let c1_i32_5255 : BitVec 32 := 1#32
  let v4458 : BitVec 32 := Scalar.select v4457 c1_i32_5255 c16_i32_5253
  let v4459 : BitVec 32 := Scalar.remsi v4456 v4458
  let c0_i32_5257 : BitVec 32 := 0#32
  let v4461 : BitVec 1 := Scalar.cmpi .slt v4459 c0_i32_5257
  let c0_i32_5258 : BitVec 32 := 0#32
  let v4462 : BitVec 1 := Scalar.cmpi .slt v4458 c0_i32_5258
  let v4463 : BitVec 1 := Scalar.xori v4461 v4462
  let c0_i32_5256 : BitVec 32 := 0#32
  let v4460 : BitVec 1 := Scalar.cmpi .ne v4459 c0_i32_5256
  let v4464 : BitVec 1 := Scalar.andi v4463 v4460
  let v4465 : BitVec 32 := Scalar.addi v4459 v4458
  let v4466 : BitVec 32 := Scalar.select v4464 v4465 v4459
  let v4467 : Index := Scalar.indexCast v4466
  ![v4467.toNat]
def k0_off65 (v4468 : BitVec 32) : Fin 2 → Nat :=
  let c256_i32_5259 : BitVec 32 := 256#32
  let v4469 : BitVec 32 := Scalar.muli v4468 c256_i32_5259
  let v4470 : Index := Scalar.indexCast v4469
  let c0_5260 : Index := 0#32
  ![v4470.toNat, 0]

def k0_chk34 (v4468 : BitVec 32) : Prop :=
  (∀ a, (k0_off65 v4468) a + S256x256.size a ≤ S4096x256.size a)
theorem k0_off65_inb : ∀ (v4468 : BitVec 32) (k0_hw34 : k0_chk34 v4468), ∀ a, (k0_off65 v4468) a + S256x256.size a ≤ S4096x256.size a := fun v4468 k0_hw34 => k0_hw34

def k0_off66 (v4 : BitVec 32) : Fin 1 → Nat :=
  let c0_i32_5264 : BitVec 32 := 0#32
  let v4476 : BitVec 32 := Scalar.addi v4 c0_i32_5264
  let c16_i32_5265 : BitVec 32 := 16#32
  let c0_i32_5266 : BitVec 32 := 0#32
  let v4477 : BitVec 1 := Scalar.cmpi .eq c16_i32_5265 c0_i32_5266
  let c1_i32_5267 : BitVec 32 := 1#32
  let v4478 : BitVec 32 := Scalar.select v4477 c1_i32_5267 c16_i32_5265
  let v4479 : BitVec 32 := Scalar.remsi v4476 v4478
  let c0_i32_5269 : BitVec 32 := 0#32
  let v4481 : BitVec 1 := Scalar.cmpi .slt v4479 c0_i32_5269
  let c0_i32_5270 : BitVec 32 := 0#32
  let v4482 : BitVec 1 := Scalar.cmpi .slt v4478 c0_i32_5270
  let v4483 : BitVec 1 := Scalar.xori v4481 v4482
  let c0_i32_5268 : BitVec 32 := 0#32
  let v4480 : BitVec 1 := Scalar.cmpi .ne v4479 c0_i32_5268
  let v4484 : BitVec 1 := Scalar.andi v4483 v4480
  let v4485 : BitVec 32 := Scalar.addi v4479 v4478
  let v4486 : BitVec 32 := Scalar.select v4484 v4485 v4479
  let v4487 : Index := Scalar.indexCast v4486
  ![v4487.toNat]

def k0_chk1_0 (v4 : BitVec 32) : Prop :=
  (∀ a, (k0_off2 v4) a + S1.size a ≤ S16.size a) ∧
  (∀ a, (k0_off3 v4) a + S1.size a ≤ S16.size a) ∧
  (∀ a, (k0_off4 v4) a + S1.size a ≤ S16.size a) ∧
  (∀ a, (k0_off6 v4) a + S1.size a ≤ S16.size a) ∧
  (∀ a, (k0_off8 v4) a + S1.size a ≤ S16.size a) ∧
  (∀ a, (k0_off10 v4) a + S1.size a ≤ S16.size a) ∧
  (∀ a, (k0_off12 v4) a + S1.size a ≤ S16.size a) ∧
  (∀ a, (k0_off14 v4) a + S1.size a ≤ S16.size a) ∧
  (∀ a, (k0_off16 v4) a + S1.size a ≤ S16.size a) ∧
  (∀ a, (k0_off18 v4) a + S1.size a ≤ S16.size a) ∧
  (∀ a, (k0_off20 v4) a + S1.size a ≤ S16.size a) ∧
  (∀ a, (k0_off22 v4) a + S1.size a ≤ S16.size a) ∧
  (∀ a, (k0_off24 v4) a + S1.size a ≤ S16.size a) ∧
  (∀ a, (k0_off26 v4) a + S1.size a ≤ S16.size a) ∧
  (∀ a, (k0_off28 v4) a + S1.size a ≤ S16.size a) ∧
  (∀ a, (k0_off30 v4) a + S1.size a ≤ S16.size a) ∧
  (∀ a, (k0_off32 v4) a + S1.size a ≤ S16.size a) ∧
  (∀ a, (k0_off34 v4) a + S1.size a ≤ S16.size a) ∧
  (∀ a, (k0_off36 v4) a + S1.size a ≤ S16.size a) ∧
  (∀ a, (k0_off38 v4) a + S1.size a ≤ S16.size a) ∧
  (∀ a, (k0_off40 v4) a + S1.size a ≤ S16.size a) ∧
  (∀ a, (k0_off42 v4) a + S1.size a ≤ S16.size a) ∧
  (∀ a, (k0_off44 v4) a + S1.size a ≤ S16.size a) ∧
  (∀ a, (k0_off46 v4) a + S1.size a ≤ S16.size a) ∧
  (∀ a, (k0_off48 v4) a + S1.size a ≤ S16.size a) ∧
  (∀ a, (k0_off50 v4) a + S1.size a ≤ S16.size a) ∧
  (∀ a, (k0_off52 v4) a + S1.size a ≤ S16.size a) ∧
  (∀ a, (k0_off54 v4) a + S1.size a ≤ S16.size a) ∧
  (∀ a, (k0_off56 v4) a + S1.size a ≤ S16.size a) ∧
  (∀ a, (k0_off58 v4) a + S1.size a ≤ S16.size a) ∧
  (∀ a, (k0_off60 v4) a + S1.size a ≤ S16.size a) ∧
  (∀ a, (k0_off62 v4) a + S1.size a ≤ S16.size a)
def k0_chk1_1 (v4 : BitVec 32) : Prop :=
  (∀ a, (k0_off64 v4) a + S1.size a ≤ S16.size a) ∧
  (∀ a, (k0_off66 v4) a + S1.size a ≤ S16.size a)
def k0_chk1 (v4 : BitVec 32) : Prop :=
  k0_chk1_0 v4 ∧
  k0_chk1_1 v4
theorem k0_off2_inb : ∀ (v4 : BitVec 32) (k0_hw1 : k0_chk1 v4), ∀ a, (k0_off2 v4) a + S1.size a ≤ S16.size a := fun v4 k0_hw1 => k0_hw1.1.1
theorem k0_off3_inb : ∀ (v4 : BitVec 32) (k0_hw1 : k0_chk1 v4), ∀ a, (k0_off3 v4) a + S1.size a ≤ S16.size a := fun v4 k0_hw1 => k0_hw1.1.2.1
theorem k0_off4_inb : ∀ (v4 : BitVec 32) (k0_hw1 : k0_chk1 v4), ∀ a, (k0_off4 v4) a + S1.size a ≤ S16.size a := fun v4 k0_hw1 => k0_hw1.1.2.2.1
theorem k0_off6_inb : ∀ (v4 : BitVec 32) (k0_hw1 : k0_chk1 v4), ∀ a, (k0_off6 v4) a + S1.size a ≤ S16.size a := fun v4 k0_hw1 => k0_hw1.1.2.2.2.1
theorem k0_off8_inb : ∀ (v4 : BitVec 32) (k0_hw1 : k0_chk1 v4), ∀ a, (k0_off8 v4) a + S1.size a ≤ S16.size a := fun v4 k0_hw1 => k0_hw1.1.2.2.2.2.1
theorem k0_off10_inb : ∀ (v4 : BitVec 32) (k0_hw1 : k0_chk1 v4), ∀ a, (k0_off10 v4) a + S1.size a ≤ S16.size a := fun v4 k0_hw1 => k0_hw1.1.2.2.2.2.2.1
theorem k0_off12_inb : ∀ (v4 : BitVec 32) (k0_hw1 : k0_chk1 v4), ∀ a, (k0_off12 v4) a + S1.size a ≤ S16.size a := fun v4 k0_hw1 => k0_hw1.1.2.2.2.2.2.2.1
theorem k0_off14_inb : ∀ (v4 : BitVec 32) (k0_hw1 : k0_chk1 v4), ∀ a, (k0_off14 v4) a + S1.size a ≤ S16.size a := fun v4 k0_hw1 => k0_hw1.1.2.2.2.2.2.2.2.1
theorem k0_off16_inb : ∀ (v4 : BitVec 32) (k0_hw1 : k0_chk1 v4), ∀ a, (k0_off16 v4) a + S1.size a ≤ S16.size a := fun v4 k0_hw1 => k0_hw1.1.2.2.2.2.2.2.2.2.1
theorem k0_off18_inb : ∀ (v4 : BitVec 32) (k0_hw1 : k0_chk1 v4), ∀ a, (k0_off18 v4) a + S1.size a ≤ S16.size a := fun v4 k0_hw1 => k0_hw1.1.2.2.2.2.2.2.2.2.2.1
theorem k0_off20_inb : ∀ (v4 : BitVec 32) (k0_hw1 : k0_chk1 v4), ∀ a, (k0_off20 v4) a + S1.size a ≤ S16.size a := fun v4 k0_hw1 => k0_hw1.1.2.2.2.2.2.2.2.2.2.2.1
theorem k0_off22_inb : ∀ (v4 : BitVec 32) (k0_hw1 : k0_chk1 v4), ∀ a, (k0_off22 v4) a + S1.size a ≤ S16.size a := fun v4 k0_hw1 => k0_hw1.1.2.2.2.2.2.2.2.2.2.2.2.1
theorem k0_off24_inb : ∀ (v4 : BitVec 32) (k0_hw1 : k0_chk1 v4), ∀ a, (k0_off24 v4) a + S1.size a ≤ S16.size a := fun v4 k0_hw1 => k0_hw1.1.2.2.2.2.2.2.2.2.2.2.2.2.1
theorem k0_off26_inb : ∀ (v4 : BitVec 32) (k0_hw1 : k0_chk1 v4), ∀ a, (k0_off26 v4) a + S1.size a ≤ S16.size a := fun v4 k0_hw1 => k0_hw1.1.2.2.2.2.2.2.2.2.2.2.2.2.2.1
theorem k0_off28_inb : ∀ (v4 : BitVec 32) (k0_hw1 : k0_chk1 v4), ∀ a, (k0_off28 v4) a + S1.size a ≤ S16.size a := fun v4 k0_hw1 => k0_hw1.1.2.2.2.2.2.2.2.2.2.2.2.2.2.2.1
theorem k0_off30_inb : ∀ (v4 : BitVec 32) (k0_hw1 : k0_chk1 v4), ∀ a, (k0_off30 v4) a + S1.size a ≤ S16.size a := fun v4 k0_hw1 => k0_hw1.1.2.2.2.2.2.2.2.2.2.2.2.2.2.2.2.1
theorem k0_off32_inb : ∀ (v4 : BitVec 32) (k0_hw1 : k0_chk1 v4), ∀ a, (k0_off32 v4) a + S1.size a ≤ S16.size a := fun v4 k0_hw1 => k0_hw1.1.2.2.2.2.2.2.2.2.2.2.2.2.2.2.2.2.1
theorem k0_off34_inb : ∀ (v4 : BitVec 32) (k0_hw1 : k0_chk1 v4), ∀ a, (k0_off34 v4) a + S1.size a ≤ S16.size a := fun v4 k0_hw1 => k0_hw1.1.2.2.2.2.2.2.2.2.2.2.2.2.2.2.2.2.2.1
theorem k0_off36_inb : ∀ (v4 : BitVec 32) (k0_hw1 : k0_chk1 v4), ∀ a, (k0_off36 v4) a + S1.size a ≤ S16.size a := fun v4 k0_hw1 => k0_hw1.1.2.2.2.2.2.2.2.2.2.2.2.2.2.2.2.2.2.2.1
theorem k0_off38_inb : ∀ (v4 : BitVec 32) (k0_hw1 : k0_chk1 v4), ∀ a, (k0_off38 v4) a + S1.size a ≤ S16.size a := fun v4 k0_hw1 => k0_hw1.1.2.2.2.2.2.2.2.2.2.2.2.2.2.2.2.2.2.2.2.1
theorem k0_off40_inb : ∀ (v4 : BitVec 32) (k0_hw1 : k0_chk1 v4), ∀ a, (k0_off40 v4) a + S1.size a ≤ S16.size a := fun v4 k0_hw1 => k0_hw1.1.2.2.2.2.2.2.2.2.2.2.2.2.2.2.2.2.2.2.2.2.1
theorem k0_off42_inb : ∀ (v4 : BitVec 32) (k0_hw1 : k0_chk1 v4), ∀ a, (k0_off42 v4) a + S1.size a ≤ S16.size a := fun v4 k0_hw1 => k0_hw1.1.2.2.2.2.2.2.2.2.2.2.2.2.2.2.2.2.2.2.2.2.2.1
theorem k0_off44_inb : ∀ (v4 : BitVec 32) (k0_hw1 : k0_chk1 v4), ∀ a, (k0_off44 v4) a + S1.size a ≤ S16.size a := fun v4 k0_hw1 => k0_hw1.1.2.2.2.2.2.2.2.2.2.2.2.2.2.2.2.2.2.2.2.2.2.2.1
theorem k0_off46_inb : ∀ (v4 : BitVec 32) (k0_hw1 : k0_chk1 v4), ∀ a, (k0_off46 v4) a + S1.size a ≤ S16.size a := fun v4 k0_hw1 => k0_hw1.1.2.2.2.2.2.2.2.2.2.2.2.2.2.2.2.2.2.2.2.2.2.2.2.1
theorem k0_off48_inb : ∀ (v4 : BitVec 32) (k0_hw1 : k0_chk1 v4), ∀ a, (k0_off48 v4) a + S1.size a ≤ S16.size a := fun v4 k0_hw1 => k0_hw1.1.2.2.2.2.2.2.2.2.2.2.2.2.2.2.2.2.2.2.2.2.2.2.2.2.1
theorem k0_off50_inb : ∀ (v4 : BitVec 32) (k0_hw1 : k0_chk1 v4), ∀ a, (k0_off50 v4) a + S1.size a ≤ S16.size a := fun v4 k0_hw1 => k0_hw1.1.2.2.2.2.2.2.2.2.2.2.2.2.2.2.2.2.2.2.2.2.2.2.2.2.2.1
theorem k0_off52_inb : ∀ (v4 : BitVec 32) (k0_hw1 : k0_chk1 v4), ∀ a, (k0_off52 v4) a + S1.size a ≤ S16.size a := fun v4 k0_hw1 => k0_hw1.1.2.2.2.2.2.2.2.2.2.2.2.2.2.2.2.2.2.2.2.2.2.2.2.2.2.2.1
theorem k0_off54_inb : ∀ (v4 : BitVec 32) (k0_hw1 : k0_chk1 v4), ∀ a, (k0_off54 v4) a + S1.size a ≤ S16.size a := fun v4 k0_hw1 => k0_hw1.1.2.2.2.2.2.2.2.2.2.2.2.2.2.2.2.2.2.2.2.2.2.2.2.2.2.2.2.1
theorem k0_off56_inb : ∀ (v4 : BitVec 32) (k0_hw1 : k0_chk1 v4), ∀ a, (k0_off56 v4) a + S1.size a ≤ S16.size a := fun v4 k0_hw1 => k0_hw1.1.2.2.2.2.2.2.2.2.2.2.2.2.2.2.2.2.2.2.2.2.2.2.2.2.2.2.2.2.1
theorem k0_off58_inb : ∀ (v4 : BitVec 32) (k0_hw1 : k0_chk1 v4), ∀ a, (k0_off58 v4) a + S1.size a ≤ S16.size a := fun v4 k0_hw1 => k0_hw1.1.2.2.2.2.2.2.2.2.2.2.2.2.2.2.2.2.2.2.2.2.2.2.2.2.2.2.2.2.2.1
theorem k0_off60_inb : ∀ (v4 : BitVec 32) (k0_hw1 : k0_chk1 v4), ∀ a, (k0_off60 v4) a + S1.size a ≤ S16.size a := fun v4 k0_hw1 => k0_hw1.1.2.2.2.2.2.2.2.2.2.2.2.2.2.2.2.2.2.2.2.2.2.2.2.2.2.2.2.2.2.2.1
theorem k0_off62_inb : ∀ (v4 : BitVec 32) (k0_hw1 : k0_chk1 v4), ∀ a, (k0_off62 v4) a + S1.size a ≤ S16.size a := fun v4 k0_hw1 => k0_hw1.1.2.2.2.2.2.2.2.2.2.2.2.2.2.2.2.2.2.2.2.2.2.2.2.2.2.2.2.2.2.2.2
theorem k0_off64_inb : ∀ (v4 : BitVec 32) (k0_hw1 : k0_chk1 v4), ∀ a, (k0_off64 v4) a + S1.size a ≤ S16.size a := fun v4 k0_hw1 => k0_hw1.2.1
theorem k0_off66_inb : ∀ (v4 : BitVec 32) (k0_hw1 : k0_chk1 v4), ∀ a, (k0_off66 v4) a + S1.size a ≤ S16.size a := fun v4 k0_hw1 => k0_hw1.2.2

def k0_off67 (v4488 : BitVec 32) : Fin 2 → Nat :=
  let c256_i32_5271 : BitVec 32 := 256#32
  let v4489 : BitVec 32 := Scalar.muli v4488 c256_i32_5271
  let v4490 : Index := Scalar.indexCast v4489
  let c0_5272 : Index := 0#32
  ![v4490.toNat, 0]

def k0_chk35 (v4488 : BitVec 32) : Prop :=
  (∀ a, (k0_off67 v4488) a + S256x256.size a ≤ S4096x256.size a)
theorem k0_off67_inb : ∀ (v4488 : BitVec 32) (k0_hw35 : k0_chk35 v4488), ∀ a, (k0_off67 v4488) a + S256x256.size a ≤ S4096x256.size a := fun v4488 k0_hw35 => k0_hw35

abbrev stage0_0 : Fin 1 → Memref sig .tc .vmem S4096x256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Body.lean ====
module

public import proofs.«01_k».proof.Proof.Gen.KernelIdeal.Frame
public import Idealize.ShloMosaic.Lib.Pipeline.Regions

@[expose] public section

noncomputable section

namespace Cert.KernelIdeal.RingRs

open Idealize.ShloMosaic Idealize.SL.Sem Cert.KernelIdeal.Gen

variable {F : FTy → Type} [FloatOps F]

/-! ## The kernel's text, folded over direction, hop and column block

The direction `b` is `true` for the chunks that travel to the next device of the ring and carry the left half
of the columns, `false` for those that travel to the previous one and carry the right half. -/

/-- What a kernel text of one core is. -/
abbrev Pg (α : Type) := Prog (TpuEff nD τ sig (Elt F) Λ₀ .tc) α

/-- Send buffer of a direction. -/
def sM (b : Bool) : Memref sig .tc .vmem S15x4x256x256 .bf16 :=
  match b with | true => Memref.whole cc0_scratch0 | false => Memref.whole cc0_scratch2

/-- Receive buffer of a direction. -/
def rM (b : Bool) : Memref sig .tc .vmem S15x4x256x256 .bf16 :=
  match b with | true => Memref.whole cc0_scratch1 | false => Memref.whole cc0_scratch3

theorem sM_whole (b : Bool) : (sM b).IsWhole := by cases b <;> exact Memref.isWhole_whole _
theorem rM_whole (b : Bool) : (rM b).IsWhole := by cases b <;> exact Memref.isWhole_whole _

/-- Send semaphores of a direction, one per column block. -/
def sSems (b : Bool) : DmaSems sig S4 := match b with | true => cc0_scratch4 | false => cc0_scratch6

/-- Receive semaphores of a direction, one per hop and column block. -/
def rSems (b : Bool) : DmaSems sig S60 := match b with | true => cc0_scratch5 | false => cc0_scratch7

theorem slot_inb : ∀ (s : Fin 15) (k : Fin 4), ∀ a, (![s.val, k.val, 0, 0] : Fin 4 → Nat) a + S1x1x256x256.size a ≤ S15x4x256x256.size a := by
  decide

/-- Slot `(s, k)` of a chunk buffer. -/
abbrev slotR (s : Fin 15) (k : Fin 4) : Rect S15x4x256x256 :=
  Rect.unit (s := S15x4x256x256) ![s.val, k.val, 0, 0] S1x1x256x256.size (slot_inb s k)

theorem slot_words : ∀ (s : Fin 15) (k : Fin 4), (slotR s k).WholeWords (EltTy.packing .bf16) := by
  decide
theorem slot_packed : ∀ (s : Fin 15) (k : Fin 4), (slotR s k).PackedRows (EltTy.packing .bf16) := by
  decide

/-- The slot as a tile, of the send buffer and of the receive buffer. -/
def sV (b : Bool) (s : Fin 15) (k : Fin 4) : Memref sig .tc .vmem S256x256 .bf16 :=
  ((sM b).slice (slotR s k) (fun _ => rfl)).squeeze S256x256 Facts₀.squeezes_S1x1x256x256_S256x256
def rV (b : Bool) (s : Fin 15) (k : Fin 4) : Memref sig .tc .vmem S256x256 .bf16 :=
  ((rM b).slice (slotR s k) (fun _ => rfl)).squeeze S256x256 Facts₀.squeezes_S1x1x256x256_S256x256

theorem sV_word (b : Bool) (s : Fin 15) (k : Fin 4) : (sV b s k).view.WordExact :=
  ((sM_whole b).wordExact_slice rfl _ (slot_words s k)).reshape _ _
theorem rV_word (b : Bool) (s : Fin 15) (k : Fin 4) : (rV b s k).view.WordExact :=
  ((rM_whole b).wordExact_slice rfl _ (slot_words s k)).reshape _ _

theorem four_inb : ∀ (k : Fin 4), ∀ a, (![k.val] : Fin 1 → Nat) a + S1.size a ≤ S4.size a := by decide
theorem sixty_inb : ∀ (s : Fin 15) (k : Fin 4), ∀ a, (![s.val * 4 + k.val] : Fin 1 → Nat) a + S1.size a ≤ S60.size a := by decide

/-- Send semaphore of column block `k`; receive semaphore of slot `(s, k)`. -/
def sSem (b : Bool) (k : Fin 4) : DmaSem sig :=
  (((sSems b).slice (Rect.unit (s := S4) ![k.val] S1.size (four_inb k))).squeeze S_ Facts₀.squeezes_S1_S_).sem
def rSem (b : Bool) (s : Fin 15) (k : Fin 4) : DmaSem sig :=
  (((rSems b).slice (Rect.unit (s := S60) ![s.val * 4 + k.val] S1.size (sixty_inb s k))).squeeze S_ Facts₀.squeezes_S1_S_).sem

/-! ### The values -/

/-- A row tile times a column half. -/
def dotv (x : Vec F S256x256 .fp8e5m2) (w : Vec F S256x1024 .fp8e5m2) : FVec F S256x1024 .f32 :=
  matmul dot_S256x256_S256x1024_S256x1024_1_0_0_1_n_n none (shapeCast S256x256 x Facts₀.shapeCasts_S256x256_S256x256)
    (shapeCast S256x1024 w Facts₀.shapeCasts_S256x1024_S256x1024) (constant S256x1024 .f32 0x00000000#32)

theorem col_ok : ∀ k : Fin 4, S256x1024.Slices ![0, k.val * 256] S256x256 := by decide

/-- Column block `k` of a half. -/
def colv (k : Fin 4) (p : FVec F S256x1024 .f32) : FVec F S256x256 .f32 :=
  extractStridedSlice S256x256 ![0, k.val * 256] p (col_ok k)

/-- The chunk a device starts with. -/
def firstv (k : Fin 4) (p : FVec F S256x1024 .f32) : FVec F S256x256 .bf16 :=
  truncf .bf16 (colv k p) Facts₀.bitsLt_bf16_f32

/-- The chunk that came in, widened, plus the device's own part. -/
def sumv (k : Fin 4) (v : Vec F S1x1x256x256 .bf16) (p : FVec F S256x1024 .f32) : FVec F S256x256 .f32 :=
  addf (extf .f32 (shapeCast S256x256 v Facts₀.shapeCasts_S1x1x256x256_S256x256) Facts₀.bitsLt_bf16_f32) (colv k p)

/-- The chunk a device passes on. -/
def nextv (k : Fin 4) (v : Vec F S1x1x256x256 .bf16) (p : FVec F S256x1024 .f32) : FVec F S256x256 .bf16 :=
  truncf .bf16 (sumv k v p) Facts₀.bitsLt_bf16_f32

/-- A tile as the slot's vector. -/
def slotv (v : FVec F S256x256 .bf16) : Vec F S1x1x256x256 .bf16 := shapeCast S1x1x256x256 v Facts₀.shapeCasts_S256x256_S1x1x256x256

/-- A tile of the result. -/
def outv (sc : F .f32) (k : Fin 4) (v : Vec F S1x1x256x256 .bf16) (p : FVec F S256x1024 .f32) : FVec F S256x256 .f32 :=
  mulf (mulf (sumv k v p) (broadcast S256x256 sc)) (logistic (mulf (sumv k v p) (broadcast S256x256 sc)))

/-! ### The offsets -/

/-- Where the text reads the ring's table for the device `t` places on. -/
def tOff (t : Nat) (v4 : BitVec 32) : Fin 1 → Nat :=
  let v37 : BitVec 32 := Scalar.addi v4 (BitVec.ofNat 32 t)
  let v38 : BitVec 1 := Scalar.cmpi .eq 16#32 0#32
  let v39 : BitVec 32 := Scalar.select v38 1#32 16#32
  let v40 : BitVec 32 := Scalar.remsi v37 v39
  let v42 : BitVec 1 := Scalar.cmpi .slt v40 0#32
  let v43 : BitVec 1 := Scalar.cmpi .slt v39 0#32
  let v44 : BitVec 1 := Scalar.xori v42 v43
  let v41 : BitVec 1 := Scalar.cmpi .ne v40 0#32
  let v45 : BitVec 1 := Scalar.andi v44 v41
  let v46 : BitVec 32 := Scalar.addi v40 v39
  let v47 : BitVec 32 := Scalar.select v45 v46 v40
  let v48 : Index := Scalar.indexCast v47
  ![v48.toNat]

theorem tOff_inb (t : Nat) (ht : t < 16) (v4 : BitVec 32) (h : k0_chk1 v4) : ∀ a, (tOff t v4) a + S1.size a ≤ S16.size a :=
  match t, ht with
  | 0, _ => k0_off64_inb v4 h
  | 1, _ => k0_off60_inb v4 h
  | 2, _ => k0_off56_inb v4 h
  | 3, _ => k0_off52_inb v4 h
  | 4, _ => k0_off48_inb v4 h
  | 5, _ => k0_off44_inb v4 h
  | 6, _ => k0_off40_inb v4 h
  | 7, _ => k0_off36_inb v4 h
  | 8, _ => k0_off32_inb v4 h
  | 9, _ => k0_off28_inb v4 h
  | 10, _ => k0_off24_inb v4 h
  | 11, _ => k0_off20_inb v4 h
  | 12, _ => k0_off16_inb v4 h
  | 13, _ => k0_off12_inb v4 h
  | 14, _ => k0_off8_inb v4 h
  | 15, _ => k0_off4_inb v4 h
  | n + 16, hn => absurd hn (by omega)

/-- First column of a direction's half. -/
def half (b : Bool) : Nat := match b with | true => 0 | false => 1024

theorem half_inb : ∀ b : Bool, ∀ a, (![0, half b] : Fin 2 → Nat) a + S256x1024.size a ≤ S256x2048.size a := by decide
theorem out_inb : ∀ (b : Bool) (k : Fin 4), ∀ a, (![0, half b + k.val * 256] : Fin 2 → Nat) a + S256x256.size a ≤ S256x2048.size a := by decide

/-- The tile of the result that a direction's column block `k` is written to. -/
abbrev outR (b : Bool) (k : Fin 4) : Rect S256x2048 :=
  Rect.unit (s := S256x2048) ![0, half b + k.val * 256] S256x256.size (out_inb b k)
abbrev halfR (b : Bool) : Rect S256x2048 := Rect.unit (s := S256x2048) ![0, half b] S256x1024.size (half_inb b)
abbrev rowR (v : BitVec 32) (h : k0_chk4 v) : Rect S4096x256 :=
  Rect.unit (s := S4096x256) (k0_off5 v) S256x256.size (k0_off5_inb v h)

/-! ### The text -/

/-- Run a list of texts in order. -/
def runs {α : Type} (f : α → Pg (F := F) PUnit) : List α → Pg (F := F) PUnit
  | [] => pure ⟨⟩
  | a :: l => do f a; runs f l

/-- The device's part of the chunk `t` places on, in a direction's half. -/
def dotT (b : Bool) (t : Nat) (ht : t < 16) (v4 : BitVec 32) (h : k0_chk1 v4) : Pg (F := F) (FVec F S256x1024 .f32) := do
  let r : Elt F .i32 ← smemLoad (Memref.whole cc0_stg4_0 : Memref sig .tc .smem S16 .i32)
    (Rect.unit (s := S16) (tOff t v4) S1.size (tOff_inb t ht v4 h)) Facts₀.numel1_S1 rfl
  have hr : k0_chk4 r := (← Prog.lift (TpuEff.assume (k0_chk4 r) (k0_chk4.dec r))).down
  let x : Vec F S256x256 .fp8e5m2 ← Prog.lift (.load (Memref.whole cc0_stg0_0 : Memref sig .tc .vmem S4096x256 .fp8e5m2) (rowR r hr).toLoadRect (View.loadsAt_vmem Facts₀.h_S256x256))
  let w : Vec F S256x1024 .fp8e5m2 ← Prog.lift (.load (Memref.whole cc0_stg1_0 : Memref sig .tc .vmem S256x2048 .fp8e5m2) (halfR b).toLoadRect (View.loadsAt_vmem Facts₀.h_S256x1024))
  pure (dotv x w)

/-- Wait for the chunk of slot `(s, k)` to come in. -/
def waitR (b : Bool) (s : Fin 15) (k : Fin 4) : Pg (F := F) PUnit :=
  Prog.lift (.waitDma2 (rSem b s k) (sV b s k) (rV b s k) (sV_word b s k) (rV_word b s k))
/-- Wait for the chunk of slot `(s, k)` to have gone out. -/
def waitS (b : Bool) (s : Fin 15) (k : Fin 4) : Pg (F := F) PUnit :=
  Prog.lift (.waitDma2 (sSem b k) (rV b s k) (sV b s k) (rV_word b s k) (sV_word b s k))
/-- Read slot `(s, k)` of the receive buffer. -/
def loadR (b : Bool) (s : Fin 15) (k : Fin 4) : Pg (F := F) (Vec F S1x1x256x256 .bf16) :=
  Prog.lift (.load (rM b) (slotR s k).toLoadRect (View.loadsAt_vmem Facts₀.h_S1x1x256x256))
/-- Put a chunk in slot `(s, k)` of the send buffer. -/
def putS (b : Bool) (s : Fin 15) (k : Fin 4) (v : FVec F S256x256 .bf16) : Pg (F := F) PUnit := do
  let _ : Vec F S1x1x256x256 .bf16 ← Prog.lift (.load (sM b) (slotR s k).toLoadRect (View.loadsAt_vmem Facts₀.h_S1x1x256x256))
  Prog.lift (.store (sM b) (slotR s k) (slotv v) Finset.univ
    (View.stores_vmem Facts₀.h_S1x1x256x256 ((sM_whole b).storeExact_slice rfl _ (slot_packed s k)) (fun _ => rfl)) (.inl rfl))
/-- Start the transfer of slot `(s, k)` to device `d`. -/
def go (b : Bool) (s : Fin 15) (k : Fin 4) (d : Dev nD) : Pg (F := F) PUnit :=
  Prog.lift (.enqueueDma (sV b s k) (.remote (Dev.tc d) (rV b s k) (.dma (sSem b k))) (.dma (rSem b s k))
    (sV_word b s k) (rV_word b s k) ⟨⟨rfl, Or.inl rfl⟩, trivial⟩)

/-- A direction's step of the first hop. -/
def step0 (b : Bool) (k : Fin 4) (d : Dev nD) (p : FVec F S256x1024 .f32) : Pg (F := F) PUnit := do
  putS b 0 k (firstv k p)
  go b 0 k d

/-- A direction's step of a later hop `s`, after hop `q`. -/
def step (b : Bool) (q s : Fin 15) (k : Fin 4) (d : Dev nD) (p : FVec F S256x1024 .f32) : Pg (F := F) PUnit := do
  waitR b q k
  let v ← loadR b q k
  putS b s k (nextv k v p)
  waitS b q k
  go b s k d

/-- A direction's last step. -/
def fin (b : Bool) (k : Fin 4) (sc : F .f32) (p : FVec F S256x1024 .f32) : Pg (F := F) PUnit := do
  waitR b 14 k
  let v ← loadR b 14 k
  let _ : Vec F S256x256 .f32 ← Prog.lift (.load (Memref.whole cc0_stg6_0 : Memref sig .tc .vmem S256x2048 .f32) (outR b k).toLoadRect (View.loadsAt_vmem Facts₀.h_S256x256))
  Prog.lift (.store (Memref.whole cc0_stg6_0 : Memref sig .tc .vmem S256x2048 .f32) (outR b k) (outv sc k v p) Finset.univ
    (View.stores_vmem_bits_univ Facts₀.h_S256x256 rfl) (.inl rfl))

/-- The column blocks. -/
def cols : List (Fin 4) := [⟨0, by decide⟩, ⟨1, by decide⟩, ⟨2, by decide⟩, ⟨3, by decide⟩]

/-- The hops after the first. -/
def hops : List (Fin 14) := [⟨0, by decide⟩, ⟨1, by decide⟩, ⟨2, by decide⟩, ⟨3, by decide⟩, ⟨4, by decide⟩, ⟨5, by decide⟩, ⟨6, by decide⟩,
  ⟨7, by decide⟩, ⟨8, by decide⟩, ⟨9, by decide⟩, ⟨10, by decide⟩, ⟨11, by decide⟩, ⟨12, by decide⟩, ⟨13, by decide⟩]

/-- The two ends of a device, by direction. -/
def tgt (nx pv : Dev nD) (b : Bool) : Dev nD := match b with | true => nx | false => pv

/-- Hop 0. -/
def hop0 (nx pv : Dev nD) (v4 : BitVec 32) (h : k0_chk1 v4) : Pg (F := F) PUnit := do
  let pf ← dotT true 15 (by decide) v4 h
  let pb ← dotT false 1 (by decide) v4 h
  runs (fun k => do step0 true k nx pf; step0 false k pv pb) cols

/-- Hop `j + 1`. -/
def hop (nx pv : Dev nD) (v4 : BitVec 32) (h : k0_chk1 v4) (j : Fin 14) : Pg (F := F) PUnit := do
  let pf ← dotT true (14 - j.val) (by omega) v4 h
  let pb ← dotT false (2 + j.val) (by omega) v4 h
  runs (fun k => do step true j.castSucc j.succ k nx pf; step false j.castSucc j.succ k pv pb) cols

/-- The last additions, the scale and the activation. -/
def last (v4 : BitVec 32) (h : k0_chk1 v4) : Pg (F := F) PUnit := do
  let s2 : Elt F .f32 ← smemLoad (Memref.whole cc0_stg2_0 : Memref sig .tc .smem S1 .f32) (Rect.unit (s := S1) ![0] S1.size Facts₀.inb_S1_S1_0) Facts₀.numel1_S1 rfl
  let s3 : Elt F .f32 ← smemLoad (Memref.whole cc0_stg3_0 : Memref sig .tc .smem S1 .f32) (Rect.unit (s := S1) ![0] S1.size Facts₀.inb_S1_S1_0) Facts₀.numel1_S1 rfl
  let pf ← dotT true 0 (by decide) v4 h
  let pb ← dotT false 0 (by decide) v4 h
  runs (fun k => do fin true k (Scalar.mulf s2 s3) pf; fin false k (Scalar.mulf s2 s3) pb) cols
  runs (fun k => do waitS true 14 k; waitS false 14 k) cols

/-- The barrier of collective number 0. -/
abbrev bar : Sem sig := (SemArray.scalar (sig.barrier 0 rfl) : Sems sig S_).sem

/-- The body. -/
def body : Pg (F := F) PUnit := do
  let d0 : Dev nD ← Prog.lift .deviceId
  let v4 : Elt F .i32 ← smemLoad (Memref.whole cc0_stg5_0 : Memref sig .tc .smem S16 .i32) (Rect.unit (s := S16) (k0_off1 d0) S1.size (k0_off1_inb d0)) Facts₀.numel1_S1 rfl
  have h1 : k0_chk1 v4 := (← Prog.lift (TpuEff.assume (k0_chk1 v4) (k0_chk1.dec v4))).down
  let v17 : Elt F .i32 ← smemLoad (Memref.whole cc0_stg4_0 : Memref sig .tc .smem S16 .i32) (Rect.unit (s := S16) (k0_off2 v4) S1.size (k0_off2_inb v4 h1)) Facts₀.numel1_S1 rfl
  have h3 : k0_chk3 v17 := (← Prog.lift (TpuEff.assume (k0_chk3 v17) (k0_chk3.dec v17))).down
  let v31 : Elt F .i32 ← smemLoad (Memref.whole cc0_stg4_0 : Memref sig .tc .smem S16 .i32) (Rect.unit (s := S16) (k0_off3 v4) S1.size (k0_off3_inb v4 h1)) Facts₀.numel1_S1 rfl
  have h2 : k0_chk2 v31 := (← Prog.lift (TpuEff.assume (k0_chk2 v31) (k0_chk2.dec v31))).down
  semSignalWord (⟨k0_dev1 v31, k0_dev1_lt v31 h2⟩ : Dev nD) bar 1#32
  semSignalWord (⟨k0_dev2 v17, k0_dev2_lt v17 h3⟩ : Dev nD) bar 1#32
  semWaitWord bar 2#32
  hop0 ⟨k0_dev2 v17, k0_dev2_lt v17 h3⟩ ⟨k0_dev1 v31, k0_dev1_lt v31 h2⟩ v4 h1
  runs (hop ⟨k0_dev2 v17, k0_dev2_lt v17 h3⟩ ⟨k0_dev1 v31, k0_dev1_lt v31 h2⟩ v4 h1) hops
  last v4 h1

end Cert.KernelIdeal.RingRs
-- ==== Proof.Ring.lean ====
module

public import proofs.«01_k».proof.Proof.Body
public import Idealize.ShloMosaic.Lib.Pipeline.Kit
public import Idealize.ShloMosaic.Lib.Pipeline.RegionTalk
public import Idealize.ShloMosaic.Lib.Rounds
public import Idealize.ShloMosaic.Lib.Ring.FamCut
public import Idealize.ShloMosaic.Lib.Tactic

@[expose] public section

noncomputable section

namespace Cert.KernelIdeal.RingRs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The ring of devices -/

/-- The device at a place of the ring, and the place of a device: the two tables the host passes. -/
def permD (i : Fin 16) : Dev nD :=
  ⟨(lit0 i).toNat, by revert i; decide⟩
def posD (c : Dev nD) : Fin 16 :=
  ⟨(lit1 c).toNat, by revert c; decide⟩

/-- The device `t` places on from device `c`. -/
def onD (t : Nat) (c : Dev nD) : Dev nD := permD ⟨((posD c).val + t) % 16, Nat.mod_lt _ (by decide)⟩

theorem posD_onD : ∀ (t : Fin 17) (c : Dev nD), (posD (onD t.val c)).val = ((posD c).val + t.val) % 16 := by decide

/-- Whom a device sends to, by direction. -/
def peer (b : Bool) (c : Dev nD) : Dev nD := onD (match b with | true => 1 | false => 15) c

theorem peer_back : ∀ (b : Bool) (c : Dev nD), peer (!b) (peer b c) = c := by decide
theorem peer_fwd : ∀ (b : Bool) (c : Dev nD), peer b (peer (!b) c) = c := by decide

/-- A direction's step as a permutation of the devices. -/
def turn (b : Bool) : Dev nD ≃ Dev nD := ⟨peer b, peer (!b), peer_back b, peer_fwd b⟩

theorem sSem_val : ∀ (b : Bool) (k : Fin 4), (sSem b k).val = (match b with | true => 7 | false => 71) + k.val := by decide
theorem rSem_val : ∀ (b : Bool) (s : Fin 15) (k : Fin 4), (rSem b s k).val = (match b with | true => 11 | false => 75) + (s.val * 4 + k.val) := by decide

/-! ## The cells -/

/-- A lane: a direction and a column block. -/
abbrev Lane := Bool × Fin 4
/-- What a device waits on: the barrier, the going out of a lane's chunks, the coming in of each of them. -/
abbrev Ci := Unit ⊕ Lane ⊕ (Lane × Fin 15)

def csem : Ci → SemLoc sig
  | .inl _ => .reg bar
  | .inr (.inl l) => .dma (sSem l.1 l.2)
  | .inr (.inr x) => .dma (rSem x.1.1 x.2 x.1.2)

theorem csem_inj : Function.Injective csem := by
  have hs := sSem_val
  have hr := rSem_val
  rintro (_ | ⟨b, k⟩ | ⟨⟨b, k⟩, s⟩) (_ | ⟨b', k'⟩ | ⟨⟨b', k'⟩, s'⟩) h
  · rfl
  all_goals simp only [csem, reduceCtorEq, SemLoc.dma.injEq] at h
  all_goals
    have h := congrArg Fin.val h
    simp only [hs, hr] at h
    cases b <;> cases b' <;> simp only at h
  all_goals first
    | (exfalso; omega)
    | (have hk : k = k' := by apply Fin.ext; omega
       subst hk
       first
         | rfl
         | (have hq : s = s' := by apply Fin.ext; omega
            subst hq; rfl))

open Classical in
/-- Which of a device's waits a semaphore serves. -/
def kd (sm : SemLoc sig) : Option Ci := if h : ∃ i, csem i = sm then some h.choose else none

theorem kd_csem (i : Ci) : kd (csem i) = some i := by
  have h : ∃ j, csem j = csem i := ⟨i, rfl⟩
  rw [kd, dif_pos h]; exact congrArg some (csem_inj h.choose_spec)

def cellC (c : Dev nD) (i : Ci) : GSem nD τ sig := ((c : Thread nD τ), csem i)
abbrev barC (c : Dev nD) : GSem nD τ sig := cellC c (.inl ())
abbrev sndC (c : Dev nD) (l : Lane) : GSem nD τ sig := cellC c (.inr (.inl l))
abbrev rcvC (c : Dev nD) (l : Lane) (s : Fin 15) : GSem nD τ sig := cellC c (.inr (.inr (l, s)))

theorem cellC_inj {c c' : Dev nD} {i i' : Ci} (h : cellC c i = cellC c' i') : c = c' ∧ i = i' := by
  have h1 : (c : Thread nD τ) = (c' : Thread nD τ) := congrArg Prod.fst h
  exact ⟨congrArg Prod.fst h1, csem_inj (congrArg Prod.snd h)⟩

/-- What one chunk's transfer credits. -/
def N : ℕ := (rV true 0 0).view.dmaCredit
theorem N_pos : 0 < N := View.dmaCredit_pos _ (by decide)
theorem credit_rV (b : Bool) (s : Fin 15) (k : Fin 4) : (rV b s k).view.dmaCredit = N := by cases b <;> rfl
theorem credit_sV (b : Bool) (s : Fin 15) (k : Fin 4) : (sV b s k).view.dmaCredit = N := by cases b <;> rfl

/-! ## The contents -/

/-- What a device's windows hold: its rows, its columns and the two scales. -/
structure Ins (F : FTy → Type) where
  x : Dev nD → (cc0_stg0_0 : Ref sig .tc).ty.Contents (Elt F)
  w : Dev nD → (cc0_stg1_0 : Ref sig .tc).ty.Contents (Elt F)
  sx : Dev nD → (cc0_stg2_0 : Ref sig .tc).ty.Contents (Elt F)
  sw : Dev nD → (cc0_stg3_0 : Ref sig .tc).ty.Contents (Elt F)

/-- The word a table holds for a device. -/
abbrev wd (d : Fin 16) : BitVec 32 := BitVec.ofNat 32 d.val

theorem wd_row : ∀ d : Fin 16, k0_chk4 (wd d) := by decide

/-- A device's share of the chunk `t` places on. -/
def part (I : Ins F) (b : Bool) (t : Nat) (c : Dev nD) : FVec F S256x1024 .f32 :=
  dotv ((Memref.whole cc0_stg0_0 : Memref sig .tc .vmem S4096x256 .fp8e5m2).view.readAt (Elt F) (rowR (wd (onD t c)) (wd_row _)).toLoadRect (I.x c))
    ((Memref.whole cc0_stg1_0 : Memref sig .tc .vmem S256x2048 .fp8e5m2).view.readAt (Elt F) (halfR b).toLoadRect (I.w c))

/-- How far on the chunk of hop `s` belongs. -/
def toff (b : Bool) (s : Nat) : Nat := match b with | true => 15 - s | false => s + 1

/-- The chunk a device sends at a hop. -/
def sentV (I : Ins F) (l : Lane) : Nat → Dev nD → FVec F S256x256 .bf16
  | 0, c => firstv l.2 (part I l.1 (toff l.1 0) c)
  | s + 1, c => nextv l.2 (slotv (sentV I l s (peer (!l.1) c))) (part I l.1 (toff l.1 (s + 1)) c)

/-! ## The schedule -/

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-- A slot of a device's send buffer, and of its receive buffer, at given contents of the buffer. -/
def sPts (c : Dev nD) (l : Lane) (s : Fin 15) (f : Buf (Elt F) ((sV l.1 s l.2).view.loc (c : Thread nD τ))) : sProp 𝕄 :=
  (sV l.1 s l.2).view.loc (c : Thread nD τ) ↦[(sV l.1 s l.2).view.set]{fullShare} f
def rPts (c : Dev nD) (l : Lane) (s : Fin 15) (f : Buf (Elt F) ((rV l.1 s l.2).view.loc (c : Thread nD τ))) : sProp 𝕄 :=
  (rV l.1 s l.2).view.loc (c : Thread nD τ) ↦[(rV l.1 s l.2).view.set]{fullShare} f

omit [FloatOps F] in
instance sPts_storable (c : Dev nD) (l : Lane) (s : Fin 15) (f) : BI.Storable (upEmb : UEmb _ 𝕄) (sPts (F := F) c l s f) := by
  unfold sPts; infer_instance
omit [FloatOps F] in
instance rPts_storable (c : Dev nD) (l : Lane) (s : Fin 15) (f) : BI.Storable (upEmb : UEmb _ 𝕄) (rPts (F := F) c l s f) := by
  unfold rPts; infer_instance

/-- A device's barrier signal hands its neighbour the receive slots the neighbour will send to. -/
def barPay (c : Dev nD) (b : Bool) : sProp 𝕄 :=
  bigSep Finset.univ fun x : Fin 4 × Fin 15 =>
    iprop((∃ f, rPts (peer b c) (b, x.1) x.2 f) ∗ reached ER (rcvC (peer b c) (b, x.1) x.2) 0)
/-- A chunk that went out gives its slot back. -/
def sndPay (c : Dev nD) (l : Lane) (r : ℕ) : sProp 𝕄 :=
  if h : r < 15 then iprop(∃ f, sPts (F := F) c l ⟨r, h⟩ f) else iprop(emp)
/-- A chunk that came in lies in its slot. -/
def rcvPay (I : Ins F) (c : Dev nD) (l : Lane) (s : Fin 15) : sProp 𝕄 :=
  iprop(∃ f, ⌜(rV l.1 s l.2).view.read (Elt F) f = sentV I l s.val (peer (!l.1) c)⌝ ∗ rPts c l s f)

def dutiesOf : Option Ci → ℕ → Finset Bool
  | some (.inl _), r => if r = 0 then Finset.univ else ∅
  | some (.inr (.inl _)), r => if r < 15 then {true} else ∅
  | some (.inr (.inr _)), r => if r = 0 then {true} else ∅
  | none, _ => ∅
def amountOf : Option Ci → ℕ
  | some (.inl _) => 1
  | _ => N
def payOf (I : Ins F) (c : Dev nD) : Option Ci → ℕ → Bool → sProp 𝕄
  | some (.inl _), _, b => barPay c b
  | some (.inr (.inl l)), r, _ => sndPay c l r
  | some (.inr (.inr x)), _, _ => rcvPay I c x.1 x.2
  | none, _, _ => iprop(emp)

def rd (I : Ins F) : Rounds.Schedule (GSem nD τ sig) Bool 𝕄 where
  duties g r := dutiesOf (kd g.2) r
  unitless _ := False
  amount g _ _ := amountOf (kd g.2)
  payload g r b := payOf I g.1.1 (kd g.2) r b
  amount_pos g _ _ _ := by
    rcases kd g.2 with _ | (_ | _ | _)
    · exact N_pos
    · exact Nat.one_pos
    · exact N_pos
    · exact N_pos

instance rd_storable (I : Ins F) (g : GSem nD τ sig) (r : ℕ) (d : Bool) : BI.Storable (upEmb : UEmb _ 𝕄) ((rd I).payload g r d) := by
  show BI.Storable upEmb (payOf I g.1.1 (kd g.2) r d)
  rcases kd g.2 with _ | (_ | _ | _)
  · unfold payOf; infer_instance
  · unfold payOf barPay; infer_instance
  · unfold payOf sndPay; dsimp only; split <;> infer_instance
  · unfold payOf rcvPay; infer_instance

section Sched
variable (I : Ins F) (c : Dev nD) (l : Lane) (s : Fin 15)

theorem duties_cell (i : Ci) (r : ℕ) : (rd I).duties (cellC c i) r = dutiesOf (some i) r := congrArg (dutiesOf · r) (kd_csem i)
theorem amount_cell (i : Ci) (r : ℕ) (d : Bool) : (rd I).amount (cellC c i) r d = amountOf (some i) := congrArg amountOf (kd_csem i)
theorem payload_cell (i : Ci) (r : ℕ) (d : Bool) : (rd I).payload (cellC c i) r d = payOf I c (some i) r d :=
  congrArg (payOf I c · r d) (kd_csem i)

theorem duties_bar : (rd I).duties (barC c) 0 = Finset.univ := by rw [duties_cell]; rfl
theorem duties_snd (r : ℕ) (h : r < 15) : (rd I).duties (sndC c l) r = {true} := by
  rw [duties_cell]; exact if_pos h
theorem duties_rcv : (rd I).duties (rcvC c l s) 0 = {true} := by rw [duties_cell]; rfl
theorem later_bar (r : ℕ) (h : 1 ≤ r) : (rd I).duties (barC c) r = ∅ := by
  rw [duties_cell]; exact if_neg (by omega)
theorem later_snd (r : ℕ) (h : 15 ≤ r) : (rd I).duties (sndC c l) r = ∅ := by
  rw [duties_cell]; exact if_neg (by omega)
theorem later_rcv (r : ℕ) (h : 1 ≤ r) : (rd I).duties (rcvC c l s) r = ∅ := by
  rw [duties_cell]; exact if_neg (by omega)

theorem amount_bar (r : ℕ) (d : Bool) : (rd I).amount (barC c) r d = 1 := by rw [amount_cell]; rfl
theorem amount_snd (r : ℕ) (d : Bool) : (rd I).amount (sndC c l) r d = N := by rw [amount_cell]; rfl
theorem amount_rcv (r : ℕ) (d : Bool) : (rd I).amount (rcvC c l s) r d = N := by rw [amount_cell]; rfl

theorem expect_bar : (rd I).expect (barC c) 0 = 2 := by
  unfold Schedule.expect Schedule.amountOf; rw [duties_bar]; simp only [amount_bar]; rfl
theorem expect_snd (r : ℕ) (h : r < 15) : (rd I).expect (sndC c l) r = N := by
  unfold Schedule.expect Schedule.amountOf; rw [duties_snd I c l r h, Finset.sum_singleton, amount_snd]
theorem expect_rcv : (rd I).expect (rcvC c l s) 0 = N := by
  unfold Schedule.expect Schedule.amountOf; rw [duties_rcv, Finset.sum_singleton, amount_rcv]

theorem payload_bar (d : Bool) : (rd I).payload (barC c) 0 d = barPay c d := by
  rw [payload_cell]; rfl
theorem payload_snd (r : ℕ) (d : Bool) : (rd I).payload (sndC c l) r d = sndPay c l r := by
  rw [payload_cell]; rfl
theorem payload_rcv (d : Bool) : (rd I).payload (rcvC c l s) 0 d = rcvPay I c l s := by
  rw [payload_cell]; rfl

theorem rest_bar : bigSep ((rd I).duties (barC c) 0 \ ∅) (fun d => (rd I).payload (barC c) 0 d) = iprop(barPay c false ∗ barPay c true) := by
  rw [Finset.sdiff_empty, duties_bar, show (Finset.univ : Finset Bool) = {false, true} by decide, BI.bigSep_insert (by decide), bigSep_singleton,
    payload_bar, payload_bar]; rfl
theorem rest_snd (r : ℕ) (h : r < 15) :
    bigSep ((rd I).duties (sndC c l) r \ ∅) (fun d => (rd I).payload (sndC c l) r d) = iprop(∃ f, sPts (F := F) c l ⟨r, h⟩ f) := by
  rw [Finset.sdiff_empty, duties_snd I c l r h, bigSep_singleton, payload_snd, sndPay, dif_pos h]
theorem rest_rcv : bigSep ((rd I).duties (rcvC c l s) 0 \ ∅) (fun d => (rd I).payload (rcvC c l s) 0 d) = rcvPay I c l s := by
  rw [Finset.sdiff_empty, duties_rcv, bigSep_singleton, payload_rcv]

end Sched

/-! ## Debts and levels -/

/-- What a device still owes once each lane has made the given number of sends. -/
def Orem (c : Dev nD) (n : Lane → ℕ) : CellTallies nD τ sig Unit :=
  ∑ l : Lane, ∑ s ∈ Finset.univ.filter (fun s : Fin 15 => n l ≤ s.val), tallyAt (rcvC (peer l.1 c) l s) () N

theorem Orem_step (c : Dev nD) (n : Lane → ℕ) (l : Lane) (s : Fin 15) (h : n l = s.val) :
    Orem c n = Orem c (Function.update n l (s.val + 1)) + tallyAt (rcvC (peer l.1 c) l s) () N := by
  unfold Orem
  rw [← Finset.add_sum_erase _ _ (Finset.mem_univ l),
    ← Finset.add_sum_erase (Finset.univ : Finset Lane)
      (fun x => ∑ t ∈ Finset.univ.filter (fun t : Fin 15 => Function.update n l (s.val + 1) x ≤ t.val), tallyAt (rcvC (peer x.1 c) x t) () N)
      (Finset.mem_univ l),
    Finset.sum_congr (s₁ := Finset.univ.erase l)
      (f := fun x => ∑ t ∈ Finset.univ.filter (fun t : Fin 15 => Function.update n l (s.val + 1) x ≤ t.val), tallyAt (rcvC (peer x.1 c) x t) () N) rfl
      (fun x hx => by rw [Function.update_of_ne (Finset.ne_of_mem_erase hx)])]
  simp only [Function.update_self]
  rw [h, show (Finset.univ.filter fun t : Fin 15 => s.val ≤ t.val) = insert s (Finset.univ.filter fun t : Fin 15 => s.val + 1 ≤ t.val) from by
      ext t; simp only [Finset.mem_filter, Finset.mem_univ, _root_.true_and, Finset.mem_insert, Fin.ext_iff]; omega,
    Finset.sum_insert (by simp)]
  rw [add_comm (tallyAt _ _ _), add_right_comm]

theorem Orem_done (c : Dev nD) : Orem c (fun _ => 15) = 0 := by
  unfold Orem
  refine Finset.sum_eq_zero fun l _ => ?_
  rw [Finset.filter_false_of_mem (fun s _ => by show ¬15 ≤ s.val; omega), Finset.sum_empty]

theorem Orem_pos {c : Dev nD} {n : Lane → ℕ} {g : GSem nD τ sig} {u : Unit} (h : 0 < Orem c n g u) :
    ∃ l s, n l ≤ s.val ∧ g = rcvC (peer l.1 c) l s := by
  unfold Orem at h
  rw [Finset.sum_apply, Finsupp.finset_sum_apply] at h
  obtain ⟨l, -, hl⟩ := Finset.exists_ne_zero_of_sum_ne_zero (Nat.pos_iff_ne_zero.mp h)
  rw [Finset.sum_apply, Finsupp.finset_sum_apply] at hl
  obtain ⟨s, hs, hls⟩ := Finset.exists_ne_zero_of_sum_ne_zero hl
  refine ⟨l, s, (Finset.mem_filter.mp hs).2, ?_⟩
  by_contra hn
  rw [tallyAt_apply, if_neg (fun h' => hn h'.1)] at hls
  exact hls rfl

/-- At launch a device owes every chunk it will send and its two barrier signals. -/
def O₀ (c : Dev nD) : CellTallies nD τ sig Unit :=
  (Orem c (fun _ => 0) + tallyAt (barC (peer true c)) () 1) + tallyAt (barC (peer false c)) () 1

def L (g : GSem nD τ sig) : Finset Unit := if g.1.2 = .tc then {()} else ∅
def lvOf : Option Ci → ℕ
  | some (.inl _) => 1
  | some (.inr (.inr x)) => 2 + x.2.val
  | _ => 0
def lv (g : GSem nD τ sig) (_ : Unit) : ℕ := lvOf (kd g.2)
theorem L_tc (c : Dev nD) (sm : SemLoc sig) : L ((c : Thread nD τ), sm) = {()} := if_pos rfl
theorem lv_cell (c : Dev nD) (i : Ci) (u : Unit) : lv (cellC c i) u = lvOf (some i) := by
  show lvOf (kd (csem i)) = _; rw [kd_csem]

theorem O₀_pos {c : Dev nD} {g : GSem nD τ sig} {u : Unit} (h : 0 < O₀ c g u) : 1 ≤ lv g u ∧ u ∈ L g := by
  unfold O₀ at h
  rw [Pi.add_apply, Finsupp.add_apply, Pi.add_apply, Finsupp.add_apply, tallyAt_apply, tallyAt_apply] at h
  by_cases h1 : g = barC (peer true c)
  · subst h1; rw [lv_cell]; exact ⟨le_rfl, Finset.mem_singleton_self _⟩
  by_cases h2 : g = barC (peer false c)
  · subst h2; rw [lv_cell]; exact ⟨le_rfl, Finset.mem_singleton_self _⟩
  rw [if_neg (fun h' => h1 h'.1), if_neg (fun h' => h2 h'.1)] at h
  obtain ⟨l, s, -, rfl⟩ := Orem_pos (n := fun _ => 0) (by simpa using h)
  rw [lv_cell]; exact ⟨by simp only [lvOf]; omega, Finset.mem_singleton_self _⟩

theorem mayWait_owing (c : Dev nD) (sm : SemLoc sig) (n : Lane → ℕ) (v : ℕ) (hv : lv ((c : Thread nD τ), sm) () ≤ v)
    (h : ∀ l (s : Fin 15), n l ≤ s.val → v < 2 + s.val) :
    (levAts L lv : sProp 𝕄) ⊢ MayWait (c : Thread nD τ) sm () (Orem c n) :=
  MayOwe.of_cut (L := L) (lev := lv) v (fun p hp => by rw [Finset.mem_singleton.mp hp, L_tc]; exact Finset.mem_singleton_self _)
    (fun g u hg => by obtain ⟨l, s, -, rfl⟩ := Orem_pos hg; exact Finset.mem_singleton_self _)
    (fun p hp => by rw [Finset.mem_singleton.mp hp]; exact hv)
    (fun g u hg => by obtain ⟨l, s, hs, rfl⟩ := Orem_pos hg; rw [lv_cell]; exact h l s hs)

end Cert.KernelIdeal.RingRs
-- ==== Proof.Steps.lean ====
module

public import proofs.«01_k».proof.Proof.Ring
public import Idealize.ShloMosaic.Lib.Pipeline.Value

@[expose] public section

noncomputable section

namespace Cert.KernelIdeal.RingRs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- The weakest precondition of a text on a device's core. -/
abbrev wpB {α : Type} (c : Dev nD) (p : Pg (F := F) α) (Kt : α → sProp 𝕄) : sProp 𝕄 :=
  wp frame (wpE (defs₀ (F := F)) 𝒱₀ (c : Thread nD τ) none) Set.univ p Kt

/-! ## Reading and writing a slot -/

theorem slot_read (b : Bool) (s : Fin 15) (k : Fin 4) (f : (rM b).view.ty.Contents (Elt F)) :
    (rM b).view.readAt (Elt F) (slotR s k).toLoadRect f
      = slotv ((rV b s k).view.read (Elt F) f) := by
  have h : (rV b s k).view.read (Elt F) f
      = shapeCast S256x256 ((rM b).view.readAt (Elt F) (slotR s k).toLoadRect f) Facts₀.shapeCasts_S1x1x256x256_S256x256 := rfl
  rw [h]; exact (shapeCast_shapeCast _ _ _).symm

theorem slot_write (b : Bool) (s : Fin 15) (k : Fin 4) (f : (sM b).view.ty.Contents (Elt F)) (v : FVec F S256x256 .bf16) :
    (sV b s k).view.read (Elt F) (((sM b).access (slotR s k)).write (Elt F) f (slotv v) Finset.univ) = v := by
  have h : (sV b s k).view.read (Elt F) (((sM b).access (slotR s k)).write (Elt F) f (slotv v) Finset.univ)
      = shapeCast S256x256 (((sM b).access (slotR s k)).read (Elt F) (((sM b).access (slotR s k)).write (Elt F) f (slotv v) Finset.univ))
          Facts₀.shapeCasts_S1x1x256x256_S256x256 := rfl
  rw [h, View.read_write_univ]; exact shapeCast_shapeCast _ _ _

theorem rV_set (b : Bool) (s : Fin 15) (k : Fin 4) : (rV b s k).view.set = (rM b).view.setOn (slotR s k).set := by
  unfold rV; rw [Memref.set_view_squeeze]; exact View.set_slice _ _
theorem sV_set (b : Bool) (s : Fin 15) (k : Fin 4) : (sV b s k).view.set = (sM b).view.setOn (slotR s k).set := by
  unfold sV; rw [Memref.set_view_squeeze]; exact View.set_slice _ _

omit [FloatOps F] in
theorem rPts_eq (c : Dev nD) (l : Lane) (s : Fin 15) (f : Buf (Elt F) ((rM l.1).view.loc (c : Thread nD τ))) :
    rPts c l s f = ((rM l.1).view.loc (c : Thread nD τ) ↦[(rM l.1).view.setOn (slotR s l.2).set]{fullShare} f : sProp 𝕄) :=
  congrArg (fun S => ((rM l.1).view.loc (c : Thread nD τ) ↦[S]{fullShare} f : sProp 𝕄)) (rV_set l.1 s l.2)
omit [FloatOps F] in
theorem sPts_eq (c : Dev nD) (l : Lane) (s : Fin 15) (f : Buf (Elt F) ((sM l.1).view.loc (c : Thread nD τ))) :
    sPts c l s f = ((sM l.1).view.loc (c : Thread nD τ) ↦[(sM l.1).view.setOn (slotR s l.2).set]{fullShare} f : sProp 𝕄) :=
  congrArg (fun S => ((sM l.1).view.loc (c : Thread nD τ) ↦[S]{fullShare} f : sProp 𝕄)) (sV_set l.1 s l.2)

theorem wp_loadR (c : Dev nD) (l : Lane) (s : Fin 15) (f : Buf (Elt F) ((rM l.1).view.loc (c : Thread nD τ)))
    (v : FVec F S256x256 .bf16) (hv : (rV l.1 s l.2).view.read (Elt F) f = v) (Kt : Vec F S1x1x256x256 .bf16 → sProp 𝕄) :
    rPts c l s f ⊢ iprop((rPts c l s f -∗ Kt (slotv v)) -∗ wpB c (loadR l.1 s l.2) Kt) := by
  rw [rPts_eq]
  unfold loadR Prog.lift
  iintro H Hk
  iapply (wp_load 𝒱₀ (c : Thread nD τ) none Set.univ (m := rM l.1) (r := (slotR s l.2).toLoadRect) (Finset.Subset.refl _)) $$ H
  iintro H
  rw [slot_read, hv]
  simp only [Prog.pure_eq_ret, wp_ret]
  imodintro
  iapply Hk; iexact H

theorem wp_putS (c : Dev nD) (l : Lane) (s : Fin 15) (f : Buf (Elt F) ((sM l.1).view.loc (c : Thread nD τ)))
    (v : FVec F S256x256 .bf16) (Kt : PUnit → sProp 𝕄) :
    sPts c l s f ⊢ iprop(((∃ f', ⌜(sV l.1 s l.2).view.read (Elt F) f' = v⌝ ∗ sPts c l s f') -∗ Kt ⟨⟩) -∗ wpB c (putS l.1 s l.2 v) Kt) := by
  rw [sPts_eq]
  unfold putS Prog.lift
  simp only [Prog.bind_op, Prog.bind_ret]
  iintro H Hk
  iapply (wp_load 𝒱₀ (c : Thread nD τ) none Set.univ (m := sM l.1) (r := (slotR s l.2).toLoadRect) (Finset.Subset.refl _)) $$ H
  iintro H
  iapply (wp_store 𝒱₀ (c : Thread nD τ) none Set.univ (m := sM l.1) (r := slotR s l.2) (Mk := Finset.univ)
    (by rw [View.setOn_univ]; exact (View.set_slice _ _).le)) $$ H
  iintro H
  simp only [Prog.pure_eq_ret, wp_ret]
  imodintro
  iapply Hk
  iexists _; isplitr
  · ipureintro; exact slot_write l.1 s l.2 f v
  rw [sPts_eq]
  iexact H

/-! ## A lane's state -/

variable (I : Ins F) (K : Dev nD × Ci → ℕ) (c : Dev nD) (l : Lane)

/-- Every cell's invariant. -/
def recs : sProp 𝕄 := bigSep Finset.univ fun x : Dev nD × Ci => cellInv ER (rd I) (K x) (cellC x.1 x.2)

instance recs_persistent : BI.Persistent (recs I K) := by unfold recs; infer_instance

theorem recs_at (d : Dev nD) (i : Ci) : recs I K ⊢ cellInv ER (rd I) (K (d, i)) (cellC d i) := by
  unfold recs
  rw [bigSep_univ_at _ (d, i)]
  iintro ⟨H, -⟩; iexact H

/-- One member of a family put away and another taken out in its place. -/
theorem swap_at {Φ Ψ : Fin 15 → sProp 𝕄} (s : Fin 15) (h : ∀ t, t ≠ s → Φ t = Ψ t) :
    bigSep Finset.univ Φ ⊢ iprop(Φ s ∗ (Ψ s -∗ bigSep Finset.univ Ψ)) := by
  rw [bigSep_univ_at Φ s, bigSep_univ_at Ψ s, bigSep_congr (s := Finset.univ.erase s) (Φ := Φ) (Ψ := Ψ) fun t ht => h t (Finset.ne_of_mem_erase ht)]
  iintro ⟨H, Hr⟩
  isplitl [H]; · iexact H
  iintro H'
  isplitl [H'] <;> iassumption

/-- Slot `s` of the receive buffer once `m` chunks of the lane have come in. -/
def RcvAt (m : ℕ) (s : Fin 15) : sProp 𝕄 :=
  if s.val < m then iprop(atPos ER (rcvC c l s) 1 ∅ 0 ∗ ∃ f, rPts (F := F) c l s f)
  else iprop(atPos ER (rcvC c l s) 0 ∅ 0 ∗ cred (tallyAt (rcvC c l s) () N))
/-- Slot `s` of the peer's receive buffer once `n` chunks of the lane have been sent. -/
def SndAt (n : ℕ) (s : Fin 15) : sProp 𝕄 :=
  if s.val < n then iprop(emp)
  else iprop((∃ f, rPts (F := F) (peer l.1 c) l s f) ∗ reached ER (rcvC (peer l.1 c) l s) 0
    ∗ dutyTok ER (rcvC (peer l.1 c) l s) 0 true ∗ dutyTok ER (sndC c l) s.val true)
/-- Slot `s` of the send buffer, lent out between its send and the wait for it. -/
def OwnAt (w n : ℕ) (s : Fin 15) : sProp 𝕄 :=
  if w ≤ s.val ∧ s.val < n then iprop(emp) else iprop(∃ f, sPts (F := F) c l s f)

/-- The send cell once `w` of `n` chunks are known to have gone out. -/
def SndCell (w n : ℕ) : sProp 𝕄 :=
  iprop(atPos ER (sndC c l) w ∅ 0 ∗ reached ER (sndC c l) w ∗ if w < n then cred (tallyAt (sndC c l) () N) else iprop(emp))

/-- A lane after `j` sends; at 16 its last chunk has come in, at 17 its last chunk has gone out. -/
def LaneSt (j : ℕ) : sProp 𝕄 :=
  iprop(bigSep Finset.univ (RcvAt (F := F) c l (j - 1)) ∗ bigSep Finset.univ (SndAt (F := F) c l (min j 15))
    ∗ bigSep Finset.univ (OwnAt (F := F) c l (if j < 16 then j - 1 else j - 2) (min j 15))
    ∗ SndCell (F := F) c l (if j < 16 then j - 1 else j - 2) (min j 15))

/-! ## The waits and the transfer -/

theorem wp_waitR (q : Fin 15) (O : CellTallies nD τ sig Unit) (W : Waits sig Unit) (Kt : PUnit → sProp 𝕄) :
    iprop(recs I K ∗ owes (c : Thread nD τ) O W ∗ MayWait (c : Thread nD τ) (csem (.inr (.inr (l, q)))) () O
        ∗ atPos ER (rcvC c l q) 0 ∅ 0 ∗ cred (tallyAt (rcvC c l q) () N))
      ⊢ iprop(((∃ W', owes (c : Thread nD τ) O W') ∗ atPos ER (rcvC c l q) 1 ∅ 0 ∗ rcvPay I c l q -∗ Kt ⟨⟩)
        -∗ wpB c (waitR l.1 q l.2) Kt) := by
  unfold waitR Prog.lift
  iintro ⟨#HR, HO, HM, Hat, Hc⟩ Hk
  iapply (Rounds.wp_wait_rest_token 𝒱₀ ER (rd I) (c : Thread nD τ) none (κ := K (c, .inr (.inr (l, q))))
      (wpE_waitDma2_eq 𝒱₀ (c : Thread nD τ) none Set.univ) (Set.mem_univ _) () (O := O) (W := W) (R := 0) (m := 0) (T := ∅)
      (by rw [Nat.zero_add, credit_rV]; exact (expect_rcv I c l q).symm)) $$ [HO HM Hat Hc]
  · isplitr; · iapply (recs_at I K c (.inr (.inr (l, q)))); iexact HR
    isplitl [Hc]; · rw [credit_rV]; iexact Hc
    isplitl [HO]; · iexact HO
    isplitl [HM]; · iexact HM
    iexact Hat
  iintro ⟨HO, Hat, -, Hpay⟩
  have hp : bigSep ((rd I).duties ((c : Thread nD τ), .dma (rSem l.1 q l.2)) 0 \ ∅) (fun d => (rd I).payload ((c : Thread nD τ), .dma (rSem l.1 q l.2)) 0 d)
      = rcvPay I c l q := rest_rcv I c l q
  ihave Hp := (Entails.of_eq hp) $$ Hpay
  simp only [Prog.pure_eq_ret, wp_ret]
  imodintro
  iapply Hk
  isplitl [HO]; · iexists _; iexact HO
  isplitl [Hat]; · iexact Hat
  iexact Hp

theorem wp_waitS (q : Fin 15) (O : CellTallies nD τ sig Unit) (W : Waits sig Unit) (Kt : PUnit → sProp 𝕄) :
    iprop(recs I K ∗ owes (c : Thread nD τ) O W ∗ MayWait (c : Thread nD τ) (csem (.inr (.inl l))) () O
        ∗ atPos ER (sndC c l) q.val ∅ 0 ∗ cred (tallyAt (sndC c l) () N))
      ⊢ iprop(((∃ W', owes (c : Thread nD τ) O W') ∗ atPos ER (sndC c l) (q.val + 1) ∅ 0 ∗ reached ER (sndC c l) (q.val + 1)
          ∗ (∃ f, sPts (F := F) c l q f) -∗ Kt ⟨⟩)
        -∗ wpB c (waitS l.1 q l.2) Kt) := by
  unfold waitS Prog.lift
  iintro ⟨#HR, HO, HM, Hat, Hc⟩ Hk
  iapply (Rounds.wp_wait_rest_token 𝒱₀ ER (rd I) (c : Thread nD τ) none (κ := K (c, .inr (.inl l)))
      (wpE_waitDma2_eq 𝒱₀ (c : Thread nD τ) none Set.univ) (Set.mem_univ _) () (O := O) (W := W) (R := q.val) (m := 0) (T := ∅)
      (by rw [Nat.zero_add, credit_sV]; exact (expect_snd I c l q.val q.isLt).symm)) $$ [HO HM Hat Hc]
  · isplitr; · iapply (recs_at I K c (.inr (.inl l))); iexact HR
    isplitl [Hc]; · rw [credit_sV]; iexact Hc
    isplitl [HO]; · iexact HO
    isplitl [HM]; · iexact HM
    iexact Hat
  iintro ⟨HO, Hat, Hre, Hpay⟩
  have hp : bigSep ((rd I).duties ((c : Thread nD τ), .dma (sSem l.1 l.2)) q.val \ ∅) (fun d => (rd I).payload ((c : Thread nD τ), .dma (sSem l.1 l.2)) q.val d)
      = iprop(∃ f, sPts (F := F) c l q f) := rest_snd I c l q.val q.isLt
  ihave Hp := (Entails.of_eq hp) $$ Hpay
  simp only [Prog.pure_eq_ret, wp_ret]
  imodintro
  iapply Hk
  isplitl [HO]; · iexists _; iexact HO
  isplitl [Hat]; · iexact Hat
  isplitl [Hre]; · iexact Hre
  iexact Hp

omit [FloatOps F] in
theorem snd_pay (s : Fin 15) (f : Buf (Elt F) ((sV l.1 s l.2).view.loc (c : Thread nD τ))) : sPts c l s f ⊢ sndPay (F := F) c l s.val := by
  unfold sndPay; rw [dif_pos s.isLt]
  iintro H; iexists _; iexact H
theorem rcv_pay (s : Fin 15) (f : Buf (Elt F) ((rV l.1 s l.2).view.loc (c : Thread nD τ)))
    (hf : (rV l.1 s l.2).view.read (Elt F) f = sentV I l s.val (peer (!l.1) c)) : rPts c l s f ⊢ rcvPay I c l s := by
  unfold rcvPay
  iintro H; iexists f
  isplitr
  · ipureintro; exact hf
  iexact H

theorem wp_go (s : Fin 15) (f : Buf (Elt F) ((sV l.1 s l.2).view.loc (c : Thread nD τ)))
    (hf : (sV l.1 s l.2).view.read (Elt F) f = sentV I l s.val c) (d : Dev nD) (hd : d = peer l.1 c)
    (O : CellTallies nD τ sig Unit) (W : Waits sig Unit) (Kt : PUnit → sProp 𝕄) :
    iprop(recs I K ∗ owes (c : Thread nD τ) (O + tallyAt (rcvC (peer l.1 c) l s) () N) W ∗ sPts c l s f
        ∗ (∃ f, rPts (F := F) (peer l.1 c) l s f) ∗ reached ER (rcvC (peer l.1 c) l s) 0
        ∗ dutyTok ER (rcvC (peer l.1 c) l s) 0 true ∗ dutyTok ER (sndC c l) s.val true ∗ reached ER (sndC c l) s.val)
      ⊢ iprop((owes (c : Thread nD τ) O W ∗ cred (tallyAt (sndC c l) () N) -∗ Kt ⟨⟩)
        -∗ wpB c (go l.1 s l.2 d) Kt) := by
  subst hd
  unfold go Prog.lift
  iintro ⟨#HR, HO, Hs, ⟨%g, Hr⟩, #Hre, Ht, Hts, #Hres⟩ Hk
  iapply (Rounds.wp_send_pointsTo 𝒱₀ ER (rd I) (c : Thread nD τ) none (κ₁ := K (c, .inr (.inl l))) (κ₂ := K (peer l.1 c, .inr (.inr (l, s))))
      (src := sV l.1 s l.2) (dst := rV l.1 s l.2) (c' := (peer l.1 c : Thread nD τ)) (sS := .dma (sSem l.1 l.2)) (sem := .dma (rSem l.1 s l.2)) (fs := f) (fd := g)
      (r₁ := s.val) (r₂ := 0) (d₁ := true) (d₂ := true)
      ((duties_snd I c l s.val s.isLt).symm ▸ Finset.mem_singleton_self _) ((duties_rcv I (peer l.1 c) l s).symm ▸ Finset.mem_singleton_self _)
      () () N (credit_rV l.1 s l.2) (amount_snd I c l s.val true) (amount_rcv I (peer l.1 c) l s 0 true) O rfl (W := W)
      ((snd_pay c l s f).trans (Entails.of_eq (payload_snd I c l s.val true).symm))
      ((rcv_pay I (peer l.1 c) l s _ (by rw [View.read_write_univ, hf, peer_back])).trans (Entails.of_eq (payload_rcv I (peer l.1 c) l s true).symm))) $$ [HO Hs Hr Ht Hts]
  · isplitr; · iapply (recs_at I K c (.inr (.inl l))); iexact HR
    isplitr; · iapply (recs_at I K (peer l.1 c) (.inr (.inr (l, s)))); iexact HR
    isplitl [Hs]; · unfold sPts; iexact Hs
    isplitl [Hr]; · unfold rPts; iexact Hr
    isplitl [HO]; · iexact HO
    isplitl [Hts]; · iexact Hts
    isplitr; · iexact Hres
    isplitl [Ht]; · iexact Ht
    iexact Hre
  iintro ⟨Hc, HO⟩
  simp only [Prog.pure_eq_ret, wp_ret]
  imodintro
  iapply Hk
  isplitl [HO]; · iexact HO
  iexact Hc

end Cert.KernelIdeal.RingRs
-- ==== Proof.Lanes.lean ====
module

public import proofs.«01_k».proof.Proof.Steps

@[expose] public section

noncomputable section

namespace Cert.KernelIdeal.RingRs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Ins F) (K : Dev nD × Ci → ℕ) (c : Dev nD) (l : Lane)

/-! ## Taking a slot out of a lane's families -/

theorem rcv_take (q : Fin 15) : bigSep Finset.univ (RcvAt (F := F) c l q.val)
    ⊢ iprop((atPos ER (rcvC c l q) 0 ∅ 0 ∗ cred (tallyAt (rcvC c l q) () N))
      ∗ ((atPos ER (rcvC c l q) 1 ∅ 0 ∗ ∃ f, rPts (F := F) c l q f) -∗ bigSep Finset.univ (RcvAt (F := F) c l (q.val + 1)))) := by
  refine (swap_at (Ψ := RcvAt (F := F) c l (q.val + 1)) q fun t ht => ?_).trans (Entails.of_eq ?_)
  · have hv : t.val ≠ q.val := fun h => ht (Fin.ext h)
    unfold RcvAt
    by_cases h : t.val < q.val
    · rw [if_pos h, if_pos (by omega)]
    · rw [if_neg h, if_neg (by omega)]
  · rw [RcvAt, RcvAt, if_neg (Nat.lt_irrefl _), if_pos (Nat.lt_succ_self _)]

theorem snd_take (s : Fin 15) : bigSep Finset.univ (SndAt (F := F) c l s.val)
    ⊢ iprop(((∃ f, rPts (F := F) (peer l.1 c) l s f) ∗ reached ER (rcvC (peer l.1 c) l s) 0
        ∗ dutyTok ER (rcvC (peer l.1 c) l s) 0 true ∗ dutyTok ER (sndC c l) s.val true)
      ∗ (emp -∗ bigSep Finset.univ (SndAt (F := F) c l (s.val + 1)))) := by
  refine (swap_at (Ψ := SndAt (F := F) c l (s.val + 1)) s fun t ht => ?_).trans (Entails.of_eq ?_)
  · have hv : t.val ≠ s.val := fun h => ht (Fin.ext h)
    unfold SndAt
    by_cases h : t.val < s.val
    · rw [if_pos h, if_pos (by omega)]
    · rw [if_neg h, if_neg (by omega)]
  · rw [SndAt, SndAt, if_neg (Nat.lt_irrefl _), if_pos (Nat.lt_succ_self _)]

/-- The slot a chunk is put in is lent out; -/
theorem own_take (w : ℕ) (s : Fin 15) (h : w ≤ s.val) : bigSep Finset.univ (OwnAt (F := F) c l w s.val)
    ⊢ iprop((∃ f, sPts (F := F) c l s f) ∗ (emp -∗ bigSep Finset.univ (OwnAt (F := F) c l w (s.val + 1)))) := by
  refine (swap_at (Ψ := OwnAt (F := F) c l w (s.val + 1)) s fun t ht => ?_).trans (Entails.of_eq ?_)
  · have hv : t.val ≠ s.val := fun h => ht (Fin.ext h)
    unfold OwnAt
    by_cases h : w ≤ t.val ∧ t.val < s.val
    · rw [if_pos h, if_pos (by omega)]
    · rw [if_neg h, if_neg (by omega)]
  · rw [OwnAt, OwnAt, if_neg (by omega), if_pos (by omega)]

/-- the wait for it puts it back. -/
theorem own_give (n : ℕ) (q : Fin 15) (h : q.val < n) : bigSep Finset.univ (OwnAt (F := F) c l q.val n)
    ⊢ iprop((∃ f, sPts (F := F) c l q f) -∗ bigSep Finset.univ (OwnAt (F := F) c l (q.val + 1) n)) := by
  refine (swap_at (Ψ := OwnAt (F := F) c l (q.val + 1) n) q fun t ht => ?_).trans ?_
  · have hv : t.val ≠ q.val := fun h => ht (Fin.ext h)
    unfold OwnAt
    by_cases h : q.val ≤ t.val ∧ t.val < n
    · rw [if_pos h, if_pos (by omega)]
    · rw [if_neg h, if_neg (by omega)]
  · rw [OwnAt, OwnAt, if_pos (by omega), if_neg (by omega)]
    iintro ⟨-, H⟩; iexact H

/-! ## A lane's state, stage by stage -/

theorem laneSt_mid (s : Fin 15) : LaneSt (F := F) c l s.val
    = iprop(bigSep Finset.univ (RcvAt (F := F) c l (s.val - 1)) ∗ bigSep Finset.univ (SndAt (F := F) c l s.val)
      ∗ bigSep Finset.univ (OwnAt (F := F) c l (s.val - 1) s.val) ∗ SndCell (F := F) c l (s.val - 1) s.val) := by
  unfold LaneSt; rw [if_pos (by omega), show min s.val 15 = s.val by omega]
theorem laneSt_next (s : Fin 15) : LaneSt (F := F) c l (s.val + 1)
    = iprop(bigSep Finset.univ (RcvAt (F := F) c l s.val) ∗ bigSep Finset.univ (SndAt (F := F) c l (s.val + 1))
      ∗ bigSep Finset.univ (OwnAt (F := F) c l s.val (s.val + 1)) ∗ SndCell (F := F) c l s.val (s.val + 1)) := by
  unfold LaneSt; rw [if_pos (by omega), show min (s.val + 1) 15 = s.val + 1 by omega, Nat.add_sub_cancel]
theorem laneSt_16 : LaneSt (F := F) c l 16
    = iprop(bigSep Finset.univ (RcvAt (F := F) c l 15) ∗ bigSep Finset.univ (SndAt (F := F) c l 15)
      ∗ bigSep Finset.univ (OwnAt (F := F) c l 14 15) ∗ SndCell (F := F) c l 14 15) := rfl
theorem laneSt_17 : LaneSt (F := F) c l 17
    = iprop(bigSep Finset.univ (RcvAt (F := F) c l 16) ∗ bigSep Finset.univ (SndAt (F := F) c l 15)
      ∗ bigSep Finset.univ (OwnAt (F := F) c l 15 15) ∗ SndCell (F := F) c l 15 15) := rfl

/-- All lanes of a device, and what it still owes. -/
def Lanes (st : Lane → ℕ) : sProp 𝕄 :=
  iprop(bigSep Finset.univ (fun l => LaneSt (F := F) c l (st l)) ∗ ∃ W, owes (c : Thread nD τ) (Orem c st) W)

/-- One lane moves on, the others stay. -/
theorem lane_take (st : Lane → ℕ) (j : ℕ) : bigSep Finset.univ (fun l => LaneSt (F := F) c l (st l))
    ⊢ iprop(LaneSt (F := F) c l (st l) ∗ (LaneSt (F := F) c l j -∗ bigSep Finset.univ (fun x => LaneSt (F := F) c x (Function.update st l j x)))) := by
  rw [bigSep_univ_at _ l, bigSep_univ_at (fun x => LaneSt (F := F) c x (Function.update st l j x)) l, Function.update_self,
    bigSep_congr (s := Finset.univ.erase l) (Φ := fun x => LaneSt (F := F) c x (Function.update st l j x)) (Ψ := fun x => LaneSt (F := F) c x (st x))
      fun x hx => by rw [Function.update_of_ne (Finset.ne_of_mem_erase hx)]]
  iintro ⟨H, Hr⟩
  isplitl [H]; · iexact H
  iintro H'
  isplitl [H'] <;> iassumption

theorem wp_step0 (k : Fin 4) (hl : l.2 = k) (st : Lane → ℕ) (hst : st l = 0) (d : Dev nD) (hd : d = peer l.1 c) (p : FVec F S256x1024 .f32)
    (hp : p = part I l.1 (toff l.1 0) c) (Kt : PUnit → sProp 𝕄) :
    iprop(recs I K ∗ Lanes (F := F) c st)
      ⊢ iprop((Lanes (F := F) c (Function.update st l 1) -∗ Kt ⟨⟩) -∗ wpB c (step0 l.1 k d p) Kt) := by
  subst hl
  have hz : LaneSt (F := F) c l (st l) = _ := (congrArg _ hst).trans (laneSt_mid (F := F) c l 0)
  have h1 : LaneSt (F := F) c l 1 = _ := laneSt_next (F := F) c l 0
  unfold Lanes
  rw [Orem_step c st l 0 hst]
  simp only [step0, wp_bind]
  iintro ⟨#HR, Hl, %W, HO⟩ Hk
  ihave H := (lane_take (F := F) c l st 1) $$ Hl
  icases H with ⟨Hl, Hback⟩
  ihave Hl := (Entails.of_eq hz) $$ Hl
  icases Hl with ⟨HRc, HSn, HOw, HC⟩
  unfold SndCell
  icases HC with ⟨Hat, #Hre, -⟩
  ihave H := (own_take (F := F) c l ((0 : Fin 15).val - 1) 0 (Nat.le_refl _)) $$ HOw
  icases H with ⟨⟨%f, Hs⟩, HOw⟩
  ihave H := (snd_take (F := F) c l 0) $$ HSn
  icases H with ⟨⟨Hr, Hrr, Ht, Hts⟩, HSn⟩
  iapply (wp_putS (F := F) c l 0 f (firstv l.2 p) _) $$ Hs
  iintro ⟨%f', %hf, Hs⟩
  iapply (wp_go I K c l 0 f' (by rw [hf, hp]; rfl) d hd (Orem c (Function.update st l 1)) W _) $$ [HO Hs Hr Hrr Ht Hts]
  · isplitr; · iexact HR
    isplitl [HO]; · iexact HO
    isplitl [Hs]; · iexact Hs
    isplitl [Hr]; · iexact Hr
    isplitl [Hrr]; · iexact Hrr
    isplitl [Ht]; · iexact Ht
    isplitl [Hts]; · iexact Hts
    iexact Hre
  iintro ⟨HO, Hc⟩
  iapply Hk
  isplitr [HO]
  · iapply Hback
    iapply (Entails.of_eq h1.symm)
    isplitl [HRc]; · iexact HRc
    isplitl [HSn]; · iapply HSn; iempintro
    isplitl [HOw]; · iapply HOw; iempintro
    unfold SndCell
    isplitl [Hat]; · iexact Hat
    isplitr; · iexact Hre
    rw [if_pos (by decide)]; iexact Hc
  iexists W; iexact HO

theorem wp_step (k : Fin 4) (hl : l.2 = k) (q s : Fin 15) (hqs : s.val = q.val + 1) (st : Lane → ℕ) (hst : st l = s.val) (hall : ∀ x, s.val ≤ st x)
    (d : Dev nD) (hd : d = peer l.1 c) (p : FVec F S256x1024 .f32) (hp : p = part I l.1 (toff l.1 s.val) c) (Kt : PUnit → sProp 𝕄) :
    iprop(recs I K ∗ levAts L lv ∗ Lanes (F := F) c st)
      ⊢ iprop((Lanes (F := F) c (Function.update st l (s.val + 1)) -∗ Kt ⟨⟩) -∗ wpB c (step l.1 q s k d p) Kt) := by
  subst hl
  have hz : LaneSt (F := F) c l (st l) = _ := (congrArg _ (hst.trans hqs)).trans (laneSt_next (F := F) c l q)
  have h1 : LaneSt (F := F) c l (s.val + 1) = _ := laneSt_next (F := F) c l s
  have hown : OwnAt (F := F) c l q.val (q.val + 1) = OwnAt (F := F) c l q.val s.val := by rw [hqs]
  have hsnd : SndAt (F := F) c l (q.val + 1) = SndAt (F := F) c l s.val := by rw [hqs]
  unfold Lanes
  simp only [step, wp_bind]
  iintro ⟨#HR, #HL, Hl, %W, HO⟩ Hk
  ihave H := (lane_take (F := F) c l st (s.val + 1)) $$ Hl
  icases H with ⟨Hl, Hback⟩
  ihave Hl := (Entails.of_eq hz) $$ Hl
  rw [hown, hsnd]
  icases Hl with ⟨HRc, HSn, HOw, HC⟩
  unfold SndCell
  rw [if_pos (Nat.lt_succ_self _)]
  icases HC with ⟨Hat, -, Hc⟩
  -- the chunk comes in
  ihave H := (rcv_take (F := F) c l q) $$ HRc
  icases H with ⟨⟨Hatr, Hcr⟩, HRc⟩
  iapply (wp_waitR I K c l q (Orem c st) W _) $$ [HO Hatr Hcr]
  · isplitr; · iexact HR
    isplitl [HO]; · iexact HO
    isplitr
    · iapply (mayWait_owing (F := F) c (csem (.inr (.inr (l, q)))) st (2 + q.val) (by
        rw [show lv ((c : Thread nD τ), csem (.inr (.inr (l, q)))) () = _ from lv_cell c (.inr (.inr (l, q))) ()]; exact Nat.le_refl _)
        (fun x t ht => by have := hall x; omega)); iexact HL
    isplitl [Hatr] <;> iassumption
  iintro ⟨⟨%W1, HO⟩, Hatr, Hpay⟩
  unfold rcvPay
  icases Hpay with ⟨%g, %hg, Hr⟩
  iapply (wp_loadR (F := F) c l q g _ hg _) $$ Hr
  iintro Hr
  ihave HRc := HRc $$ [Hatr Hr]
  · isplitl [Hatr]; · iexact Hatr
    iexists g; iexact Hr
  -- the sum is put in the next slot
  ihave H := (own_take (F := F) c l q.val s (by omega)) $$ HOw
  icases H with ⟨⟨%f, Hs⟩, HOw⟩
  ihave HOw := HOw $$ []
  · iempintro
  iapply (wp_putS (F := F) c l s f _ _) $$ Hs
  iintro ⟨%f', %hf, Hs⟩
  -- the last one has gone out
  iapply (wp_waitS I K c l q (Orem c st) W1 _) $$ [HO Hat Hc]
  · isplitr; · iexact HR
    isplitl [HO]; · iexact HO
    isplitr
    · iapply (mayWait_owing (F := F) c (csem (.inr (.inl l))) st 0 (by
        rw [show lv ((c : Thread nD τ), csem (.inr (.inl l))) () = _ from lv_cell c (.inr (.inl l)) ()]; exact Nat.le_refl _)
        (fun x t ht => by omega)); iexact HL
    isplitl [Hat] <;> iassumption
  iintro ⟨⟨%W2, HO⟩, Hat, #Hre, Hso⟩
  ihave HOw := (own_give (F := F) c l (s.val + 1) q (by omega)) $$ HOw Hso
  rw [← hqs]
  -- and the next goes
  ihave H := (snd_take (F := F) c l s) $$ HSn
  icases H with ⟨⟨Hr, Hrr, Ht, Hts⟩, HSn⟩
  ihave HO := (Entails.of_eq (congrArg (fun O => owes (c : Thread nD τ) O W2) (Orem_step c st l s hst))) $$ HO
  iapply (wp_go I K c l s f' (by rw [hf, hp, hqs]; rfl) d hd (Orem c (Function.update st l (s.val + 1))) W2 _) $$ [HO Hs Hr Hrr Ht Hts]
  · isplitr; · iexact HR
    isplitl [HO]; · iexact HO
    isplitl [Hs]; · iexact Hs
    isplitl [Hr]; · iexact Hr
    isplitl [Hrr]; · iexact Hrr
    isplitl [Ht]; · iexact Ht
    isplitl [Hts]; · iexact Hts
    iexact Hre
  iintro ⟨HO, Hc⟩
  iapply Hk
  isplitr [HO]
  · iapply Hback
    iapply (Entails.of_eq h1.symm)
    isplitl [HRc]; · iexact HRc
    isplitl [HSn]; · iapply HSn; iempintro
    isplitl [HOw]; · iexact HOw
    unfold SndCell
    isplitl [Hat]; · iexact Hat
    isplitr; · iexact Hre
    rw [if_pos (Nat.lt_succ_self _)]; iexact Hc
  iexists W2; iexact HO

end Cert.KernelIdeal.RingRs
-- ==== Proof.Env.lean ====
module

public import proofs.«01_k».proof.Proof.Lanes

@[expose] public section

noncomputable section

namespace Cert.KernelIdeal.RingRs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Ins F) (c : Dev nD)

/-! ## The tables and the offsets read from them -/

theorem tOff_eq : ∀ (t : Fin 17) (i : Fin 16), tOff t.val (wd i) = ![(i.val + t.val) % 16] := by decide
theorem off1_eq : ∀ d : Dev nD, k0_off1 d = ![d.val] := by decide
theorem off2_eq : ∀ i : Fin 16, k0_off2 (wd i) = ![(i.val + 1) % 16] := by decide
theorem off3_eq : ∀ i : Fin 16, k0_off3 (wd i) = ![(i.val + 15) % 16] := by decide
theorem dev1_eq : ∀ i : Fin 16, k0_dev1 (wd i) = i.val := by decide
theorem dev2_eq : ∀ i : Fin 16, k0_dev2 (wd i) = i.val := by decide
theorem chk1_wd : ∀ i : Fin 16, k0_chk1 (wd i) := by decide
theorem chk2_wd : ∀ i : Fin 16, k0_chk2 (wd i) := by decide
theorem chk3_wd : ∀ i : Fin 16, k0_chk3 (wd i) := by decide
theorem lit0_eq : ∀ i : Fin 16, lit0 i = wd (permD i) := by decide
theorem lit1_eq : ∀ c : Dev nD, lit1 c = wd (posD c) := by decide

/-- A table as the contents of its buffer. -/
def permT : (cc0_stg4_0 : Ref sig .tc).ty.Contents (Elt F) := fun i => lit0 (S16.rowMajor i)
def posT : (cc0_stg5_0 : Ref sig .tc).ty.Contents (Elt F) := fun i => lit1 (S16.rowMajor i)

omit [FloatOps F] in
theorem permT_read (o : Fin 1 → Nat) (inb : ∀ a, o a + S1.size a ≤ S16.size a) (j : Fin 16) (h : o = ![j.val]) (x : S1.Idx) :
    ((Memref.whole cc0_stg4_0 : Memref sig .tc .smem S16 .i32).access (Rect.unit (s := S16) o S1.size inb)).read (Elt F) permT x = lit0 j := by
  subst h
  show lit0 (S16.rowMajor _) = lit0 j
  congr 1
  apply Fin.ext
  rw [Shape.rowMajor_val_one]
  show j.val + _ = j.val
  have : (x 0).val = 0 := by have := (x 0).isLt; change _ < 1 at this; omega
  simp [this]
omit [FloatOps F] in
theorem posT_read (o : Fin 1 → Nat) (inb : ∀ a, o a + S1.size a ≤ S16.size a) (j : Fin 16) (h : o = ![j.val]) (x : S1.Idx) :
    ((Memref.whole cc0_stg5_0 : Memref sig .tc .smem S16 .i32).access (Rect.unit (s := S16) o S1.size inb)).read (Elt F) posT x = lit1 j := by
  subst h
  show lit1 (S16.rowMajor _) = lit1 j
  congr 1
  apply Fin.ext
  rw [Shape.rowMajor_val_one]
  show j.val + _ = j.val
  have : (x 0).val = 0 := by have := (x 0).isLt; change _ < 1 at this; omega
  simp [this]

/-- A device's windows at their contents, the result's aside. -/
def Env : sProp 𝕄 :=
  iprop((((c : Thread nD τ).loc cc0_stg0_0) ↦{fullShare} I.x c)
    ∗ (((c : Thread nD τ).loc cc0_stg1_0) ↦{fullShare} I.w c)
    ∗ (((c : Thread nD τ).loc cc0_stg2_0) ↦{fullShare} I.sx c)
    ∗ (((c : Thread nD τ).loc cc0_stg3_0) ↦{fullShare} I.sw c)
    ∗ (((c : Thread nD τ).loc cc0_stg4_0) ↦{fullShare} permT)
    ∗ (((c : Thread nD τ).loc cc0_stg5_0) ↦{fullShare} posT))

theorem env_eq : Env I c = iprop((((c : Thread nD τ).loc cc0_stg0_0) ↦{fullShare} I.x c)
    ∗ (((c : Thread nD τ).loc cc0_stg1_0) ↦{fullShare} I.w c)
    ∗ (((c : Thread nD τ).loc cc0_stg2_0) ↦{fullShare} I.sx c)
    ∗ (((c : Thread nD τ).loc cc0_stg3_0) ↦{fullShare} I.sw c)
    ∗ (((c : Thread nD τ).loc cc0_stg4_0) ↦{fullShare} permT)
    ∗ (((c : Thread nD τ).loc cc0_stg5_0) ↦{fullShare} posT)) := rfl

theorem wp_dotT (b : Bool) (t : Nat) (ht : t < 16) (h : k0_chk1 (wd (posD c))) (Kt : FVec F S256x1024 .f32 → sProp 𝕄) :
    Env I c ⊢ iprop((Env I c -∗ Kt (part I b t c)) -∗ wpB c (dotT b t ht (wd (posD c)) h) Kt) := by
  unfold Env dotT part onD
  simp only [smemLoad, smemLoadElt, Prog.lift, Prog.bind_op, Prog.bind_ret, Prog.pure_eq_ret, Prog.bind_assoc]
  iintro ⟨Hx, Hw, Hsx, Hsw, Hp, Hq⟩ Hk
  iapply (wp_load_rect 𝒱₀ (c : Thread nD τ) none Set.univ (m := (Memref.whole cc0_stg4_0 : Memref sig .tc .smem S16 .i32))
    (r := Rect.unit (s := S16) (tOff t (wd (posD c))) S1.size (tOff_inb t ht _ h)) (Finset.subset_univ _)) $$ Hp
  iintro Hp
  rw [permT_read _ _ ⟨((posD c).val + t) % 16, Nat.mod_lt _ (by decide)⟩ (tOff_eq ⟨t, by omega⟩ (posD c)), lit0_eq]
  iapply (wp_assume 𝒱₀ (c : Thread nD τ) none Set.univ (wd_row _))
  iapply (wp_load 𝒱₀ (c : Thread nD τ) none Set.univ (m := (Memref.whole cc0_stg0_0 : Memref sig .tc .vmem S4096x256 .fp8e5m2)) (Finset.subset_univ _)) $$ Hx
  iintro Hx
  iapply (wp_load 𝒱₀ (c : Thread nD τ) none Set.univ (m := (Memref.whole cc0_stg1_0 : Memref sig .tc .vmem S256x2048 .fp8e5m2)) (Finset.subset_univ _)) $$ Hw
  iintro Hw
  rw [wp_ret]; imodintro
  iapply Hk
  isplitl [Hx]; · iexact Hx
  isplitl [Hw]; · iexact Hw
  isplitl [Hsx]; · iexact Hsx
  isplitl [Hsw]; · iexact Hsw
  isplitl [Hp]; · iexact Hp
  iexact Hq

end Cert.KernelIdeal.RingRs
-- ==== Proof.Run.lean ====
module

public import proofs.«01_k».proof.Proof.Env

@[expose] public section

noncomputable section

namespace Cert.KernelIdeal.RingRs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Ins F) (K : Dev nD × Ci → ℕ) (c : Dev nD)

/-! ## Lists of texts -/

theorem wp_runs {α : Type} (f : α → Pg (F := F) PUnit) (Kt : PUnit → sProp 𝕄) : ∀ (xs : List α) (P : ℕ → sProp 𝕄)
    (_ : ∀ (i : ℕ) (hi : i < xs.length) (a : α) (_ : xs[i] = a) (Kt : PUnit → sProp 𝕄), P i ⊢ iprop((P (i + 1) -∗ Kt ⟨⟩) -∗ wpB c (f a) Kt)),
    P 0 ⊢ iprop((P xs.length -∗ Kt ⟨⟩) -∗ wpB c (runs f xs) Kt)
  | [], P, _ => by
    simp only [runs, wp_pure]
    iintro H Hk
    imodintro
    iapply Hk; iexact H
  | a :: xs, P, h => by
    simp only [runs, wp_bind]
    iintro H Hk
    iapply (h 0 (Nat.zero_lt_succ _) a rfl _) $$ H
    iintro H
    iapply (wp_runs f Kt xs (fun i => P (i + 1)) fun i hi b hb Kt => h (i + 1) (Nat.succ_lt_succ hi) b hb Kt) $$ H
    iexact Hk

theorem cols_at : ∀ i : Fin 4, cols[i.val]'i.isLt = i := by decide
theorem hops_at : ∀ i : Fin 14, hops[i.val]'i.isLt = i := by decide

/-- The lanes' stages part way through a hop: the first `i` column blocks have moved on. -/
def stK (s i : ℕ) : Lane → ℕ := fun l => if l.2.val < i then s + 1 else s

theorem stK_zero (s : ℕ) : stK s 0 = fun _ => s := rfl
theorem stK_four (s : ℕ) : stK s 4 = fun _ => s + 1 := funext fun l => if_pos l.2.isLt
theorem stK_here (s : ℕ) (k : Fin 4) (b : Bool) : stK s k.val (b, k) = s := if_neg (Nat.lt_irrefl _)
theorem stK_ge (s i : ℕ) (l : Lane) : s ≤ stK s i l := by unfold stK; split <;> omega
theorem upd_ge (s i : ℕ) (l x : Lane) : s ≤ Function.update (stK s i) l (s + 1) x := by
  by_cases h : x = l
  · subst h; rw [Function.update_self]; omega
  · rw [Function.update_of_ne h]; exact stK_ge s i x
theorem upd_here (s : ℕ) (k : Fin 4) : Function.update (stK s k.val) (true, k) (s + 1) (false, k) = s := by
  rw [Function.update_of_ne (by simp)]; exact stK_here s k false
theorem stK_step (s : ℕ) (k : Fin 4) :
    Function.update (Function.update (stK s k.val) (true, k) (s + 1)) (false, k) (s + 1) = stK s (k.val + 1) := by
  funext ⟨b, x⟩
  by_cases h : x = k
  · subst h
    have : stK s (x.val + 1) (b, x) = s + 1 := if_pos (Nat.lt_succ_self _)
    rw [this]
    cases b
    · rw [Function.update_self]
    · rw [Function.update_of_ne (by simp), Function.update_self]
  · have hv : x.val ≠ k.val := fun e => h (Fin.ext e)
    rw [Function.update_of_ne (by simp [h]), Function.update_of_ne (by simp [h])]
    unfold stK
    by_cases hx : x.val < k.val
    · rw [if_pos hx, if_pos (by show x.val < _; omega)]
    · rw [if_neg hx, if_neg (by show ¬x.val < _; omega)]

/-! ## The hops -/

theorem wp_hop0 (h : k0_chk1 (wd (posD c))) (nx pv : Dev nD) (hn : nx = peer true c) (hp : pv = peer false c) (Kt : PUnit → sProp 𝕄) :
    iprop(recs I K ∗ Env I c ∗ Lanes (F := F) c (fun _ => 0))
      ⊢ iprop((Env I c ∗ Lanes (F := F) c (fun _ => 1) -∗ Kt ⟨⟩) -∗ wpB c (hop0 nx pv (wd (posD c)) h) Kt) := by
  simp only [hop0, wp_bind]
  iintro ⟨#HR, HE, HL⟩ Hk
  iapply (wp_dotT I c true 15 _ h _) $$ HE; iintro HE
  iapply (wp_dotT I c false 1 _ h _) $$ HE; iintro HE
  iapply (wp_runs c _ Kt cols (fun i => iprop(recs I K ∗ Lanes (F := F) c (stK 0 i))) (fun i hi a ha Kt => by
    obtain rfl : a = ⟨i, hi⟩ := ha.symm.trans (cols_at ⟨i, hi⟩)
    simp only [wp_bind]
    iintro ⟨#HR, HL⟩ Hk
    iapply (wp_step0 I K c (true, ⟨i, hi⟩) ⟨i, hi⟩ rfl (stK 0 i) (stK_here 0 ⟨i, hi⟩ true) nx hn _ rfl _) $$ [HL]
    · isplitr; · iexact HR
      iexact HL
    iintro HL
    iapply (wp_step0 I K c (false, ⟨i, hi⟩) ⟨i, hi⟩ rfl _ (upd_here 0 ⟨i, hi⟩) pv hp _ rfl _) $$ [HL]
    · isplitr; · iexact HR
      iexact HL
    rw [stK_step 0 ⟨i, hi⟩]
    iintro HL
    iapply Hk
    isplitr; · iexact HR
    iexact HL)) $$ [HL]
  · isplitr; · iexact HR
    iexact HL
  iintro ⟨-, HL⟩
  iapply Hk
  isplitl [HE]; · iexact HE
  iapply (Entails.of_eq (congrArg (Lanes (F := F) c) (stK_four 0))); iexact HL

theorem wp_hop (h : k0_chk1 (wd (posD c))) (nx pv : Dev nD) (hn : nx = peer true c) (hp : pv = peer false c) (j : Fin 14) (Kt : PUnit → sProp 𝕄) :
    iprop(recs I K ∗ levAts L lv ∗ Env I c ∗ Lanes (F := F) c (fun _ => j.val + 1))
      ⊢ iprop((Env I c ∗ Lanes (F := F) c (fun _ => j.val + 2) -∗ Kt ⟨⟩) -∗ wpB c (hop nx pv (wd (posD c)) h j) Kt) := by
  simp only [hop, wp_bind]
  iintro ⟨#HR, #HV, HE, HL⟩ Hk
  iapply (wp_dotT I c true (14 - j.val) _ h _) $$ HE; iintro HE
  iapply (wp_dotT I c false (2 + j.val) _ h _) $$ HE; iintro HE
  iapply (wp_runs c _ Kt cols (fun i => iprop(recs I K ∗ levAts L lv ∗ Lanes (F := F) c (stK (j.val + 1) i))) (fun i hi a ha Kt => by
    obtain rfl : a = ⟨i, hi⟩ := ha.symm.trans (cols_at ⟨i, hi⟩)
    simp only [wp_bind]
    iintro ⟨#HR, #HV, HL⟩ Hk
    iapply (wp_step I K c (true, ⟨i, hi⟩) ⟨i, hi⟩ rfl j.castSucc j.succ rfl (stK (j.val + 1) i) (stK_here (j.val + 1) ⟨i, hi⟩ true)
      (fun x => stK_ge _ _ x) nx hn _ (by show part I true (14 - j.val) c = part I true (15 - (j.val + 1)) c; congr 1; omega) _) $$ [HL]
    · isplitr; · iexact HR
      isplitr; · iexact HV
      iexact HL
    iintro HL
    iapply (wp_step I K c (false, ⟨i, hi⟩) ⟨i, hi⟩ rfl j.castSucc j.succ rfl _ (upd_here (j.val + 1) ⟨i, hi⟩)
      (fun x => upd_ge _ _ _ x) pv hp _ (by show part I false (2 + j.val) c = part I false (j.val + 1 + 1) c; congr 1; omega) _) $$ [HL]
    · isplitr; · iexact HR
      isplitr; · iexact HV
      iexact HL
    iintro HL
    iapply Hk
    isplitr; · iexact HR
    isplitr; · iexact HV
    iapply (Entails.of_eq (congrArg (Lanes (F := F) c) (stK_step (j.val + 1) ⟨i, hi⟩)))
    iexact HL)) $$ [HL]
  · isplitr; · iexact HR
    isplitr; · iexact HV
    iexact HL
  iintro ⟨-, -, HL⟩
  iapply Hk
  isplitl [HE]; · iexact HE
  iapply (Entails.of_eq (congrArg (Lanes (F := F) c) (stK_four (j.val + 1)))); iexact HL

theorem wp_hops (h : k0_chk1 (wd (posD c))) (nx pv : Dev nD) (hn : nx = peer true c) (hp : pv = peer false c) (Kt : PUnit → sProp 𝕄) :
    iprop(recs I K ∗ levAts L lv ∗ Env I c ∗ Lanes (F := F) c (fun _ => 1))
      ⊢ iprop((Env I c ∗ Lanes (F := F) c (fun _ => 15) -∗ Kt ⟨⟩) -∗ wpB c (runs (hop nx pv (wd (posD c)) h) hops) Kt) := by
  iintro H Hk
  iapply (wp_runs c _ Kt hops (fun i => iprop(recs I K ∗ levAts L lv ∗ Env I c ∗ Lanes (F := F) c (fun _ => i + 1))) (fun i hi a ha Kt => by
    obtain rfl : a = ⟨i, hi⟩ := ha.symm.trans (hops_at ⟨i, hi⟩)
    iintro ⟨#HR, #HV, HE, HL⟩ Hk
    iapply (wp_hop I K c h nx pv hn hp ⟨i, hi⟩ _) $$ [HE HL]
    · isplitr; · iexact HR
      isplitr; · iexact HV
      isplitl [HE]; · iexact HE
      iexact HL
    iintro ⟨HE, HL⟩
    iapply Hk
    isplitr; · iexact HR
    isplitr; · iexact HV
    isplitl [HE]; · iexact HE
    iexact HL)) $$ H
  iintro ⟨-, -, HE, HL⟩
  iapply Hk
  isplitl [HE]; · iexact HE
  iexact HL

end Cert.KernelIdeal.RingRs
-- ==== Proof.Last.lean ====
module

public import proofs.«01_k».proof.Proof.Run

@[expose] public section

noncomputable section

namespace Cert.KernelIdeal.RingRs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Ins F) (K : Dev nD × Ci → ℕ) (c : Dev nD)

/-! ## The result -/

abbrev oM : Memref sig .tc .vmem S256x2048 .f32 := Memref.whole cc0_stg6_0

/-- The one word a scale's buffer holds. -/
def word1 (m : Memref sig .tc .smem S1 .f32) (f : m.view.ty.Contents (Elt F)) : F .f32 :=
  (m.access (Rect.unit (s := S1) ![0] S1.size Facts₀.inb_S1_S1_0)).read (Elt F) f (Shape.Idx.first (Facts₀.numel1_S1.symm ▸ Nat.one_pos))

/-- The product of the two scales. -/
def scl : F .f32 := Scalar.mulf (word1 (Memref.whole cc0_stg2_0) (I.sx c)) (word1 (Memref.whole cc0_stg3_0) (I.sw c))

/-- A lane's tile of the result. -/
def tileV (l : Lane) : FVec F S256x256 .f32 :=
  outv (scl I c) l.2 (slotv (sentV I l 14 (peer (!l.1) c))) (part I l.1 0 c)

/-- The result's buffer, the tiles of the lanes at stage 16 written. -/
def Out (st : Lane → ℕ) : sProp 𝕄 :=
  iprop(∃ f : (cc0_stg6_0 : Ref sig .tc).ty.Contents (Elt F), ⌜∀ l, 15 < st l → ((oM).access (outR l.1 l.2)).read (Elt F) f = tileV I c l⌝
    ∗ (((c : Thread nD τ).loc cc0_stg6_0) ↦{fullShare} f))

theorem outR_disj : ∀ l l' : Lane, l ≠ l' → Disjoint (outR l.1 l.2).set (outR l'.1 l'.2).set := by
  rintro ⟨b, k⟩ ⟨b', k'⟩ hne
  refine Rect.unit_disjoint (s := S256x2048) (1 : Fin 2) ?_
  have hk := k.isLt; have hk' := k'.isLt
  have : b = b' → k.val ≠ k'.val := fun e h => hne (by subst e; rw [Fin.ext h])
  show half b + k.val * 256 + 256 ≤ half b' + k'.val * 256 ∨ half b' + k'.val * 256 + 256 ≤ half b + k.val * 256
  cases b <;> cases b' <;> simp only [half, reduceCtorEq, false_implies, forall_const] at this ⊢ <;> omega

theorem out_other (l l' : Lane) (h : l ≠ l') (f : (cc0_stg6_0 : Ref sig .tc).ty.Contents (Elt F)) (w : FVec F S256x256 .f32) :
    ((oM).access (outR l'.1 l'.2)).read (Elt F) (((oM).access (outR l.1 l.2)).write (Elt F) f w Finset.univ)
      = ((oM).access (outR l'.1 l'.2)).read (Elt F) f := by
  refine View.read_slice_write_slice_of_disjoint (v := oM.view) (outR l'.1 l'.2) (outR l.1 l.2) f w Finset.univ ?_
  rw [View.setOn_univ, View.set_slice, View.set_slice]
  exact (Finset.disjoint_map _).mpr (outR_disj l' l (Ne.symm h))

theorem laneSt_15 (l : Lane) : LaneSt (F := F) c l 15
    = iprop(bigSep Finset.univ (RcvAt (F := F) c l 14) ∗ bigSep Finset.univ (SndAt (F := F) c l 15)
      ∗ bigSep Finset.univ (OwnAt (F := F) c l 14 15) ∗ SndCell (F := F) c l 14 15) := rfl

theorem Orem_zero (st : Lane → ℕ) (h : ∀ l, 15 ≤ st l) : Orem c st = 0 := by
  unfold Orem
  refine Finset.sum_eq_zero fun l _ => ?_
  rw [Finset.filter_false_of_mem (fun s _ => by have := h l; omega), Finset.sum_empty]

theorem upd15 (st : Lane → ℕ) (h : ∀ x, 15 ≤ st x) (l : Lane) (j : ℕ) (hj : 15 ≤ j) (x : Lane) : 15 ≤ Function.update st l j x := by
  by_cases e : x = l
  · subst e; rw [Function.update_self]; exact hj
  · rw [Function.update_of_ne e]; exact h x

theorem wp_fin (l : Lane) (k : Fin 4) (hl : l.2 = k) (st : Lane → ℕ) (hst : st l = 15) (hall : ∀ x, 15 ≤ st x) (sc : F .f32) (hsc : sc = scl I c)
    (Kt : PUnit → sProp 𝕄) :
    iprop(recs I K ∗ Lanes (F := F) c st ∗ Out I c st)
      ⊢ iprop((Lanes (F := F) c (Function.update st l 16) ∗ Out I c (Function.update st l 16) -∗ Kt ⟨⟩)
        -∗ wpB c (fin l.1 k sc (part I l.1 0 c)) Kt) := by
  subst hl hsc
  have hz : LaneSt (F := F) c l (st l) = _ := (congrArg _ hst).trans (laneSt_15 (F := F) c l)
  have hO : Orem c st = 0 := Orem_zero c st hall
  have hO' : Orem c (Function.update st l 16) = 0 := Orem_zero c _ (upd15 st hall l 16 (by decide))
  unfold Lanes Out
  rw [hO, hO']
  simp only [fin, Prog.lift, wp_bind, Prog.bind_op, Prog.bind_ret]
  iintro ⟨#HR, ⟨Hl, %W, HO⟩, %fo, %hfo, Hf⟩ Hk
  ihave H := (lane_take (F := F) c l st 16) $$ Hl
  icases H with ⟨Hl, Hback⟩
  ihave Hl := (Entails.of_eq hz) $$ Hl
  icases Hl with ⟨HRc, HSn, HOw, HC⟩
  have hr := rcv_take (F := F) c l 14
  simp only [show ((14 : Fin 15) : ℕ) = 14 from rfl] at hr
  ihave H := hr $$ HRc
  icases H with ⟨⟨Hatr, Hcr⟩, HRc⟩
  iapply (wp_waitR I K c l 14 0 W _) $$ [HO Hatr Hcr]
  · isplitr; · iexact HR
    isplitl [HO]; · iexact HO
    isplitr; · rw [MayWait_zero]; iempintro
    isplitl [Hatr] <;> iassumption
  iintro ⟨⟨%W1, HO⟩, Hatr, Hpay⟩
  unfold rcvPay
  icases Hpay with ⟨%g, %hg, Hr⟩
  iapply (wp_loadR (F := F) c l 14 g _ hg _) $$ Hr
  iintro Hr
  ihave HRc := HRc $$ [Hatr Hr]
  · isplitl [Hatr]; · iexact Hatr
    iexists g; iexact Hr
  iapply (wp_load 𝒱₀ (c : Thread nD τ) none Set.univ (m := oM) (r := (outR l.1 l.2).toLoadRect) (Finset.subset_univ _)) $$ Hf
  iintro Hf
  iapply (wp_store 𝒱₀ (c : Thread nD τ) none Set.univ (m := oM) (r := outR l.1 l.2) (Mk := Finset.univ) (Finset.subset_univ _)) $$ Hf
  iintro Hf
  simp only [Prog.pure_eq_ret, wp_ret]
  imodintro
  iapply Hk
  isplitr [Hf]
  · isplitr [HO]
    · iapply Hback
      iapply (Entails.of_eq (laneSt_16 (F := F) c l).symm)
      isplitl [HRc]; · iexact HRc
      isplitl [HSn]; · iexact HSn
      isplitl [HOw]; · iexact HOw
      iexact HC
    iexists W1; iexact HO
  iexists _
  isplitr
  rotate_left
  · iexact Hf
  ipureintro
  intro x hx
  by_cases e : l = x
  · subst e; rw [View.read_write_univ]; rfl
  · rw [out_other l x e, hfo x (by rwa [Function.update_of_ne (Ne.symm e)] at hx)]

theorem wp_out (l : Lane) (k : Fin 4) (hl : l.2 = k) (st : Lane → ℕ) (hst : st l = 16) (hall : ∀ x, 15 ≤ st x) (Kt : PUnit → sProp 𝕄) :
    iprop(recs I K ∗ Lanes (F := F) c st)
      ⊢ iprop((Lanes (F := F) c (Function.update st l 17) -∗ Kt ⟨⟩) -∗ wpB c (waitS l.1 14 k) Kt) := by
  subst hl
  have hz : LaneSt (F := F) c l (st l) = _ := (congrArg _ hst).trans (laneSt_16 (F := F) c l)
  have hO : Orem c st = 0 := Orem_zero c st hall
  have hO' : Orem c (Function.update st l 17) = 0 := Orem_zero c _ (upd15 st hall l 17 (by decide))
  unfold Lanes
  rw [hO, hO']
  iintro ⟨#HR, Hl, %W, HO⟩ Hk
  ihave H := (lane_take (F := F) c l st 17) $$ Hl
  icases H with ⟨Hl, Hback⟩
  ihave Hl := (Entails.of_eq hz) $$ Hl
  icases Hl with ⟨HRc, HSn, HOw, HC⟩
  unfold SndCell
  rw [if_pos (by decide)]
  icases HC with ⟨Hat, -, Hc⟩
  iapply (wp_waitS I K c l 14 0 W _) $$ [HO Hat Hc]
  · isplitr; · iexact HR
    isplitl [HO]; · iexact HO
    isplitr; · rw [MayWait_zero]; iempintro
    isplitl [Hat]; · iexact Hat
    iexact Hc
  iintro ⟨⟨%W2, HO⟩, Hat, #Hre, Hso⟩
  have ho := own_give (F := F) c l 15 14 (by decide)
  simp only [show ((14 : Fin 15) : ℕ) = 14 from rfl] at ho
  ihave HOw := ho $$ HOw Hso
  iapply Hk
  isplitr [HO]
  · iapply Hback
    iapply (Entails.of_eq (laneSt_17 (F := F) c l).symm)
    isplitl [HRc]
    · rw [show RcvAt (F := F) c l 16 = RcvAt (F := F) c l 15 from funext fun s => by
        unfold RcvAt; rw [if_pos (by omega), if_pos (by omega)]]
      iexact HRc
    isplitl [HSn]; · iexact HSn
    isplitl [HOw]; · iexact HOw
    unfold SndCell
    isplitl [Hat]; · iexact Hat
    isplitr; · iexact Hre
    rw [if_neg (by decide)]; iempintro
  iexists W2; iexact HO

theorem wp_last (h : k0_chk1 (wd (posD c))) (Kt : PUnit → sProp 𝕄) :
    iprop(recs I K ∗ Env I c ∗ Lanes (F := F) c (fun _ => 15) ∗ (∃ f, (((c : Thread nD τ).loc cc0_stg6_0) ↦{fullShare} f)))
      ⊢ iprop((Env I c ∗ Lanes (F := F) c (fun _ => 17) ∗ Out I c (fun _ => 16) -∗ Kt ⟨⟩) -∗ wpB c (last (wd (posD c)) h) Kt) := by
  simp only [last, smemLoad, smemLoadElt, Prog.lift, Prog.bind_op, Prog.bind_ret, Prog.pure_eq_ret, Prog.bind_assoc]
  iintro ⟨#HR, HE, HL, %f0, Hf⟩ Hk
  ihave HE := (Entails.of_eq (env_eq I c)) $$ HE
  icases HE with ⟨Hx, Hw, Hsx, Hsw, Hp, Hq⟩
  iapply (wp_load_rect 𝒱₀ (c : Thread nD τ) none Set.univ (m := (Memref.whole cc0_stg2_0 : Memref sig .tc .smem S1 .f32))
    (r := Rect.unit (s := S1) ![0] S1.size Facts₀.inb_S1_S1_0) (Finset.subset_univ _)) $$ Hsx
  iintro Hsx
  iapply (wp_load_rect 𝒱₀ (c : Thread nD τ) none Set.univ (m := (Memref.whole cc0_stg3_0 : Memref sig .tc .smem S1 .f32))
    (r := Rect.unit (s := S1) ![0] S1.size Facts₀.inb_S1_S1_0) (Finset.subset_univ _)) $$ Hsw
  iintro Hsw
  ihave HE : Env I c $$ [Hx Hw Hsx Hsw Hp Hq]
  · unfold Env
    isplitl [Hx]; · iexact Hx
    isplitl [Hw]; · iexact Hw
    isplitl [Hsx]; · iexact Hsx
    isplitl [Hsw]; · iexact Hsw
    isplitl [Hp]; · iexact Hp
    iexact Hq
  rw [wp_bind]
  iapply (wp_dotT I c true 0 _ h _) $$ HE; iintro HE
  rw [wp_bind]
  iapply (wp_dotT I c false 0 _ h _) $$ HE; iintro HE
  rw [wp_bind]
  iapply (wp_runs c _ _ cols (fun i => iprop(recs I K ∗ Lanes (F := F) c (stK 15 i) ∗ Out I c (stK 15 i))) (fun i hi a ha Kt => by
    obtain rfl : a = ⟨i, hi⟩ := ha.symm.trans (cols_at ⟨i, hi⟩)
    simp only [wp_bind]
    iintro ⟨#HR, HL, Ho⟩ Hk
    iapply (wp_fin I K c (true, ⟨i, hi⟩) ⟨i, hi⟩ rfl (stK 15 i) (stK_here 15 ⟨i, hi⟩ true) (fun x => stK_ge _ _ x) _ rfl _) $$ [HL Ho]
    · isplitr; · iexact HR
      isplitl [HL]; · iexact HL
      iexact Ho
    iintro ⟨HL, Ho⟩
    iapply (wp_fin I K c (false, ⟨i, hi⟩) ⟨i, hi⟩ rfl _ (upd_here 15 ⟨i, hi⟩) (fun x => upd_ge _ _ _ x) _ rfl _) $$ [HL Ho]
    · isplitr; · iexact HR
      isplitl [HL]; · iexact HL
      iexact Ho
    iintro ⟨HL, Ho⟩
    iapply Hk
    isplitr; · iexact HR
    isplitl [HL]
    · iapply (Entails.of_eq (congrArg (Lanes (F := F) c) (stK_step 15 ⟨i, hi⟩)))
      iexact HL
    iapply (Entails.of_eq (congrArg (Out I c) (stK_step 15 ⟨i, hi⟩)))
    iexact Ho)) $$ [HL Hf]
  · isplitr; · iexact HR
    isplitl [HL]; · iexact HL
    unfold Out
    iexists f0
    isplitr
    · ipureintro; intro l hl; rw [stK_zero] at hl; exact absurd hl (Nat.lt_irrefl _)
    iexact Hf
  iintro ⟨-, HL, Ho⟩
  iapply (wp_runs c _ _ cols (fun i => iprop(recs I K ∗ Lanes (F := F) c (stK 16 i))) (fun i hi a ha Kt => by
    obtain rfl : a = ⟨i, hi⟩ := ha.symm.trans (cols_at ⟨i, hi⟩)
    simp only [wp_bind]
    iintro ⟨#HR, HL⟩ Hk
    iapply (wp_out I K c (true, ⟨i, hi⟩) ⟨i, hi⟩ rfl (stK 16 i) (stK_here 16 ⟨i, hi⟩ true) (fun x => Nat.le_of_succ_le (stK_ge _ _ x)) _) $$ [HL]
    · isplitr; · iexact HR
      iexact HL
    iintro HL
    iapply (wp_out I K c (false, ⟨i, hi⟩) ⟨i, hi⟩ rfl _ (upd_here 16 ⟨i, hi⟩) (fun x => Nat.le_of_succ_le (upd_ge _ _ _ x)) _) $$ [HL]
    · isplitr; · iexact HR
      iexact HL
    iintro HL
    iapply Hk
    isplitr; · iexact HR
    iapply (Entails.of_eq (congrArg (Lanes (F := F) c) (stK_step 16 ⟨i, hi⟩)))
    iexact HL)) $$ [HL]
  · isplitr; · iexact HR
    iapply (Entails.of_eq (congrArg (Lanes (F := F) c) (stK_four 15))); iexact HL
  iintro ⟨-, HL⟩
  iapply Hk
  isplitl [HE]; · iexact HE
  isplitl [HL]
  · iapply (Entails.of_eq (congrArg (Lanes (F := F) c) (stK_four 16))); iexact HL
  iapply (Entails.of_eq (congrArg (Out I c) (stK_four 15))); iexact Ho

end Cert.KernelIdeal.RingRs
-- ==== Proof.Close.lean ====
module

public import proofs.«01_k».proof.Proof.Last

@[expose] public section

noncomputable section

namespace Cert.KernelIdeal.RingRs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Ins F) (K : Dev nD × Ci → ℕ) (c : Dev nD)

/-! ## The result window -/

/-- The lane that fills a column of the result. -/
def laneOf (i : S256x2048.Idx) : Lane :=
  (decide ((i 1).val < 1024), ⟨(i 1).val % 1024 / 256, by omega⟩)
/-- A place of the result within its lane's tile. -/
def inTile (i : S256x2048.Idx) : S256x256.Idx := fun a => match a with
  | ⟨0, _⟩ => ⟨(i 0).val, (i 0).isLt⟩
  | ⟨1, _⟩ => ⟨(i 1).val % 256, Nat.mod_lt _ (by decide)⟩

/-- What the kernel leaves in the result window. -/
def outF : (cc0_stg6_0 : Ref sig .tc).ty.Contents (Elt F) := fun i => tileV I c (laneOf i) (inTile i)

theorem outF_eq (f : (cc0_stg6_0 : Ref sig .tc).ty.Contents (Elt F))
    (h : ∀ l : Lane, ((oM).access (outR l.1 l.2)).read (Elt F) f = tileV I c l) : f = outF I c := by
  funext i
  have hi := congrFun (h (laneOf i)) (inTile i)
  have h1 : (i 1).val < 2048 := (i 1).isLt
  refine Eq.trans ?_ hi
  show f i = f ((outR (laneOf i).1 (laneOf i).2).emb (inTile i))
  congr 1
  funext a
  apply Fin.ext
  show (i a).val = (![0, half (laneOf i).1 + (laneOf i).2.val * 256] : Fin 2 → ℕ) a + 1 * (inTile i a).val
  fin_cases a
  · show (i 0).val = 0 + 1 * (i 0).val; omega
  · show (i 1).val = half (decide ((i 1).val < 1024)) + (i 1).val % 1024 / 256 * 256 + 1 * ((i 1).val % 256)
    by_cases h2 : (i 1).val < 1024
    · rw [decide_eq_true h2]; simp only [half]; omega
    · rw [decide_eq_false h2]; simp only [half]; omega

theorem out_done : Out I c (fun _ => 16) ⊢ ((((c : Thread nD τ).loc cc0_stg6_0) ↦{fullShare} outF I c) : sProp 𝕄) := by
  unfold Out
  iintro ⟨%f, %hf, H⟩
  obtain rfl := outF_eq I c f (fun l => hf l (Nat.lt_succ_self 15))
  iexact H

/-! ## What a lane starts from and ends with -/

/-- Receive slots handed to the neighbour that will fill them. -/
def handB (b : Bool) : sProp 𝕄 :=
  bigSep Finset.univ fun x : Fin 4 × Fin 15 => iprop((∃ f, rPts (F := F) c (b, x.1) x.2 f) ∗ reached ER (rcvC c (b, x.1) x.2) 0)

theorem barPay_hand (b : Bool) : barPay (F := F) (peer (!b) c) b = handB c b := by
  unfold barPay handB; rw [peer_fwd]

/-- A lane before its first send, without its peer's slots. -/
def LaneIn (l : Lane) : sProp 𝕄 :=
  iprop(bigSep Finset.univ (fun s : Fin 15 => iprop(atPos ER (rcvC c l s) 0 ∅ 0 ∗ cred (tallyAt (rcvC c l s) () N)))
    ∗ bigSep Finset.univ (fun s : Fin 15 => iprop(dutyTok ER (rcvC (peer l.1 c) l s) 0 true ∗ dutyTok ER (sndC c l) s.val true))
    ∗ bigSep Finset.univ (fun s : Fin 15 => iprop(∃ f, sPts (F := F) c l s f))
    ∗ atPos ER (sndC c l) 0 ∅ 0 ∗ reached ER (sndC c l) 0)

/-- The peer's slots a lane will send to. -/
def LaneTo (l : Lane) : sProp 𝕄 :=
  bigSep Finset.univ (fun s : Fin 15 => iprop((∃ f, rPts (F := F) (peer l.1 c) l s f) ∗ reached ER (rcvC (peer l.1 c) l s) 0))

theorem bigSep_two (Φ : Bool → sProp 𝕄) : bigSep Finset.univ Φ = iprop(Φ false ∗ Φ true) := by
  rw [show (Finset.univ : Finset Bool) = {false, true} by decide, BI.bigSep_insert (by decide), bigSep_singleton]; rfl

theorem barPay_lanes : iprop(barPay (F := F) c false ∗ barPay c true) ⊢ bigSep Finset.univ (LaneTo (F := F) c) := by
  rw [BI.bigSep_univ_prod, bigSep_two]
  unfold barPay LaneTo
  rw [BI.bigSep_univ_prod, BI.bigSep_univ_prod]

theorem lane_start (l : Lane) : iprop(LaneIn (F := F) c l ∗ LaneTo c l) ⊢ LaneSt (F := F) c l 0 := by
  unfold LaneIn LaneTo LaneSt SndCell
  rw [show RcvAt (F := F) c l (0 - 1) = (fun s : Fin 15 => iprop(atPos ER (rcvC c l s) 0 ∅ 0 ∗ cred (tallyAt (rcvC c l s) () N))) from
      funext fun s => if_neg (by omega),
    show SndAt (F := F) c l (min 0 15) = (fun s : Fin 15 => iprop((∃ f, rPts (F := F) (peer l.1 c) l s f) ∗ reached ER (rcvC (peer l.1 c) l s) 0
      ∗ dutyTok ER (rcvC (peer l.1 c) l s) 0 true ∗ dutyTok ER (sndC c l) s.val true)) from funext fun s => if_neg (by omega),
    show OwnAt (F := F) c l (if 0 < 16 then 0 - 1 else 0 - 2) (min 0 15) = (fun s : Fin 15 => iprop(∃ f, sPts (F := F) c l s f)) from
      funext fun s => if_neg (by omega), if_neg (show ¬ ((if 0 < 16 then 0 - 1 else 0 - 2) < min 0 15) by decide)]
  simp only [bigSep_sep']
  iintro ⟨⟨Hr, ⟨Hd1, Hd2⟩, Ho, Ha, Hre⟩, Hf, Hr0⟩
  isplitl [Hr]; · iexact Hr
  isplitl [Hd1 Hd2 Hf Hr0]
  · isplitl [Hf]; · iexact Hf
    isplitl [Hr0]; · iexact Hr0
    isplitl [Hd1]; · iexact Hd1
    iexact Hd2
  isplitl [Ho]; · iexact Ho
  isplitl [Ha]; · iexact Ha
  isplitl [Hre]; · iexact Hre
  iempintro

/-- A lane at its end: every counter at zero, every slot at hand. -/
def LaneEnd (l : Lane) : sProp 𝕄 :=
  iprop(bigSep Finset.univ (fun s : Fin 15 => iprop(semVal (rcvC c l s) 0 ∗ ∃ f, rPts (F := F) c l s f))
    ∗ bigSep Finset.univ (fun s : Fin 15 => iprop(∃ f, sPts (F := F) c l s f))
    ∗ semVal (sndC c l) 0)

theorem rcv_close (l : Lane) (s : Fin 15) :
    iprop(recs I K ∗ RcvAt (F := F) c l 16 s) ⊢ (|={Set.univ}=> iprop(semVal (rcvC c l s) 0 ∗ ∃ f, rPts (F := F) c l s f) : sProp 𝕄) := by
  unfold RcvAt
  rw [if_pos (by omega)]
  iintro ⟨#HR, Ha, Hf⟩
  imod (Rounds.cell_close ER (rd I) (g := rcvC c l s) (Set.mem_univ (K (c, .inr (.inr (l, s))))) id (fun r hr => later_rcv I c l s r hr)) $$ [Ha] with Hs
  · isplitr; · iapply (recs_at I K c (.inr (.inr (l, s)))); iexact HR
    iexact Ha
  imodintro
  isplitl [Hs] <;> iassumption

theorem lane_close (l : Lane) : iprop(recs I K ∗ LaneSt (F := F) c l 17) ⊢ (|={Set.univ}=> LaneEnd (F := F) c l : sProp 𝕄) := by
  rw [laneSt_17]
  unfold LaneEnd SndCell
  iintro ⟨#HR, Hr, -, Ho, Ha, -, -⟩
  imod (Rounds.cell_close ER (rd I) (g := sndC c l) (Set.mem_univ (K (c, .inr (.inl l)))) id (fun r hr => later_snd I c l r hr)) $$ [Ha] with Hs
  · isplitr; · iapply (recs_at I K c (.inr (.inl l))); iexact HR
    iexact Ha
  ihave Hr := (BI.bigSep_with_persistent (S := Finset.univ) (R := recs I K) (Φ := RcvAt (F := F) c l 16) fun s _ => rcv_close I K c l s) $$ [Hr]
  · isplitr; · iexact HR
    iexact Hr
  imod (bigSep_fupd _ _) $$ Hr with Hr
  imodintro
  isplitl [Hr]; · iexact Hr
  isplitl [Ho]
  · rw [show (fun s : Fin 15 => iprop(∃ f, sPts (F := F) c l s f)) = OwnAt (F := F) c l 15 15 from
      funext fun s => (if_neg (by omega)).symm]
    iexact Ho
  iexact Hs

end Cert.KernelIdeal.RingRs
-- ==== Proof.Whole.lean ====
module

public import proofs.«01_k».proof.Proof.Close

@[expose] public section

noncomputable section

namespace Cert.KernelIdeal.RingRs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Ins F) (K : Dev nD × Ci → ℕ) (c : Dev nD)

/-! ## The body -/

theorem onD_val (t : ℕ) : onD t c = permD ⟨((posD c).val + t) % 16, Nat.mod_lt _ (by decide)⟩ := rfl

/-- What the body starts from. -/
def BodyIn : sProp 𝕄 :=
  iprop(recs I K ∗ levAts L lv ∗ Env I c ∗ (∃ f, (((c : Thread nD τ).loc cc0_stg6_0) ↦{fullShare} f))
    ∗ (handB (F := F) c true ∗ handB (F := F) c false) ∗ bigSep Finset.univ (LaneIn (F := F) c)
    ∗ atPos ER (barC c) 0 ∅ 0 ∗ cred (tallyAt (barC c) () 2)
    ∗ (dutyTok ER (barC (peer false c)) 0 true ∗ dutyTok ER (barC (peer true c)) 0 false)
    ∗ (reached ER (barC (peer false c)) 0 ∗ reached ER (barC (peer true c)) 0)
    ∗ ∃ W, owes (c : Thread nD τ) (O₀ c) W)
/-- What the body leaves. -/
def BodyOut : sProp 𝕄 :=
  iprop(Env I c ∗ (((c : Thread nD τ).loc cc0_stg6_0) ↦{fullShare} outF I c) ∗ bigSep Finset.univ (LaneEnd (F := F) c)
    ∗ semVal (barC c) 0 ∗ ∃ W, owes (c : Thread nD τ) 0 W)

/-- The signals to both neighbours and the wait for theirs. -/
def meet : Pg (F := F) PUnit := do
  semSignalWord (peer false c) bar 1#32
  semSignalWord (peer true c) bar 1#32
  semWaitWord bar 2#32

theorem wp_meet (W : Waits sig Unit) (Kt : PUnit → sProp 𝕄) :
    iprop(recs I K ∗ levAts L lv ∗ (handB (F := F) c true ∗ handB (F := F) c false) ∗ atPos ER (barC c) 0 ∅ 0 ∗ cred (tallyAt (barC c) () 2)
        ∗ (dutyTok ER (barC (peer false c)) 0 true ∗ dutyTok ER (barC (peer true c)) 0 false)
        ∗ (reached ER (barC (peer false c)) 0 ∗ reached ER (barC (peer true c)) 0) ∗ owes (c : Thread nD τ) (O₀ c) W)
      ⊢ iprop((bigSep Finset.univ (LaneTo (F := F) c) ∗ atPos ER (barC c) 1 ∅ 0 ∗ (∃ W, owes (c : Thread nD τ) (Orem c (fun _ => 0)) W) -∗ Kt ⟨⟩)
        -∗ wpB c (meet c) Kt) := by
  simp only [meet, semSignalWord, semWaitWord, Prog.bind_op, Prog.bind_ret, show ((1#32 : BitVec 32).toInt.toNat) = 1 from by decide, show ((2#32 : BitVec 32).toInt.toNat) = 2 from by decide]
  iintro ⟨#HR, #HL, ⟨Hht, Hhf⟩, Hat, Hc, ⟨Hdp, Hdn⟩, ⟨#Hrp, #Hrn⟩, HO⟩ Hk
  have hpt : (rd I).payload ((peer false c : Thread nD τ), SemLoc.reg bar) 0 true = handB c true := (payload_bar I (peer false c) true).trans (barPay_hand c true)
  have hpf : (rd I).payload ((peer true c : Thread nD τ), SemLoc.reg bar) 0 false = handB c false := (payload_bar I (peer true c) false).trans (barPay_hand c false)
  have hrest : bigSep ((rd I).duties ((c : Thread nD τ), .reg bar) 0 \ ∅) (fun d => (rd I).payload ((c : Thread nD τ), .reg bar) 0 d)
    ⊢ bigSep Finset.univ (LaneTo (F := F) c) := (Entails.of_eq (rest_bar I c)).trans (barPay_lanes (F := F) c)
  iapply (Rounds.wp_signal 𝒱₀ ER (rd I) (c : Thread nD τ) none (dst := (peer false c : Thread nD τ)) (sem := bar) (r := 0) (d := true)
      (κ := K (peer false c, .inl ())) (by rw [show ((peer false c : Thread nD τ), SemLoc.reg bar) = barC (peer false c) from rfl, duties_bar]; exact Finset.mem_univ _)
      (amount_bar I (peer false c) 0 true) () (Orem c (fun _ => 0) + tallyAt (barC (peer true c)) () 1) rfl) $$ [HO Hdp Hht]
  · isplitr; · iapply (recs_at I K (peer false c) (.inl ())); iexact HR
    isplitl [HO]; · iexact HO
    isplitl [Hdp]; · iexact Hdp
    isplitl [Hht]
    · iapply (Entails.of_eq hpt.symm); iexact Hht
    iexact Hrp
  iintro HO
  iapply (Rounds.wp_signal 𝒱₀ ER (rd I) (c : Thread nD τ) none (dst := (peer true c : Thread nD τ)) (sem := bar) (r := 0) (d := false)
      (κ := K (peer true c, .inl ())) (by rw [show ((peer true c : Thread nD τ), SemLoc.reg bar) = barC (peer true c) from rfl, duties_bar]; exact Finset.mem_univ _)
      (amount_bar I (peer true c) 0 false) () (Orem c (fun _ => 0)) rfl) $$ [HO Hdn Hhf]
  · isplitr; · iapply (recs_at I K (peer true c) (.inl ())); iexact HR
    isplitl [HO]; · iexact HO
    isplitl [Hdn]; · iexact Hdn
    isplitl [Hhf]
    · iapply (Entails.of_eq hpf.symm); iexact Hhf
    iexact Hrn
  iintro HO
  iapply (Rounds.wp_wait_rest_token 𝒱₀ ER (rd I) (c : Thread nD τ) none (κ := K (c, .inl ()))
      (wpE_semWait_eq 𝒱₀ (c : Thread nD τ) none Set.univ) (Set.mem_univ _) () (O := Orem c (fun _ => 0)) (W := W) (R := 0) (m := 0) (T := ∅)
      ((Nat.zero_add 2).trans (expect_bar I c).symm)) $$ [Hc HO Hat]
  · isplitr; · iapply (recs_at I K c (.inl ())); iexact HR
    isplitl [Hc]; · iexact Hc
    isplitl [HO]; · iexact HO
    isplitr
    · iapply (mayWait_owing c (.reg bar) (fun _ => 0) 1 (by rw [show ((c : Thread nD τ), SemLoc.reg bar) = barC c from rfl, lv_cell]; exact le_rfl)
        (fun l s _ => by omega)); iexact HL
    iexact Hat
  iintro ⟨HO, Hat, -, Hpay⟩
  ihave Hto := hrest $$ Hpay
  rw [wp_ret]; imodintro
  iapply Hk
  isplitl [Hto]; · iexact Hto
  isplitl [Hat]; · iexact Hat
  iexists _; iexact HO

/-- The hops and the end. -/
def travel (nx pv : Dev nD) (v4 : BitVec 32) (h : k0_chk1 v4) : Pg (F := F) PUnit := do
  hop0 nx pv v4 h
  runs (hop nx pv v4 h) hops
  last v4 h

theorem wp_travel (h : k0_chk1 (wd (posD c))) (Kt : PUnit → sProp 𝕄) :
    iprop(recs I K ∗ levAts L lv ∗ Env I c ∗ (∃ f, (((c : Thread nD τ).loc cc0_stg6_0) ↦{fullShare} f)) ∗ bigSep Finset.univ (LaneIn (F := F) c)
        ∗ bigSep Finset.univ (LaneTo (F := F) c) ∗ atPos ER (barC c) 1 ∅ 0 ∗ (∃ W, owes (c : Thread nD τ) (Orem c (fun _ => 0)) W))
      ⊢ iprop((BodyOut I c -∗ Kt ⟨⟩) -∗ wpB c (travel (peer true c) (peer false c) (wd (posD c)) h) Kt) := by
  simp only [travel, wp_bind]
  iintro ⟨#HR, #HL, HE, Ho, Hln, Hto, Hat, %W, HO⟩ Hk
  ihave HS : bigSep Finset.univ (fun l : Lane => LaneSt (F := F) c l 0) $$ [Hln Hto]
  · iapply (show (bigSep Finset.univ fun l : Lane => iprop(LaneIn (F := F) c l ∗ LaneTo c l)) ⊢ bigSep Finset.univ (fun l : Lane => LaneSt (F := F) c l 0) from
      BI.bigSep_mono fun l _ => lane_start (F := F) c l)
    rw [bigSep_sep']
    isplitl [Hln] <;> iassumption
  iapply (wp_hop0 I K c _ _ _ rfl rfl _) $$ [HE HS HO]
  · isplitr; · iexact HR
    isplitl [HE]; · iexact HE
    unfold Lanes
    isplitl [HS]; · iexact HS
    iexists _; iexact HO
  iintro ⟨HE, HS⟩
  iapply (wp_hops I K c _ _ _ rfl rfl _) $$ [HE HS]
  · isplitr; · iexact HR
    isplitr; · iexact HL
    isplitl [HE] <;> iassumption
  iintro ⟨HE, HS⟩
  iapply (wp_fupd _ _)
  iapply (wp_last I K c _ _) $$ [HE HS Ho]
  · isplitr; · iexact HR
    isplitl [HE]; · iexact HE
    isplitl [HS]; · iexact HS
    iexact Ho
  iintro ⟨HE, HS, Hf⟩
  unfold Lanes
  icases HS with ⟨HS, %W2, HO⟩
  imod (Rounds.cell_close ER (rd I) (g := barC c) (Set.mem_univ (K (c, .inl ()))) id (fun r hr => later_bar I c r hr)) $$ [Hat] with Hb
  · isplitr; · iapply (recs_at I K c (.inl ())); iexact HR
    iexact Hat
  ihave HS := (BI.bigSep_with_persistent (S := Finset.univ) (R := recs I K) (Φ := fun l : Lane => LaneSt (F := F) c l 17) fun l _ => lane_close I K c l) $$ [HS]
  · isplitr; · iexact HR
    iexact HS
  imod (bigSep_fupd _ _) $$ HS with HS
  imodintro
  iapply Hk
  unfold BodyOut
  isplitl [HE]; · iexact HE
  isplitl [Hf]; · iapply (out_done I c); iexact Hf
  isplitl [HS]; · iexact HS
  isplitl [Hb]; · iexact Hb
  iexists W2
  iapply (Entails.of_eq (congrArg (fun O => owes (c : Thread nD τ) O W2) (Orem_zero c (fun _ => 17) (fun _ => by decide)))); iexact HO

theorem end_pv (h) : (⟨k0_dev1 (wd (permD ⟨((posD c).val + 15) % 16, Nat.mod_lt _ (by decide)⟩)), h⟩ : Dev nD) = peer false c :=
  (Fin.ext (dev1_eq (permD ⟨((posD c).val + 15) % 16, Nat.mod_lt _ (by decide)⟩)) : _ = permD ⟨((posD c).val + 15) % 16, Nat.mod_lt _ (by decide)⟩)
theorem end_nx (h) : (⟨k0_dev2 (wd (permD ⟨((posD c).val + 1) % 16, Nat.mod_lt _ (by decide)⟩)), h⟩ : Dev nD) = peer true c :=
  (Fin.ext (dev2_eq (permD ⟨((posD c).val + 1) % 16, Nat.mod_lt _ (by decide)⟩)) : _ = permD ⟨((posD c).val + 1) % 16, Nat.mod_lt _ (by decide)⟩)

theorem body_split : body (F := F) = (do
    let d0 : Dev nD ← Prog.lift .deviceId
    let v4 : Elt F .i32 ← smemLoad (Memref.whole cc0_stg5_0 : Memref sig .tc .smem S16 .i32) (Rect.unit (s := S16) (k0_off1 d0) S1.size (k0_off1_inb d0)) Facts₀.numel1_S1 rfl
    have h1 : k0_chk1 v4 := (← Prog.lift (TpuEff.assume (k0_chk1 v4) (k0_chk1.dec v4))).down
    let v17 : Elt F .i32 ← smemLoad (Memref.whole cc0_stg4_0 : Memref sig .tc .smem S16 .i32) (Rect.unit (s := S16) (k0_off2 v4) S1.size (k0_off2_inb v4 h1)) Facts₀.numel1_S1 rfl
    have h3 : k0_chk3 v17 := (← Prog.lift (TpuEff.assume (k0_chk3 v17) (k0_chk3.dec v17))).down
    let v31 : Elt F .i32 ← smemLoad (Memref.whole cc0_stg4_0 : Memref sig .tc .smem S16 .i32) (Rect.unit (s := S16) (k0_off3 v4) S1.size (k0_off3_inb v4 h1)) Facts₀.numel1_S1 rfl
    have h2 : k0_chk2 v31 := (← Prog.lift (TpuEff.assume (k0_chk2 v31) (k0_chk2.dec v31))).down
    (do
      semSignalWord (⟨k0_dev1 v31, k0_dev1_lt v31 h2⟩ : Dev nD) bar 1#32
      semSignalWord (⟨k0_dev2 v17, k0_dev2_lt v17 h3⟩ : Dev nD) bar 1#32
      semWaitWord bar 2#32)
    travel ⟨k0_dev2 v17, k0_dev2_lt v17 h3⟩ ⟨k0_dev1 v31, k0_dev1_lt v31 h2⟩ v4 h1) := rfl

theorem wp_pos (o : Fin 1 → Nat) (inb : ∀ a, o a + S1.size a ≤ S16.size a) (j : Fin 16) (h : o = ![j.val]) (Kt : BitVec 32 → sProp 𝕄) :
    Env I c ⊢ iprop((Env I c -∗ Kt (wd (posD j)))
      -∗ wpB c (smemLoad (Memref.whole cc0_stg5_0 : Memref sig .tc .smem S16 .i32) (Rect.unit (s := S16) o S1.size inb) Facts₀.numel1_S1 rfl) Kt) := by
  simp only [smemLoad, smemLoadElt, Prog.lift, Prog.bind_op, Prog.bind_ret]
  unfold Env
  iintro ⟨Hx, Hw, Hsx, Hsw, Hp, Hq⟩ Hk
  iapply (wp_load_rect 𝒱₀ (c : Thread nD τ) none Set.univ (m := (Memref.whole cc0_stg5_0 : Memref sig .tc .smem S16 .i32))
    (r := Rect.unit (s := S16) o S1.size inb) (Finset.subset_univ _)) $$ Hq
  iintro Hq
  rw [posT_read _ _ j h, lit1_eq]
  simp only [Prog.pure_eq_ret, wp_ret]
  imodintro
  iapply Hk
  isplitl [Hx]; · iexact Hx
  isplitl [Hw]; · iexact Hw
  isplitl [Hsx]; · iexact Hsx
  isplitl [Hsw]; · iexact Hsw
  isplitl [Hp]; · iexact Hp
  iexact Hq

theorem wp_perm (o : Fin 1 → Nat) (inb : ∀ a, o a + S1.size a ≤ S16.size a) (j : Fin 16) (h : o = ![j.val]) (Kt : BitVec 32 → sProp 𝕄) :
    Env I c ⊢ iprop((Env I c -∗ Kt (wd (permD j)))
      -∗ wpB c (smemLoad (Memref.whole cc0_stg4_0 : Memref sig .tc .smem S16 .i32) (Rect.unit (s := S16) o S1.size inb) Facts₀.numel1_S1 rfl) Kt) := by
  simp only [smemLoad, smemLoadElt, Prog.lift, Prog.bind_op, Prog.bind_ret]
  unfold Env
  iintro ⟨Hx, Hw, Hsx, Hsw, Hp, Hq⟩ Hk
  iapply (wp_load_rect 𝒱₀ (c : Thread nD τ) none Set.univ (m := (Memref.whole cc0_stg4_0 : Memref sig .tc .smem S16 .i32))
    (r := Rect.unit (s := S16) o S1.size inb) (Finset.subset_univ _)) $$ Hp
  iintro Hp
  rw [permT_read _ _ j h, lit0_eq]
  simp only [Prog.pure_eq_ret, wp_ret]
  imodintro
  iapply Hk
  isplitl [Hx]; · iexact Hx
  isplitl [Hw]; · iexact Hw
  isplitl [Hsx]; · iexact Hsx
  isplitl [Hsw]; · iexact Hsw
  isplitl [Hp]; · iexact Hp
  iexact Hq

theorem wp_body (Kt : PUnit → sProp 𝕄) :
    BodyIn I K c ⊢ iprop((BodyOut I c -∗ Kt ⟨⟩) -∗ wpB c body Kt) := by
  rw [body_split]
  simp only [Prog.lift, Prog.bind_op, Prog.bind_ret, wp_deviceId]
  unfold BodyIn
  iintro ⟨#HR, #HL, HE, Ho, ⟨Hht, Hhf⟩, Hln, Hat, Hc, ⟨Hdp, Hdn⟩, ⟨#Hrp, #Hrn⟩, %W, HO⟩ Hk
  rw [wp_bind]
  iapply (wp_pos I c _ _ c (off1_eq c) _) $$ HE
  iintro HE
  iapply (wp_assume 𝒱₀ (c : Thread nD τ) none Set.univ (chk1_wd _))
  rw [wp_bind]
  iapply (wp_perm I c _ _ ⟨((posD c).val + 1) % 16, Nat.mod_lt _ (by decide)⟩ (off2_eq (posD c)) _) $$ HE
  iintro HE
  iapply (wp_assume 𝒱₀ (c : Thread nD τ) none Set.univ (chk3_wd _))
  rw [wp_bind]
  iapply (wp_perm I c _ _ ⟨((posD c).val + 15) % 16, Nat.mod_lt _ (by decide)⟩ (off3_eq (posD c)) _) $$ HE
  iintro HE
  iapply (wp_assume 𝒱₀ (c : Thread nD τ) none Set.univ (chk2_wd _))
  rw [end_pv, end_nx]
  rw [wp_bind]
  iapply (wp_meet I K c W _) $$ [Hht Hhf Hat Hc Hdp Hdn HO]
  · isplitr; · iexact HR
    isplitr; · iexact HL
    isplitl [Hht Hhf]; · isplitl [Hht] <;> iassumption
    isplitl [Hat]; · iexact Hat
    isplitl [Hc]; · iexact Hc
    isplitl [Hdp Hdn]; · isplitl [Hdp] <;> iassumption
    isplitr; · isplitr <;> iassumption
    iexact HO
  iintro ⟨Hto, Hat, HO⟩
  iapply (wp_travel I K c _ _) $$ [HE Ho Hln Hto Hat HO]
  · isplitr; · iexact HR
    isplitr; · iexact HL
    isplitl [HE]; · iexact HE
    isplitl [Ho]; · iexact Ho
    isplitl [Hln]; · iexact Hln
    isplitl [Hto]; · iexact Hto
    isplitl [Hat] <;> iassumption
  iintro HB
  iapply Hk; iexact HB

end Cert.KernelIdeal.RingRs
-- ==== Proof.Slots.lean ====
module

public import proofs.«01_k».proof.Proof.Whole
public import Idealize.ShloMosaic.Lib.Ring.FamCut

@[expose] public section

noncomputable section

namespace Cert.KernelIdeal.RingRs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The body -/

/-! ## A buffer of chunks as its slots -/

/-- The elements of a slot. -/
def slotS (M : Memref sig .tc .vmem S15x4x256x256 .bf16) (c : Dev nD) (x : Fin 4 × Fin 15) : Finset (Idx (M.view.loc (c : Thread nD τ))) :=
  M.view.setOn (slotR x.2 x.1).set

theorem slots_apart (M : Memref sig .tc .vmem S15x4x256x256 .bf16) (c : Dev nD) (x y : Fin 4 × Fin 15) (h : x ≠ y) : Disjoint (slotS M c x) (slotS M c y) := by
  have hr : Disjoint (slotR x.2 x.1).set (slotR y.2 y.1).set := by
    by_cases h1 : x.1 = y.1
    · have h2 : x.2.val ≠ y.2.val := fun e => h (Prod.ext h1 (Fin.ext e))
      refine Rect.unit_disjoint (0 : Fin 4) ?_
      show x.2.val + 1 ≤ y.2.val ∨ y.2.val + 1 ≤ x.2.val
      omega
    · have h2 : x.1.val ≠ y.1.val := fun e => h1 (Fin.ext e)
      refine Rect.unit_disjoint (1 : Fin 4) ?_
      show x.1.val + 1 ≤ y.1.val ∨ y.1.val + 1 ≤ x.1.val
      omega
  exact View.disjoint_setOn _ hr

/-- What the slots leave of a buffer of chunks, at some contents. -/
def margin (M : Memref sig .tc .vmem S15x4x256x256 .bf16) (c : Dev nD) : sProp 𝕄 :=
  iprop(∃ f, M.view.loc (c : Thread nD τ) ↦[Ring.restOf (slotS M c)]{fullShare} f)

theorem cut (M : Memref sig .tc .vmem S15x4x256x256 .bf16) (c : Dev nD) :
    (iprop(∃ f, M.view.loc (c : Thread nD τ) ↦{fullShare} f) : sProp 𝕄)
      ⊢ iprop((bigSep Finset.univ fun x => iprop(∃ f, M.view.loc (c : Thread nD τ) ↦[slotS M c x]{fullShare} f)) ∗ margin M c) :=
  Ring.fam_split_ex (slotS M c) (slots_apart M c)

theorem uncut (M : Memref sig .tc .vmem S15x4x256x256 .bf16) (c : Dev nD) :
    iprop((bigSep Finset.univ fun x => iprop(∃ f, M.view.loc (c : Thread nD τ) ↦[slotS M c x]{fullShare} f)) ∗ margin M c)
      ⊢ (iprop(∃ f, M.view.loc (c : Thread nD τ) ↦{fullShare} f) : sProp 𝕄) := by
  unfold margin
  iintro ⟨H, ⟨%f, Hr⟩⟩
  iapply (Ring.fam_join (slotS M c) (slots_apart M c) f)
  isplitl [H]; · iexact H
  iexists f; iexact Hr

variable (c : Dev nD)

/-- Every slot of the send buffers, and of the receive buffers, at some contents. -/
def sAll : sProp 𝕄 := bigSep Finset.univ fun l : Lane => bigSep Finset.univ fun s : Fin 15 => iprop(∃ f, sPts (F := F) c l s f)
def rAll : sProp 𝕄 := bigSep Finset.univ fun l : Lane => bigSep Finset.univ fun s : Fin 15 => iprop(∃ f, rPts (F := F) c l s f)
/-- What the slots leave of the four buffers. -/
def margins : sProp 𝕄 := bigSep Finset.univ fun b : Bool => iprop(margin (F := F) (sM b) c ∗ margin (F := F) (rM b) c)

theorem sSlots (b : Bool) : (bigSep Finset.univ fun x : Fin 4 × Fin 15 => iprop(∃ f, (sM b).view.loc (c : Thread nD τ) ↦[slotS (sM b) c x]{fullShare} f))
    = (bigSep Finset.univ fun k : Fin 4 => bigSep Finset.univ fun s : Fin 15 => iprop(∃ f, sPts (F := F) c (b, k) s f) : sProp 𝕄) := by
  rw [BI.bigSep_univ_prod]
  refine bigSep_congr fun k _ => bigSep_congr fun s _ => ?_
  exact congrArg _ (funext fun f => (sPts_eq c (b, k) s f).symm)
theorem rSlots (b : Bool) : (bigSep Finset.univ fun x : Fin 4 × Fin 15 => iprop(∃ f, (rM b).view.loc (c : Thread nD τ) ↦[slotS (rM b) c x]{fullShare} f))
    = (bigSep Finset.univ fun k : Fin 4 => bigSep Finset.univ fun s : Fin 15 => iprop(∃ f, rPts (F := F) c (b, k) s f) : sProp 𝕄) := by
  rw [BI.bigSep_univ_prod]
  refine bigSep_congr fun k _ => bigSep_congr fun s _ => ?_
  exact congrArg _ (funext fun f => (rPts_eq c (b, k) s f).symm)

/-- The four buffers, each whole. -/
def wholes : sProp 𝕄 :=
  bigSep Finset.univ fun b : Bool => iprop((∃ f, (sM b).view.loc (c : Thread nD τ) ↦{fullShare} f) ∗ ∃ f, (rM b).view.loc (c : Thread nD τ) ↦{fullShare} f)

theorem scoped_wholes :
    (Pipeline.scopedRest (Ix := Unit) (Name := ℕ) (U := UU) (Lvl := ℕ) (Val := Elt F) spec0 c : sProp 𝕄) ⊢ wholes (F := F) c := by
  rw [scopedRest0_eq]
  unfold wholes
  rw [bigSep_two]
  iintro ⟨H0, H1, H2, H3⟩
  isplitl [H2 H3]
  · isplitl [H2]; · iexact H2
    iexact H3
  isplitl [H0]; · iexact H0
  iexact H1
theorem wholes_scoped :
    wholes (F := F) c ⊢ (Pipeline.scopedRest (Ix := Unit) (Name := ℕ) (U := UU) (Lvl := ℕ) (Val := Elt F) spec0 c : sProp 𝕄) := by
  rw [scopedRest0_eq]
  unfold wholes
  rw [bigSep_two]
  iintro ⟨⟨H2, H3⟩, H0, H1⟩
  isplitl [H0]; · iexact H0
  isplitl [H1]; · iexact H1
  isplitl [H2]; · iexact H2
  iexact H3

theorem scr_split :
    (Pipeline.scopedRest (Ix := Unit) (Name := ℕ) (U := UU) (Lvl := ℕ) (Val := Elt F) spec0 c : sProp 𝕄)
      ⊢ iprop(sAll (F := F) c ∗ rAll (F := F) c ∗ margins (F := F) c) := by
  refine (scoped_wholes (F := F) c).trans ?_
  unfold wholes sAll rAll margins
  rw [BI.bigSep_univ_prod, BI.bigSep_univ_prod, ← bigSep_sep', ← bigSep_sep']
  refine bigSep_mono fun b _ => ?_
  show (_ : sProp 𝕄) ⊢ (_ : sProp 𝕄)
  iintro ⟨Hs, Hr⟩
  ihave Hs := (cut (F := F) (sM b) c) $$ Hs
  ihave Hr := (cut (F := F) (rM b) c) $$ Hr
  icases Hs with ⟨Hs, Hs'⟩
  icases Hr with ⟨Hr, Hr'⟩
  isplitl [Hs]; · iapply (Entails.of_eq (sSlots (F := F) c b)); iexact Hs
  isplitl [Hr]; · iapply (Entails.of_eq (rSlots (F := F) c b)); iexact Hr
  isplitl [Hs'] <;> iassumption

theorem scr_join :
    iprop(sAll (F := F) c ∗ rAll (F := F) c ∗ margins (F := F) c)
      ⊢ (Pipeline.scopedRest (Ix := Unit) (Name := ℕ) (U := UU) (Lvl := ℕ) (Val := Elt F) spec0 c : sProp 𝕄) := by
  refine BI.Entails.trans ?_ (wholes_scoped (F := F) c)
  unfold wholes sAll rAll margins
  rw [BI.bigSep_univ_prod, BI.bigSep_univ_prod, ← bigSep_sep', ← bigSep_sep']
  refine bigSep_mono fun b _ => ?_
  show (_ : sProp 𝕄) ⊢ (_ : sProp 𝕄)
  iintro ⟨Hs, Hr, Hs', Hr'⟩
  isplitl [Hs Hs']
  · iapply (uncut (F := F) (sM b) c)
    isplitl [Hs]; · iapply (Entails.of_eq (sSlots (F := F) c b).symm); iexact Hs
    iexact Hs'
  · iapply (uncut (F := F) (rM b) c)
    isplitl [Hr]; · iapply (Entails.of_eq (rSlots (F := F) c b).symm); iexact Hr
    iexact Hr'

end Cert.KernelIdeal.RingRs

end
-- ==== Proof.BodyEq.lean ====
module

public import proofs.«01_k».proof.Proof.Body

@[expose] public section

noncomputable section

namespace Cert.KernelIdeal.RingRs

open Idealize.ShloMosaic Idealize.SL.Sem Cert.KernelIdeal.Gen

variable {F : FTy → Type} [FloatOps F]

set_option maxRecDepth 100000 in
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 = body := by
  chain_rfl

end Cert.KernelIdeal.RingRs
-- ==== Proof.Region.lean ====
module

public import proofs.«01_k».proof.Proof.Slots
public import proofs.«01_k».proof.Proof.BodyEq

@[expose] public section

noncomputable section

namespace Cert.KernelIdeal.RingRs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The body -/

variable (m : (ℓ : Loc nD τ sig) → Buf (Elt F) ℓ) (ρ : Dev nD → PrngReg) (c : Dev nD)

/-! ## The windows at the one grid point -/

/-- The block of a window of a whole array is the array. -/
theorem iblk_x (t : Fin cfg0.N) : iblk m c 0 t = V m c main_arg0 := by
  funext j
  have e : ((cfg0.win 0).blk t).view.emb j = j := funext fun a => Fin.ext (by show 0 * _ + 1 * (j a).val = (j a).val; omega)
  exact congrArg (V m c main_arg0) e
theorem iblk_w (t : Fin cfg0.N) : iblk m c 1 t = V m c main_arg1 := by
  funext j
  have e : ((cfg0.win 1).blk t).view.emb j = j := funext fun a => Fin.ext (by show 0 * _ + 1 * (j a).val = (j a).val; omega)
  exact congrArg (V m c main_arg1) e
theorem iblk_sx (t : Fin cfg0.N) : iblk m c 2 t = V m c main_arg2 := by
  funext j
  have e : ((cfg0.win 2).blk t).view.emb j = j := funext fun a => Fin.ext (by show 0 * _ + 1 * (j a).val = (j a).val; omega)
  exact congrArg (V m c main_arg2) e
theorem iblk_sw (t : Fin cfg0.N) : iblk m c 3 t = V m c main_arg3 := by
  funext j
  have e : ((cfg0.win 3).blk t).view.emb j = j := funext fun a => Fin.ext (by show 0 * _ + 1 * (j a).val = (j a).val; omega)
  exact congrArg (V m c main_arg3) e
theorem iblk_perm (t : Fin cfg0.N) : iblk m c 4 t = V m c main_c := by
  funext j
  have e : ((cfg0.win 4).blk t).view.emb j = j := funext fun a => Fin.ext (by show 0 * _ + 1 * (j a).val = (j a).val; omega)
  exact congrArg (V m c main_c) e
theorem iblk_pos (t : Fin cfg0.N) : iblk m c 5 t = V m c main_c_0 := by
  funext j
  have e : ((cfg0.win 5).blk t).view.emb j = j := funext fun a => Fin.ext (by show 0 * _ + 1 * (j a).val = (j a).val; omega)
  exact congrArg (V m c main_c_0) e

theorem V_perm : V m c main_c = (permT : (cc0_stg4_0 : Ref sig .tc).ty.Contents (Elt F)) := by
  show StableHlo.after hostOps0 (fun b => m (c, b)) (Proc.devRef .tc main_c) = _
  simp only [hostOps0, StableHlo.after_cons, StableHlo.after_nil]
  rw [StableHlo.nullary_result_ne main_c_0 _ _ _ (by decide), StableHlo.nullary_result]
  rfl
theorem V_pos : V m c main_c_0 = (posT : (cc0_stg5_0 : Ref sig .tc).ty.Contents (Elt F)) := by
  show StableHlo.after hostOps0 (fun b => m (c, b)) (Proc.devRef .tc main_c_0) = _
  simp only [hostOps0, StableHlo.after_cons, StableHlo.after_nil]
  rw [StableHlo.nullary_result]
  rfl

/-- Each device's rows, columns and scales, as launched. -/
def ins : Ins F where
  x c := m ((c : Thread nD τ).loc main_arg0)
  w c := m ((c : Thread nD τ).loc main_arg1)
  sx c := m ((c : Thread nD τ).loc main_arg2)
  sw c := m ((c : Thread nD τ).loc main_arg3)

/-! ## The kernel's data -/

/-- What of a device's start changes hands with no name of an invariant in it. -/
def Lin : sProp 𝕄 :=
  iprop((bigSep Finset.univ fun l : Lane => bigSep Finset.univ fun s : Fin 15 => cred (tallyAt (rcvC c l s) () N))
    ∗ (bigSep Finset.univ fun l : Lane => bigSep Finset.univ fun s : Fin 15 =>
        iprop(dutyTok ER (rcvC (peer l.1 c) l s) 0 true ∗ dutyTok ER (sndC c l) s.val true))
    ∗ atPos ER (barC c) 0 ∅ 0 ∗ cred (tallyAt (barC c) () 2)
    ∗ (dutyTok ER (barC (peer false c)) 0 true ∗ dutyTok ER (barC (peer true c)) 0 false)
    ∗ (reached ER (barC (peer false c)) 0 ∗ reached ER (barC (peer true c)) 0))

/-- A device's own counters opened. -/
def opened (j : Lane ⊕ (Lane × Fin 15)) : sProp 𝕄 := iprop(atPos ER (cellC c (.inr j)) 0 ∅ 0 ∗ reached ER (cellC c (.inr j)) 0)

def Tk : sProp 𝕄 :=
  iprop((∃ K, recs (ins m) K ∗ bigSep Finset.univ fun j : Lane ⊕ (Lane × Fin 15) => openTok ER (cellC c (.inr j))) ∗ Lin (F := F) c)
def Xk : sProp 𝕄 :=
  iprop((∃ K, recs (ins m) K) ∗ levAts L lv ∗ bigSep Finset.univ (opened (F := F) c) ∗ Lin (F := F) c)
def Yk : sProp 𝕄 := semVal (barC c) 0

/-- Before the body, and after it. -/
def Φin : sProp 𝕄 :=
  iprop((∃ K, recs (ins m) K) ∗ levAts L lv ∗ (handB (F := F) c true ∗ handB (F := F) c false) ∗ bigSep Finset.univ (LaneIn (F := F) c)
    ∗ (atPos ER (barC c) 0 ∅ 0 ∗ cred (tallyAt (barC c) () 2)
      ∗ (dutyTok ER (barC (peer false c)) 0 true ∗ dutyTok ER (barC (peer true c)) 0 false)
      ∗ (reached ER (barC (peer false c)) 0 ∗ reached ER (barC (peer true c)) 0))
    ∗ margins (F := F) c ∗ ∃ r, prngReg c r)
def Φout : sProp 𝕄 :=
  iprop(bigSep Finset.univ (LaneEnd (F := F) c) ∗ semVal (barC c) 0 ∗ margins (F := F) c ∗ ∃ r, prngReg c r)

def dat : Pipeline.Dat τ (Elt F) Unit ℕ UU ℕ cfg0 c where
  A w := V m c (Pipeline.arrRef spec0 w)
  after w _ := match w with
    | ⟨0, _⟩ => (ins m).x c
    | ⟨1, _⟩ => (ins m).w c
    | ⟨2, _⟩ => (ins m).sx c
    | ⟨3, _⟩ => (ins m).sw c
    | ⟨4, _⟩ => permT
    | ⟨5, _⟩ => posT
    | ⟨6, _⟩ => outF (ins m) c
  Φ t := if t.val = 0 then Φin m c else Φout c
  q _ := fullShare
  owed t := if t.val = 0 then O₀ c else 0

abbrev adm : (p : Fin 1) → (pcfgs (F := F) p).Adm := fun p => (cfgs p).toPCfg_adm
def pdats (p : Fin 1) (c : Dev nD) : Pipeline.Dat τ (Elt F) Unit ℕ UU ℕ (Pipeline.pin (pcfgs (F := F)) adm p) c :=
  match p with
  | 0 => dat m c

theorem owed_at (t : Fin (cfg0.N + 1)) : (dat m c).owed t = if t.val = 0 then O₀ c else 0 := rfl
theorem owed_first : (dat m c).owed t0_0.castSucc = O₀ c := (owed_at m c _).trans (if_pos rfl)
theorem owed_zero : (dat m c).owed 0 = O₀ c := (owed_at m c _).trans (if_pos rfl)
theorem owed_last : (dat m c).owed (Fin.last _) = 0 :=
  (owed_at m c _).trans (if_neg (by rw [Fin.val_last, show cfg0.N = 1 from N_0]; decide))
theorem owed_succ : (dat m c).owed t0_0.succ = 0 := (owed_at m c _).trans (if_neg (by decide))

theorem recs_owed {cfg : Pipeline.Cfg sig Λ₀} (d : Pipeline.Dat τ (Elt F) Unit ℕ UU ℕ cfg c) (t : Fin (cfg.N + 1)) (O : CellTallies nD τ sig Unit)
    (h : d.owed t = O) (hr : d.recorded t = Set.univ) (W : Waits sig Unit) : (owes (c : Thread nD τ) O W : sProp 𝕄) ⊢ d.owesAt () t := by
  unfold Pipeline.Dat.owesAt Pipeline.owesWithin Pipeline.Dat.bound; rw [h, hr]
  iintro HO; iexists W
  isplitr
  · ipureintro; exact fun _ _ => Or.inl trivial
  iexact HO
theorem owed_recs {cfg : Pipeline.Cfg sig Λ₀} (d : Pipeline.Dat τ (Elt F) Unit ℕ UU ℕ cfg c) (t : Fin (cfg.N + 1)) (O : CellTallies nD τ sig Unit)
    (h : d.owed t = O) : d.owesAt () t ⊢ (iprop(∃ W, owes (c : Thread nD τ) O W) : sProp 𝕄) := by
  unfold Pipeline.Dat.owesAt Pipeline.owesWithin; rw [h]
  iintro ⟨%W, -, HO⟩; iexists W; iexact HO

theorem owns_all (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at given contents. -/
def stgAt (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before_x (d) : (dat m c).before (0 : Fin 7) t0_0 d = (ins m).x c := by
  unfold Pipeline.Dat.before; rw [if_pos (fetch0_0 t0_0)]; exact (iblk_x m c t0_0).trans (V_main_arg0 m c)
theorem before_w (d) : (dat m c).before (1 : Fin 7) t0_0 d = (ins m).w c := by
  unfold Pipeline.Dat.before; rw [if_pos (fetch0_1 t0_0)]; exact (iblk_w m c t0_0).trans (V_main_arg1 m c)
theorem before_sx (d) : (dat m c).before (2 : Fin 7) t0_0 d = (ins m).sx c := by
  unfold Pipeline.Dat.before; rw [if_pos (fetch0_2 t0_0)]; exact (iblk_sx m c t0_0).trans (V_main_arg2 m c)
theorem before_sw (d) : (dat m c).before (3 : Fin 7) t0_0 d = (ins m).sw c := by
  unfold Pipeline.Dat.before; rw [if_pos (fetch0_3 t0_0)]; exact (iblk_sw m c t0_0).trans (V_main_arg3 m c)
theorem before_perm (d) : (dat m c).before (4 : Fin 7) t0_0 d = permT := by
  unfold Pipeline.Dat.before; rw [if_pos (fetch0_4 t0_0)]; exact (iblk_perm m c t0_0).trans (V_perm m c)
theorem before_pos (d) : (dat m c).before (5 : Fin 7) t0_0 d = posT := by
  unfold Pipeline.Dat.before; rw [if_pos (fetch0_5 t0_0)]; exact (iblk_pos m c t0_0).trans (V_pos m c)

def obPre : sProp 𝕄 :=
  iprop(Φin m c ∗ (dat m c).owesAt () t0_0.castSucc
    ∗ (∃ d, stgAt c cc0_stg0_0 ((dat m c).before (0 : Fin 7) t0_0 d))
    ∗ (∃ d, stgAt c cc0_stg1_0 ((dat m c).before (1 : Fin 7) t0_0 d))
    ∗ (∃ d, stgAt c cc0_stg2_0 ((dat m c).before (2 : Fin 7) t0_0 d))
    ∗ (∃ d, stgAt c cc0_stg3_0 ((dat m c).before (3 : Fin 7) t0_0 d))
    ∗ (∃ d, stgAt c cc0_stg4_0 ((dat m c).before (4 : Fin 7) t0_0 d))
    ∗ (∃ d, stgAt c cc0_stg5_0 ((dat m c).before (5 : Fin 7) t0_0 d))
    ∗ (∃ d, stgAt c cc0_stg6_0 ((dat m c).before (6 : Fin 7) t0_0 d)))
def obPost : sProp 𝕄 :=
  iprop(Φout (F := F) c ∗ (dat m c).owesAt () t0_0.succ
    ∗ stgAt c cc0_stg0_0 ((ins m).x c) ∗ stgAt c cc0_stg1_0 ((ins m).w c) ∗ stgAt c cc0_stg2_0 ((ins m).sx c) ∗ stgAt c cc0_stg3_0 ((ins m).sw c)
    ∗ stgAt c cc0_stg4_0 permT ∗ stgAt c cc0_stg5_0 posT ∗ stgAt c cc0_stg6_0 (outF (ins m) c))

theorem stg_of (b : Ref sig .tc) (X : b.ty.Contents (Elt F)) : (((c : Thread nD τ).loc b) ↦{fullShare} X : sProp 𝕄) ⊢ stgAt c b X := by
  unfold stgAt
  iintro H; iexists X; isplitr; · ipureintro; rfl
  iexact H
theorem of_stg (b : Ref sig .tc) (X : b.ty.Contents (Elt F)) : stgAt c b X ⊢ (((c : Thread nD τ).loc b) ↦{fullShare} X : sProp 𝕄) := by
  unfold stgAt
  iintro ⟨%f, %h, H⟩; subst h; iexact H

theorem ob_run : obPre m c ⊢ wpB c (body (F := F)) (fun _ => obPost m c) := by
  unfold obPre Φin
  iintro ⟨⟨⟨%K, #HR⟩, #HL, Hh, Hl, ⟨Ha, Hc, Hd, Hr⟩, Hm, Hp⟩, HO, ⟨%d0, H0⟩, ⟨%d1, H1⟩, ⟨%d2, H2⟩, ⟨%d3, H3⟩, ⟨%d4, H4⟩, ⟨%d5, H5⟩, ⟨%d6, H6⟩⟩
  ihave HO := (owed_recs (F := F) c (dat m c) _ (O₀ c) (owed_first m c)) $$ HO
  ihave H0 := ((Entails.of_eq (congrArg (stgAt c cc0_stg0_0) (before_x m c d0))).trans (of_stg c _ _)) $$ H0
  ihave H1 := ((Entails.of_eq (congrArg (stgAt c cc0_stg1_0) (before_w m c d1))).trans (of_stg c _ _)) $$ H1
  ihave H2 := ((Entails.of_eq (congrArg (stgAt c cc0_stg2_0) (before_sx m c d2))).trans (of_stg c _ _)) $$ H2
  ihave H3 := ((Entails.of_eq (congrArg (stgAt c cc0_stg3_0) (before_sw m c d3))).trans (of_stg c _ _)) $$ H3
  ihave H4 := ((Entails.of_eq (congrArg (stgAt c cc0_stg4_0) (before_perm m c d4))).trans (of_stg c _ _)) $$ H4
  ihave H5 := ((Entails.of_eq (congrArg (stgAt c cc0_stg5_0) (before_pos m c d5))).trans (of_stg c _ _)) $$ H5
  ihave H6 := (of_stg c _ _) $$ H6
  iapply (wp_body (ins m) K c (fun _ => obPost m c)) $$ [Hh Hl Ha Hc Hd Hr HO H0 H1 H2 H3 H4 H5 H6]
  · unfold BodyIn Env
    isplitr; · iexact HR
    isplitr; · iexact HL
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [Hh]; · iexact Hh
    isplitl [Hl]; · iexact Hl
    isplitl [Ha]; · iexact Ha
    isplitl [Hc]; · iexact Hc
    isplitl [Hd]; · iexact Hd
    isplitl [Hr]; · iexact Hr
    iexact HO
  unfold BodyOut Env obPost Φout
  iintro ⟨⟨H0, H1, H2, H3, H4, H5⟩, H6, Hl, Hb, ⟨%W, HO⟩⟩
  isplitl [Hl Hb Hm Hp]
  · isplitl [Hl]; · iexact Hl
    isplitl [Hb]; · iexact Hb
    isplitl [Hm]; · iexact Hm
    iexact Hp
  isplitl [HO]; · iapply (recs_owed (F := F) c (dat m c) _ 0 (owed_succ m c) rfl W); iexact HO
  isplitl [H0]; · iapply (stg_of c cc0_stg0_0); iexact H0
  isplitl [H1]; · iapply (stg_of c cc0_stg1_0); iexact H1
  isplitl [H2]; · iapply (stg_of c cc0_stg2_0); iexact H2
  isplitl [H3]; · iapply (stg_of c cc0_stg3_0); iexact H3
  isplitl [H4]; · iapply (stg_of c cc0_stg4_0); iexact H4
  isplitl [H5]; · iapply (stg_of c cc0_stg5_0); iexact H5
  iapply (stg_of c cc0_stg6_0); iexact H6

theorem ob_body : obPre m c ⊢ wpB c (cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7) (fun _ => obPost m c) :=
  (ob_run m c).trans (Entails.of_eq (congrArg (fun p => wpB c p (fun _ => obPost m c)) body_eq.symm))

attribute [local irreducible] cc0_body in
theorem body_ob : Pipeline.BodyObligation (dat m c) (defs₀ (F := F)) 𝒱₀ () Set.univ := fun t => by
  rw [fin_N0 t]
  rw [bigSep_W0, bigSep_W0]
  simp only [owns_all]
  exact ob_body m c

end Cert.KernelIdeal.RingRs

end
-- ==== Proof.Enter.lean ====
module

public import proofs.«01_k».proof.Proof.Region
public import Idealize.ShloMosaic.Lib.Pipeline.RegionTalk

@[expose] public section

noncomputable section

namespace Cert.KernelIdeal.RingRs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The body -/
/-! ## Entering and leaving the kernel -/

variable (m : (ℓ : Loc nD τ sig) → Buf (Elt F) ℓ) (ρ : Dev nD → PrngReg) (c : Dev nD)

/-- The kernel's own semaphores. -/
abbrev Oi := Lane ⊕ (Lane × Fin 15)
abbrev osem (j : Oi) : SemLoc sig := csem (.inr j)

theorem csem_dma : ∀ (i : Ci) (s : DmaSem sig), csem i = .dma s → 7 ≤ s.val := by
  have hs := sSem_val
  have hr := rSem_val
  rintro (_ | ⟨b, k⟩ | ⟨⟨b, k⟩, t⟩) s h
  all_goals simp only [csem, reduceCtorEq, SemLoc.dma.injEq] at h
  all_goals
    rw [← h]
    simp only [hs, hr]
    cases b <;> simp only <;> omega
theorem stage_low : ∀ (w : Fin 7) (s : Fin (spec0 w).nbuf), ((spec0 w).sem s).val < 7 := by decide

theorem osem_scoped : ∀ j : Oi, (osem j).isScoped .tc = true := by
  rintro (⟨b, k⟩ | ⟨⟨b, k⟩, t⟩)
  · revert b k; decide
  · revert b k t; decide

theorem osem_facts : Pipeline.OwnSemFacts spec0 osem where
  isScoped := osem_scoped
  inj := fun _ _ h => Sum.inr_injective (csem_inj h)
  disj := fun k w s h => absurd (csem_dma (.inr k) _ h) (Nat.not_le_of_lt (stage_low w s))

theorem kd_stage (w : Fin 7) (s : Fin (spec0 w).nbuf) : kd (.dma ((spec0 w).sem s)) = none := by
  unfold kd
  exact dif_neg fun ⟨i, hi⟩ => absurd (csem_dma i _ hi) (Nat.not_le_of_lt (stage_low w s))

theorem ownSems_eq : (Pipeline.ownSems0 osem c : sProp 𝕄) = bigSep Finset.univ fun j : Oi => semVal (cellC c (.inr j)) 0 := rfl

theorem ownSems_lanes : (Pipeline.ownSems0 osem c : sProp 𝕄)
    = iprop((bigSep Finset.univ fun l : Lane => semVal (sndC c l) 0)
        ∗ bigSep Finset.univ fun l : Lane => bigSep Finset.univ fun s : Fin 15 => semVal (rcvC c l s) 0) := by
  rw [ownSems_eq, BI.bigSep_univ_sum, BI.bigSep_univ_prod (fun x : Lane × Fin 15 => (semVal (cellC c (.inr (.inr x))) 0 : sProp 𝕄))]
  rfl

theorem open_one (K : Dev nD × Ci → ℕ) (j : Oi) :
    iprop(recs (ins m) K ∗ (openTok ER (cellC c (.inr j)) ∗ semVal (cellC c (.inr j)) 0)) ⊢ (|={Set.univ}=> opened (F := F) c j : sProp 𝕄) := by
  unfold opened
  iintro ⟨#HR, Ho, Hs⟩
  imod (Rounds.cell_open ER (rd (ins m)) (g := cellC c (.inr j)) (Set.mem_univ (K (c, .inr j)))) $$ [Ho Hs] with ⟨Ha, Hr⟩
  · isplitr; · iapply (recs_at (ins m) K c (.inr j)); iexact HR
    isplitl [Ho] <;> iassumption
  imodintro
  isplitl [Ha] <;> iassumption

theorem open_all (K : Dev nD × Ci → ℕ) :
    iprop(recs (ins m) K ∗ ((bigSep Finset.univ fun j : Oi => openTok ER (cellC c (.inr j))) ∗ bigSep Finset.univ fun j : Oi => semVal (cellC c (.inr j)) 0))
      ⊢ (|={Set.univ}=> bigSep Finset.univ (opened (F := F) c) : sProp 𝕄) := by
  rw [← bigSep_sep']
  iintro H
  iapply bigSep_fupd
  iapply (bigSep_with_persistent (R := recs (ins m) K) (Φ := fun j : Oi => iprop(openTok ER (cellC c (.inr j)) ∗ semVal (cellC c (.inr j)) 0))
    fun j _ => open_one m c K j)
  iexact H

theorem opening : iprop(Tk m c ∗ Pipeline.ownSems0 osem c ∗ levAts L lv) ⊢ (|={Set.univ}=> Xk m c : sProp 𝕄) := by
  rw [ownSems_eq]
  unfold Tk Xk
  iintro ⟨⟨⟨%K, #HR, Ho⟩, Hl⟩, Hs, #HL⟩
  imod (open_all m c K) $$ [Ho Hs] with Ha
  · isplitr; · iexact HR
    isplitl [Ho] <;> iassumption
  imodintro
  isplitr; · iexists K; iexact HR
  isplitr; · iexact HL
  isplitl [Ha] <;> iassumption

theorem opened_lanes : bigSep Finset.univ (opened (F := F) c)
    ⊢ iprop((bigSep Finset.univ fun l : Lane => iprop(atPos ER (sndC c l) 0 ∅ 0 ∗ reached ER (sndC c l) 0))
        ∗ bigSep Finset.univ fun l : Lane => iprop((bigSep Finset.univ fun s : Fin 15 => atPos ER (rcvC c l s) 0 ∅ 0)
            ∗ bigSep Finset.univ fun s : Fin 15 => (reached ER (rcvC c l s) 0 : sProp 𝕄))) := by
  rw [BI.bigSep_univ_sum, BI.bigSep_univ_prod (fun x : Lane × Fin 15 => opened (F := F) c (.inr x))]
  unfold opened
  simp only [bigSep_sep']
  iintro H; iexact H

theorem hands : iprop(rAll (F := F) c ∗ bigSep Finset.univ fun l : Lane => bigSep Finset.univ fun s : Fin 15 => (reached ER (rcvC c l s) 0 : sProp 𝕄))
    ⊢ iprop(handB (F := F) c true ∗ handB (F := F) c false) := by
  unfold rAll handB
  simp only [bigSep_sep', BI.bigSep_univ_prod, bigSep_two]
  iintro ⟨⟨Hf, Ht⟩, Hf', Ht'⟩
  isplitl [Ht Ht']
  · isplitl [Ht] <;> iassumption
  isplitl [Hf] <;> iassumption

set_option maxHeartbeats 1000000 in
theorem entering (W : Valuation τ sig (Elt F)) : iprop(Pipeline.scopedRest spec0 c ∗ (∃ r, prngReg c r) ∗ StableHlo.held (c.tc : Thread nD τ) ∅ W ∗ Xk m c)
    ⊢ Φin m c := by
  unfold Xk Φin Lin LaneIn
  simp only [bigSep_sep']
  iintro ⟨Hsc, Hp, -, HR, HL, Ho, Hcr, ⟨Hd1, Hd2⟩, Ha, Hc, Hd, Hr⟩
  ihave Hsc := (scr_split (F := F) c) $$ Hsc
  icases Hsc with ⟨Hs, Hrs, Hm⟩
  ihave Ho := (opened_lanes (F := F) c) $$ Ho
  simp only [bigSep_sep']
  icases Ho with ⟨⟨Hoa, Hor⟩, Hra, Hrr⟩
  isplitl [HR]; · iexact HR
  isplitl [HL]; · iexact HL
  isplitl [Hrs Hrr]
  · iapply (hands (F := F) c)
    isplitl [Hrs] <;> iassumption
  isplitl [Hs Hoa Hor Hra Hcr Hd1 Hd2]
  · isplitl [Hra Hcr]
    · isplitl [Hra]; · iexact Hra
      iexact Hcr
    isplitl [Hd1 Hd2]
    · isplitl [Hd1]; · iexact Hd1
      iexact Hd2
    isplitl [Hs]; · unfold sAll; iexact Hs
    isplitl [Hoa]; · iexact Hoa
    iexact Hor
  isplitl [Ha Hc Hd Hr]
  · isplitl [Ha]; · iexact Ha
    isplitl [Hc]; · iexact Hc
    isplitl [Hd]; · iexact Hd
    iexact Hr
  isplitl [Hm]; · iexact Hm
  iexact Hp

theorem leaving (W : Valuation τ sig (Elt F)) : Φout (F := F) c
    ⊢ iprop(Pipeline.scopedRest spec0 c ∗ (∃ r, prngReg c r) ∗ StableHlo.held (c.tc : Thread nD τ) ∅ W ∗ Pipeline.ownSems0 osem c ∗ Yk (F := F) c) := by
  rw [ownSems_lanes]
  unfold Φout LaneEnd Yk
  simp only [bigSep_sep']
  iintro ⟨⟨⟨Hrv, Hrs⟩, Hs, Hsv⟩, Hb, Hm, Hp⟩
  isplitl [Hrs Hs Hm]
  · iapply (scr_join (F := F) c)
    unfold sAll rAll
    isplitl [Hs]; · iexact Hs
    isplitl [Hrs]; · iexact Hrs
    iexact Hm
  isplitl [Hp]; · iexact Hp
  isplitr; · unfold StableHlo.held; rw [BI.bigSep_empty]; iempintro
  isplitl [Hsv Hrv]
  · isplitl [Hsv]; · iexact Hsv
    iexact Hrv
  iexact Hb

end Cert.KernelIdeal.RingRs

end
-- ==== Proof.Deal.lean ====
module

public import proofs.«01_k».proof.Proof.Enter

@[expose] public section

noncomputable section

namespace Cert.KernelIdeal.RingRs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The body -/
/-! ## What the launch deals: tokens, names and credit -/

variable (m : (ℓ : Loc nD τ sig) → Buf (Elt F) ℓ) (ρ : Dev nD → PrngReg) (c : Dev nD)

def barEmb : Dev nD ↪ GSem nD τ sig := ⟨barC, fun _ _ h => (cellC_inj h).1⟩
def ownEmb : Dev nD × Oi ↪ GSem nD τ sig :=
  ⟨fun x => cellC x.1 (.inr x.2), fun _ _ h => Prod.ext (cellC_inj h).1 (Sum.inr_injective (cellC_inj h).2)⟩
def allEmb : Dev nD × Ci ↪ GSem nD τ sig := ⟨fun x => cellC x.1 x.2, fun _ _ h => Prod.ext (cellC_inj h).1 (cellC_inj h).2⟩

/-- The barrier's cells, and the cells a device opens inside the kernel. -/
abbrev barCells : Finset (GSem nD τ sig) := Finset.univ.map barEmb
abbrev ownCells : Finset (GSem nD τ sig) := Finset.univ.map ownEmb

theorem cells_apart : Disjoint (barCells : Finset (GSem nD τ sig)) ownCells := by
  rw [Finset.disjoint_left]
  intro g h₁ h₂
  obtain ⟨d, -, rfl⟩ := Finset.mem_map.mp h₁
  obtain ⟨x, -, h⟩ := Finset.mem_map.mp h₂
  exact absurd (cellC_inj h).2 Sum.inr_ne_inl

theorem cells_all : (barCells ∪ ownCells : Finset (GSem nD τ sig)) = Finset.univ.map allEmb := by
  ext g
  simp only [Finset.mem_union, Finset.mem_map, Finset.mem_univ, _root_.true_and]
  constructor
  · rintro (⟨d, rfl⟩ | ⟨x, rfl⟩)
    · exact ⟨(d, .inl ()), rfl⟩
    · exact ⟨(x.1, .inr x.2), rfl⟩
  · rintro ⟨⟨d, _ | j⟩, rfl⟩
    · exact .inl ⟨d, rfl⟩
    · exact .inr ⟨(d, j), rfl⟩

/-- A device's duties: its two barrier signals, what arrives and what is sent. -/
abbrev Ti := Bool ⊕ (Lane × Fin 15) ⊕ (Lane × Fin 15)
def duty (d : Dev nD) : Ti → GSem nD τ sig × ℕ × Bool
  | .inl b => (barC d, 0, b)
  | .inr (.inl x) => (rcvC d x.1 x.2, 0, true)
  | .inr (.inr x) => (sndC d x.1, x.2.val, true)

theorem duty_inj : Function.Injective fun x : Dev nD × Ti => duty x.1 x.2 := by
  rintro ⟨d, b | ⟨l, s⟩ | ⟨l, s⟩⟩ ⟨d', b' | ⟨l', s'⟩ | ⟨l', s'⟩⟩ h
  all_goals
    have h1 := congrArg (fun t : GSem nD τ sig × ℕ × Bool => t.1) h
    have h2 := congrArg (fun t : GSem nD τ sig × ℕ × Bool => t.2.1) h
    have h3 := congrArg (fun t : GSem nD τ sig × ℕ × Bool => t.2.2) h
    simp only [duty] at h1 h2 h3
    obtain ⟨e, e'⟩ := cellC_inj h1
    subst e
    simp only [Sum.inr.injEq, Sum.inl.injEq, Prod.mk.injEq, reduceCtorEq] at e'
  · subst h3; rfl
  · obtain ⟨e1, e2⟩ := e'; subst e1 e2; rfl
  · subst e'; obtain rfl := Fin.ext h2; rfl

def toks : Finset (GSem nD τ sig × ℕ × Bool) := Finset.univ.map ⟨fun x : Dev nD × Ti => duty x.1 x.2, duty_inj⟩

/-- The duties a device pays. -/
def pays : sProp 𝕄 :=
  iprop((dutyTok ER (barC (peer false c)) 0 true ∗ dutyTok ER (barC (peer true c)) 0 false)
    ∗ bigSep Finset.univ fun l : Lane => bigSep Finset.univ fun s : Fin 15 =>
        iprop(dutyTok ER (rcvC (peer l.1 c) l s) 0 true ∗ dutyTok ER (sndC c l) s.val true))

theorem toks_split : bigSep toks (fun x => (dutyTok ER x.1 x.2.1 x.2.2 : sProp 𝕄))
    ⊢ iprop(((bigSep Finset.univ fun d : Dev nD => dutyTok ER (barC d) 0 false) ∗ bigSep Finset.univ fun d : Dev nD => dutyTok ER (barC d) 0 true)
      ∗ (bigSep Finset.univ fun d : Dev nD => bigSep Finset.univ fun l : Lane => bigSep Finset.univ fun s : Fin 15 => dutyTok ER (rcvC d l s) 0 true)
      ∗ bigSep Finset.univ fun d : Dev nD => bigSep Finset.univ fun l : Lane => bigSep Finset.univ fun s : Fin 15 => dutyTok ER (sndC d l) s.val true) := by
  unfold toks
  rw [bigSep_map, BI.bigSep_univ_prod]
  simp only [← bigSep_sep']
  refine bigSep_mono fun d _ => ?_
  rw [BI.bigSep_univ_sum, BI.bigSep_univ_sum, bigSep_two,
    BI.bigSep_univ_prod (fun x : Lane × Fin 15 => _), BI.bigSep_univ_prod (fun x : Lane × Fin 15 => _)]
  simp only [bigSep_sep']
  exact BI.Entails.refl _

/-- A lane's chunk on a device, taken to the peer it goes to. -/
def turnL : Dev nD × Lane ≃ Dev nD × Lane where
  toFun x := (peer x.2.1 x.1, x.2)
  invFun x := (peer (!x.2.1) x.1, x.2)
  left_inv x := Prod.ext (peer_back x.2.1 x.1) rfl
  right_inv x := Prod.ext (peer_fwd x.2.1 x.1) rfl

theorem rcv_around : (bigSep Finset.univ fun d : Dev nD => bigSep Finset.univ fun l : Lane => bigSep Finset.univ fun s : Fin 15 => (dutyTok ER (rcvC d l s) 0 true : sProp 𝕄))
    = bigSep Finset.univ fun d : Dev nD => bigSep Finset.univ fun l : Lane => bigSep Finset.univ fun s : Fin 15 => (dutyTok ER (rcvC (peer l.1 d) l s) 0 true : sProp 𝕄) := by
  have h := bigSep_univ_equiv turnL fun x : Dev nD × Lane => bigSep Finset.univ fun s : Fin 15 => (dutyTok ER (rcvC x.1 x.2 s) 0 true : sProp 𝕄)
  rw [BI.bigSep_univ_prod, BI.bigSep_univ_prod] at h
  exact h

theorem toks_deal : bigSep toks (fun x => (dutyTok ER x.1 x.2.1 x.2.2 : sProp 𝕄)) ⊢ bigSep Finset.univ fun d : Dev nD => pays (F := F) d := by
  refine (toks_split (F := F)).trans ?_
  rw [rcv_around, bigSep_univ_equiv (turn true) (fun d : Dev nD => (dutyTok ER (barC d) 0 false : sProp 𝕄)),
    bigSep_univ_equiv (turn false) (fun d : Dev nD => (dutyTok ER (barC d) 0 true : sProp 𝕄))]
  unfold pays
  simp only [bigSep_sep']
  iintro ⟨⟨Hf, Ht⟩, Hr, Hs⟩
  isplitl [Hf Ht]
  · isplitl [Ht]; · iexact Ht
    iexact Hf
  isplitl [Hr] <;> iassumption

/-! ### The credit -/

theorem peer_iff (b : Bool) (d : Dev nD) : c = peer b d ↔ d = peer (!b) c :=
  ⟨fun h => by rw [h, peer_back], fun h => by rw [h, peer_fwd]⟩

theorem bar_owed (d : Dev nD) : O₀ d (barC c) () = (if d = peer false c then 1 else 0) + (if d = peer true c then 1 else 0) := by
  have h0 : Orem d (fun _ => 0) (barC c) () = 0 := by
    by_contra hn
    obtain ⟨l, s, -, h⟩ := Orem_pos (Nat.pos_of_ne_zero hn)
    exact absurd (cellC_inj h).2 Sum.inl_ne_inr
  have hb : ∀ b : Bool, (tallyAt (barC (peer b d)) () 1 : CellTallies nD τ sig Unit) (barC c) () = if d = peer (!b) c then 1 else 0 := by
    intro b
    rw [tallyAt_apply]
    exact if_congr ⟨fun h => (peer_iff c b d).mp (cellC_inj h.1).1, fun h => ⟨congrArg barC ((peer_iff c b d).mpr h), rfl⟩⟩ rfl rfl
  unfold O₀
  rw [Pi.add_apply, Finsupp.add_apply, Pi.add_apply, Finsupp.add_apply, h0, hb, hb, Nat.zero_add]
  rfl

theorem rcv_owed (l : Lane) (s : Fin 15) (d : Dev nD) : O₀ d (rcvC c l s) () = if d = peer (!l.1) c then N else 0 := by
  have hb : ∀ b : Bool, (tallyAt (barC (peer b d)) () 1 : CellTallies nD τ sig Unit) (rcvC c l s) () = 0 := by
    intro b
    rw [tallyAt_apply]
    exact if_neg fun h => absurd (cellC_inj h.1).2 Sum.inr_ne_inl
  have hr : ∀ (x : Lane) (t : Fin 15), (tallyAt (rcvC (peer x.1 d) x t) () N : CellTallies nD τ sig Unit) (rcvC c l s) ()
      = if x = l then (if t = s then (if d = peer (!l.1) c then N else 0) else 0) else 0 := by
    intro x t
    rw [tallyAt_apply]
    by_cases hx : x = l
    · subst hx
      rw [if_pos rfl]
      by_cases ht : t = s
      · subst ht
        rw [if_pos rfl]
        exact if_congr ⟨fun h => (peer_iff c x.1 d).mp (cellC_inj h.1).1, fun h => ⟨congrArg (fun e => rcvC e x t) ((peer_iff c x.1 d).mpr h), rfl⟩⟩ rfl rfl
      · rw [if_neg ht]
        exact if_neg fun h => ht (congrArg Prod.snd (Sum.inr_injective (Sum.inr_injective (cellC_inj h.1).2))).symm
    · rw [if_neg hx]
      exact if_neg fun h => hx (congrArg Prod.fst (Sum.inr_injective (Sum.inr_injective (cellC_inj h.1).2))).symm
  unfold O₀
  rw [Pi.add_apply, Finsupp.add_apply, Pi.add_apply, Finsupp.add_apply, hb, hb, Nat.add_zero]
  unfold Orem
  rw [Finset.sum_apply, Finsupp.finset_sum_apply]
  simp only [Finset.sum_apply, Finsupp.finset_sum_apply, hr, Nat.zero_le, Finset.filter_true]
  rw [Finset.sum_eq_single l (fun x _ hx => by simp only [if_neg hx, Finset.sum_const_zero]) (fun h => absurd (Finset.mem_univ l) h)]
  simp only [if_true]
  rw [Finset.sum_ite_eq' Finset.univ s, if_pos (Finset.mem_univ s)]

theorem bar_credit : tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => bar_owed c d, Finset.sum_add_distrib,
    Finset.sum_ite_eq' Finset.univ (peer false c) fun _ => 1, Finset.sum_ite_eq' Finset.univ (peer true c) fun _ => 1,
    if_pos (Finset.mem_univ _), if_pos (Finset.mem_univ _)]

theorem rcv_credit (l : Lane) (s : Fin 15) :
    tallyOn (rcvC c l s) (launchCredit (Pipeline.owing O₀) 0 (rcvC c l s)) = (tallyAt (rcvC c l s) () N : CellTallies nD τ sig Unit) := by
  unfold tallyAt; refine congrArg _ (Finsupp.ext fun u => ?_); cases u
  rw [Pipeline.launchCredit_owing, Finsupp.single_eq_same, Finset.sum_congr rfl fun d _ => rcv_owed c l s d,
    Finset.sum_ite_eq' Finset.univ (peer (!l.1) c) fun _ => N, if_pos (Finset.mem_univ _)]

def waitEmb : Unit ⊕ (Lane × Fin 15) ↪ SemLoc sig :=
  ⟨fun i => csem (i.map id .inr), fun i j h => by
    have h := csem_inj h
    rcases i with _ | x <;> rcases j with _ | y
    · rfl
    · exact absurd h Sum.inl_ne_inr
    · exact absurd h Sum.inr_ne_inl
    · exact congrArg _ (Sum.inr_injective (Sum.inr_injective h))⟩

/-- A device may wait for its two barrier signals and for every chunk that comes. -/
theorem credit_deal : (Pipeline.launchCred O₀ c : sProp 𝕄) ⊢ iprop(cred (tallyAt (barC c) () 2)
    ∗ bigSep Finset.univ fun l : Lane => bigSep Finset.univ fun s : Fin 15 => cred (tallyAt (rcvC c l s) () N)) := by
  classical
  unfold Pipeline.launchCred
  refine (BI.bigSep_subset (Finset.subset_univ (Finset.univ.map waitEmb))).trans ?_
  rw [bigSep_map, BI.bigSep_univ_sum, BI.bigSep_univ_prod (fun x : Lane × Fin 15 => _)]
  refine Entails.of_eq (congrArg₂ (fun a b : sProp 𝕄 => iprop(a ∗ b)) ?_ ?_)
  · rw [show (Finset.univ : Finset Unit) = {()} from rfl, bigSep_singleton]
    exact congrArg cred (bar_credit c)
  · exact bigSep_congr fun l _ => bigSep_congr fun s _ => congrArg cred (rcv_credit c l s)

end Cert.KernelIdeal.RingRs

end
-- ==== Proof.Launch.lean ====
module

public import proofs.«01_k».proof.Proof.Deal
public import Idealize.ShloMosaic.Lib.Pipeline.RegionTalk

@[expose] public section

noncomputable section

namespace Cert.KernelIdeal.RingRs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The body -/
/-! ## The run -/

variable (m : (ℓ : Loc nD τ sig) → Buf (Elt F) ℓ) (ρ : Dev nD → PrngReg) (c : Dev nD)

/-- The buffers the program holds across the kernel: the windows' arrays. -/
abbrev arrs : Finset (DevRef τ sig) := Pipeline.arrRefs (τ := τ) spec0

theorem uc_eq : Pipeline.ucRefs τ sig = arrs := by decide

/-- The arrays at launch, before the kernel and after it. -/
def V₀ : Valuation τ sig (Elt F) := fun b => m (c, b)
def V₁ : Valuation τ sig (Elt F) := StableHlo.after hostOps0 (V₀ m c)
def V₂ : Valuation τ sig (Elt F) := Function.update (V₁ m c) (Proc.devRef .tc main_v1) (outF (ins m) c)

theorem V₂_out : V₂ m c (Proc.devRef .tc main_v1) = outF (ins m) c := Function.update_self ..
theorem V₂_ne (b : Ref sig .tc) (h : b ≠ main_v1) : V₂ m c (Proc.devRef .tc b) = V m c b :=
  Function.update_of_ne (StableHlo.devRef_ne_of_ne h) ..

/-! ### The result array -/

theorem emb_out (t : Fin cfg0.N) (j : S256x2048.Idx) : ((cfg0.win 6).blk t).view.emb j = j :=
  funext fun a => Fin.ext (by show 0 * _ + 1 * (j a).val = (j a).val; omega)

theorem flushed_out (t : Fin cfg0.N) : (dat m c).flushed 6 t = ((cfg0.win 6).blk t).view.read (Elt F) (outF (ins m) c) := by
  funext j
  show outF (ins m) c j = outF (ins m) c (((cfg0.win 6).blk t).view.emb j)
  rw [emb_out]

theorem final_out : (dat m c).arrAt 6 cfg0.N = outF (ins m) c :=
  (dat m c).arrAt_eq_of_cover 6 (outF (ins m) c) (fun t _ => flushed_out m c t) fun i =>
    ⟨t0_0, flush0_6 _, by
      have h := ((cfg0.win 6).blk t0_0).view.emb_mem_set i
      rwa [emb_out] at h⟩

theorem final_all : ∀ w : Fin 7, (dat m c).arrAt w cfg0.N = V₂ m c (Proc.devRef .tc (Pipeline.arrRef spec0 w))
  | 0 => ((dat m c).arrAt_in 0 rfl _).trans (V₂_ne m c main_arg0 (by decide)).symm
  | 1 => ((dat m c).arrAt_in 1 rfl _).trans (V₂_ne m c main_arg1 (by decide)).symm
  | 2 => ((dat m c).arrAt_in 2 rfl _).trans (V₂_ne m c main_arg2 (by decide)).symm
  | 3 => ((dat m c).arrAt_in 3 rfl _).trans (V₂_ne m c main_arg3 (by decide)).symm
  | 4 => ((dat m c).arrAt_in 4 rfl _).trans (V₂_ne m c main_c (by decide)).symm
  | 5 => ((dat m c).arrAt_in 5 rfl _).trans (V₂_ne m c main_c_0 (by decide)).symm
  | 6 => (final_out m c).trans (V₂_out m c).symm

/-! ### The kernel as a region -/

theorem level_cut : Pipeline.LevelCutOwed (pcfgs (F := F)) adm (pdats m) () L lv 0 fun _ => 0 where
  hι d w s := by rw [L_tc]; exact Finset.mem_singleton_self _
  hιb d w s := by
    show lvOf (kd (.dma ((spec0 w).sem s))) ≤ 0
    rw [kd_stage]; exact le_rfl
  hD d t g i h := by
    have h : 0 < (dat m d).owed t g i := h
    rw [owed_at] at h
    split at h
    · exact ⟨(O₀_pos h).2, (O₀_pos h).1⟩
    · exact absurd h (Nat.lt_irrefl 0)

theorem phi_at (t : Fin (cfg0.N + 1)) : (dat m c).Φ t = if t.val = 0 then Φin m c else Φout c := rfl
theorem phi_first : (dat m c).Φ 0 = Φin m c := (phi_at m c _).trans (if_pos rfl)
theorem phi_last : (dat m c).Φ (Fin.last cfg0.N) = Φout c := (phi_at m c _).trans <| if_neg (by rw [Fin.val_last, show cfg0.N = 1 from N_0]; decide)

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ ∅ (Finset.Subset.refl _) launch0.toP rfl (fun d => (body_ob m d).loose)
    (fun _ => 0) O₀ (fun d => (owed_zero m d).trans (zero_add _).symm) (fun d => owed_last m d) (fun _ => rfl)
    (fun d w => by unfold Pipeline.Dat.share; split <;> rfl)
    (V₁ m) (V₂ m) (fun _ b hb => absurd hb (by rw [Finset.sdiff_self]; exact Finset.notMem_empty b))
    (Tk m) (Yk (F := F)) (Xk m) (Yk (F := F)) (opening m)
    (fun d => (entering m d _).trans (Entails.of_eq (phi_first m d).symm))
    (fun d => (Entails.of_eq (phi_last m d)).trans (leaving d _))
    (fun d => by iintro H; imodintro; iexact H)
    (fun _ => 0) (level_cut m) (fun _ => iprop(emp)) (fun _ _ => rfl) (fun d w => final_all m d w)

/-- What rides past the host's operations. -/
def rides : sProp 𝕄 := iprop(Tk m c ∗ (∃ r, prngReg c r) ∗ ∃ W, owes (c : Thread nD τ) (O₀ c) W)

theorem ops_sub : ∀ op ∈ (hostOps0 : List (HloOp τ sig (Elt F))), op.bufs ⊆ arrs := fun op h => by
  rw [← uc_eq]
  exact Pipeline.sub_ucRefs op (List.forall_iff_forall_mem.mp hostOps0_sub op h)

def host : Pipeline.HostSeg (Name := ℕ) (U := UU) (pcfgs (F := F)) defs₀ 𝒱₀ L lv :=
  Pipeline.HostSeg.ofOps _ _ _ _ _ arrs hostOps0 ops_sub (List.forall_iff_forall_mem.mp hostOps0_fresh) (V₀ m) (rides m)

theorem region_pre : iprop(StableHlo.held (c : Thread nD τ) arrs (V₁ m c) ∗ rides m c) ⊢ (region m).pre c := by
  show _ ⊢ iprop(StableHlo.held (c.tc : Thread nD τ) arrs (V₁ m c) ∗ (∃ r, prngReg c r)
    ∗ (StableHlo.held (c.tc : Thread nD τ) ∅ (V₁ m c) ∗ emp) ∗ Tk m c ∗ ∃ Wd, owes (c : Thread nD τ) (0 + O₀ c) Wd)
  rw [zero_add]
  unfold rides
  iintro ⟨Hh, HT, Hp, HO⟩
  isplitl [Hh]; · iexact Hh
  isplitl [Hp]; · iexact Hp
  isplitr
  · unfold StableHlo.held; rw [BI.bigSep_empty]
    isplitr <;> iempintro
  isplitl [HT] <;> iassumption

theorem region_post : (region m).post c
    ⊢ iprop((StableHlo.held (c : Thread nD τ) arrs (V₂ m c) ∗ semVal (barC c) 0) ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) ∅ (V₂ m c) ∗ emp) ∗ Yk c ∗ ∃ Wd, owes (c : Thread nD τ) (0 : CellTallies nD τ sig Unit) Wd) ⊢ _
  unfold Yk
  iintro ⟨Hh, -, -, Hb, HO⟩
  isplitl [Hh Hb]
  · isplitl [Hh] <;> iassumption
  iexact HO

def segs : List (Pipeline.Seg (pcfgs (F := F)) adm (pdats m) () defs₀ 𝒱₀ L lv) := [.host (host m), .region (region m)]

theorem main_eq : main (F := F) c = Pipeline.Seg.run (segs m) :=
  main_segs adm (pdats m) () 𝒱₀ L lv (host m) (region m) rfl c

/-! ### The launch -/

theorem held_at (W : Valuation τ sig (Elt F)) :
    (unscopedBufs c (fun b => W b) : sProp 𝕄) = StableHlo.held (c : Thread nD τ) arrs W := by
  rw [← uc_eq]; exact Pipeline.unscopedBufs_held c W

theorem bar_only : ∀ sm : SemLoc sig, sm.isScoped .tc = false → sm = .reg bar := by
  rintro (s | s)
  · revert s; decide
  · revert s; decide

theorem sems_at : (unscopedSems0 c : sProp 𝕄) = semVal (barC c) 0 := by
  unfold unscopedSems0
  rw [show (Finset.univ.filter fun sm : SemLoc sig => ¬ sm.isScoped .tc) = {SemLoc.reg bar} from by
    ext sm
    rw [Finset.mem_filter, Finset.mem_singleton]
    refine ⟨fun h => bar_only sm (Bool.eq_false_of_not_eq_true h.2), fun h => ⟨Finset.mem_univ _, ?_⟩⟩
    subst h; decide, BI.bigSep_singleton]
  rfl

/-- The whole of the launch's ghost state, kept on one device until it is dealt. -/
def start : sProp 𝕄 := BI.own (ER (launchOf barCells ownCells toks))
def kept : sProp 𝕄 := if c = 0 then start (F := F) else iprop(emp)

theorem kept_all : bigSep Finset.univ (kept (F := F)) = start := by
  rw [bigSep_univ_at _ (0 : Dev nD), bigSep_congr (s := Finset.univ.erase (0 : Dev nD)) (Ψ := fun _ => (BI.emp : sProp 𝕄))
      fun c hc => by unfold kept; rw [if_neg (Finset.ne_of_mem_erase hc)]; rfl, BI.bigSep_emp_const]
  unfold kept; rw [if_pos rfl]
  exact BI.equiv_iff.mp sep_emp

def u₀ : UU :=
  (initOf (Pipeline.cells (Pipeline.pin (pcfgs (F := F)) adm) cellOf_inj) (Pipeline.launchToks (Pipeline.pin (pcfgs (F := F)) adm) cellOf_inj),
    launchOf barCells ownCells toks)

/-- A device's own part of the launch. -/
def own1 : sProp 𝕄 := iprop(atPos ER (barC c) 0 ∅ 0 ∗ (bigSep Finset.univ fun j : Oi => openTok ER (cellC c (.inr j))) ∗ pays (F := F) c)
def held1 : sProp 𝕄 :=
  iprop(StableHlo.held (c : Thread nD τ) arrs (V₀ m c)
    ∗ (cred (tallyAt (barC c) () 2) ∗ bigSep Finset.univ fun l : Lane => bigSep Finset.univ fun s : Fin 15 => cred (tallyAt (rcvC c l s) () N))
    ∗ owes (c : Thread nD τ) (O₀ c) ∅ ∗ ∃ r, prngReg c r)

/-- What every device may consult. -/
def known (K : Dev nD × Ci → ℕ) : sProp 𝕄 := iprop(recs (ins m) K ∗ bigSep Finset.univ fun d : Dev nD => reached ER (barC d) 0)
instance known_persistent (K : Dev nD × Ci → ℕ) : BI.Persistent (known m K) := by unfold known; infer_instance

def T₀ : sProp 𝕄 := iprop(StableHlo.held (c : Thread nD τ) arrs (V₀ m c) ∗ rides m c)
def Tₙ : sProp 𝕄 := iprop(StableHlo.held (c : Thread nD τ) arrs (V₂ m c) ∗ semVal (barC c) 0)

theorem start_at (K : Dev nD × Ci → ℕ) : iprop(known m K ∗ (own1 (F := F) c ∗ held1 m c)) ⊢ T₀ m c := by
  have hr (d : Dev nD) : (bigSep Finset.univ fun d : Dev nD => (reached ER (barC d) 0 : sProp 𝕄)) ⊢ reached ER (barC d) 0 :=
    bigSep_elim (Finset.mem_univ d)
  unfold known own1 held1 pays T₀ rides Tk Lin
  iintro ⟨⟨#HR, #Hb⟩, ⟨Ha, Ho, Hd, Ht⟩, Hh, ⟨Hc, Hcr⟩, HO, Hp⟩
  isplitl [Hh]; · iexact Hh
  isplitl [Ha Ho Hd Ht Hc Hcr]
  · isplitl [Ho]
    · iexists K
      isplitr; · iexact HR
      iexact Ho
    isplitl [Hcr]; · iexact Hcr
    isplitl [Ht]; · iexact Ht
    isplitl [Ha]; · iexact Ha
    isplitl [Hc]; · iexact Hc
    isplitl [Hd]; · iexact Hd
    isplitr
    · iapply (hr (peer false c)); iexact Hb
    · iapply (hr (peer true c)); iexact Hb
  isplitl [Hp]; · iexact Hp
  iexists ∅; iexact HO

theorem pull (Φ Ψ : Dev nD → sProp 𝕄) : (bigSep Finset.univ fun d => iprop(Φ d ∗ Ψ d)) ⊢ iprop(bigSep Finset.univ Φ ∗ bigSep Finset.univ Ψ) :=
  Entails.of_eq (bigSep_sep' _ _ _)
theorem push (Φ Ψ : Dev nD → sProp 𝕄) : iprop(bigSep Finset.univ Φ ∗ bigSep Finset.univ Ψ) ⊢ (bigSep Finset.univ fun d => iprop(Φ d ∗ Ψ d)) :=
  Entails.of_eq (bigSep_sep' _ _ _).symm

theorem dealt (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ kept (F := F) c)
    ⊢ (iprop(held1 m c ∗ (semVal (barC c) 0 ∗ kept (F := F) c)) : sProp 𝕄) := by
  rw [show unscopedBufs c (fun b => m ((c : Thread nD τ).loc b)) = StableHlo.held (c : Thread nD τ) arrs (V₀ m c) from held_at c (V₀ m c), sems_at]
  unfold held1
  iintro ⟨Hh, Hs, HO, Hcr, Hp, HG⟩
  isplitl [Hh HO Hcr Hp]
  · isplitl [Hh]; · iexact Hh
    isplitl [Hcr]; · iapply (credit_deal (F := F) c); iexact Hcr
    isplitl [HO]; · iexact HO
    iexists (ρ c); iexact Hp
  isplitl [Hs] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ kept (F := F) c)) ∗ levAts L lv)
      ⊢ (|={Set.univ}=> bigSep Finset.univ (T₀ m) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barC c) 0 : sProp 𝕄)) :=
    Entails.of_eq (bigSep_map (s := Finset.univ) barEmb (Φ := fun g : GSem nD τ sig => (reached ER g 0 : sProp 𝕄)))
  have hop : bigSep ownCells (fun g => (openTok ER g : sProp 𝕄))
      ⊢ bigSep Finset.univ (fun c : Dev nD => bigSep Finset.univ fun j : Oi => (openTok ER (cellC c (.inr j)) : sProp 𝕄)) :=
    Entails.of_eq ((bigSep_map (s := Finset.univ) ownEmb (Φ := fun g : GSem nD τ sig => (openTok ER g : sProp 𝕄))).trans (BI.bigSep_univ_prod _))
  have hrec (κ : GSem nD τ sig → ℕ) : (bigSep (barCells ∪ ownCells) fun g => (cellInv ER (rd (ins m)) (κ g) g : sProp 𝕄))
      ⊢ recs (ins m) fun x => κ (cellC x.1 x.2) := by
    unfold recs
    rw [cells_all]
    exact Entails.of_eq (bigSep_map (s := Finset.univ) allEmb (Φ := fun g : GSem nD τ sig => (cellInv ER (rd (ins m)) (κ g) g : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ kept (F := F) c))
      ⊢ (bigSep Finset.univ fun c : Dev nD => iprop(held1 m c ∗ (semVal (barC c) 0 ∗ kept (F := F) c)) : sProp 𝕄) from bigSep_mono fun c _ => dealt m ρ c) $$ H
  ihave H2 := (pull (F := F) _ _) $$ H'; icases H2 with ⟨HB, H3⟩
  ihave H4 := (pull (F := F) _ _) $$ H3; icases H4 with ⟨Hv, HG⟩
  ihave Hu := (show bigSep Finset.univ (kept (F := F)) ⊢ BI.own (ER (launchOf barCells ownCells toks)) from Entails.of_eq (kept_all (F := F))) $$ HG
  imod (Rounds.fund_launch ER (rd (ins m)) cells_apart (fun g _ h => h) toks) $$ [Hv Hu] with ⟨%κ, -, #Hinv, #Hr, Hat, Hopen, Htok⟩
  · isplitl [Hv]
    · iapply hv $$ Hv
    · iexact Hu
  imodintro
  iapply (bigSep_with_persistent (R := known m fun x => κ (cellC x.1 x.2)) (Φ := fun c => iprop(own1 (F := F) c ∗ held1 m c)) fun c _ => start_at m c _)
  isplitr
  · unfold known
    isplitr; · iapply (hrec κ); iexact Hinv
    iapply hre; iexact Hr
  iapply (push (F := F) _ _)
  isplitr [HB]
  · unfold own1
    iapply (push (F := F) _ _); isplitl [Hat]; · iapply hat $$ Hat
    iapply (push (F := F) _ _); isplitl [Hopen]; · iapply hop $$ Hopen
    iapply (toks_deal (F := F)) $$ Htok
  · iexact HB

theorem arrs_list (W : Valuation τ sig (Elt F)) : (StableHlo.held (c : Thread nD τ) arrs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_c) ↦{fullShare} W (Proc.devRef .tc main_c)) ∗ (((c : Thread nD τ).loc main_c_0) ↦{fullShare} W (Proc.devRef .tc main_c_0))
      ∗ (((c : Thread nD τ).loc main_v1) ↦{fullShare} W (Proc.devRef .tc main_v1))) := by
  unfold StableHlo.held
  rw [bigSep_eq_bigSepL_of_eq [Proc.devRef .tc main_arg0, Proc.devRef .tc main_arg1, Proc.devRef .tc main_arg2, Proc.devRef .tc main_arg3,
    Proc.devRef .tc main_c, Proc.devRef .tc main_c_0, Proc.devRef .tc main_v1] (by decide) (by decide)]
  rfl

set_option backward.isDefEq.respectTransparency.types false in
/-- Every fair execution ends, each device's result its own chunk of the ring's sums, every argument as given and every counter at zero. -/
theorem run_main : θ_run defs (onTc (τ := τ) (main (F := F))) ⟨m, fun _ => 0, ρ⟩
    (fun r => (∀ c : Dev nD, r.2.mem ((c : Thread nD τ).loc main_v1) = outF (ins m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := fun g h => if_neg h) (G := kept (F := F)) (u₀ := u₀)
    (hu₀ := by
      unfold u₀
      iintro Hu
      ihave H := (ownU_pair _ _) $$ Hu
      icases H with ⟨HP, HX⟩
      imodintro
      isplitl [HP]; · iexact HP
      rw [kept_all]; unfold start; iexact HX)
    (T₀ := T₀ m) (Tₙ := Tₙ m)
    (hch := ⟨fun c => .rfl, fun c => region_pre m c, fun c => region_post m c⟩)
    (hinit := init m ρ)
    (QY := fun c s => (s.mem ((c : Thread nD τ).loc main_v1) = outF (ins m) c
        ∧ s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3)) ∧ s.sem (barC c) = 0)
    (hfin := fun c s' => by
      unfold Tₙ; rw [arrs_list]
      iintro ⟨⟨⟨H0, H1, H2, H3, -, -, H6⟩, Hb⟩, HSI⟩
      icombine HSI H0 gives %h0
      icombine HSI H1 gives %h1
      icombine HSI H2 gives %h2
      icombine HSI H3 gives %h3
      icombine HSI H6 gives %h6
      icombine HSI Hb gives %hb
      imodintro
      isplitr
      · ipureintro
        exact ⟨⟨(Buf.eq_of_forall_mem_univ h6).trans (V₂_out m c),
          (Buf.eq_of_forall_mem_univ h0).trans ((V₂_ne m c main_arg0 (by decide)).trans (V_main_arg0 m c)),
          (Buf.eq_of_forall_mem_univ h1).trans ((V₂_ne m c main_arg1 (by decide)).trans (V_main_arg1 m c)),
          (Buf.eq_of_forall_mem_univ h2).trans ((V₂_ne m c main_arg2 (by decide)).trans (V_main_arg2 m c)),
          (Buf.eq_of_forall_mem_univ h3).trans ((V₂_ne m c main_arg3 (by decide)).trans (V_main_arg3 m c))⟩, by simpa using hb⟩
      iexact HSI)
    (hQ := fun s h hs => ⟨fun c => (h c).1, sem_eq_zero hs fun c sm hsm => by
        obtain rfl := bar_only sm hsm
        exact (h c).2⟩)

end Cert.KernelIdeal.RingRs

end
-- ==== Proof.Parts.lean ====
module

public import proofs.«01_k».proof.Proof.Close
public import Idealize.ShloMosaic.Lib.ValueIdx
public import Idealize.ShloMosaic.Lib.MatmulPlain
public import Idealize.ShloMosaic.Lib.Pipeline.Value

@[expose] public section

noncomputable section

namespace Cert.KernelIdeal.RingRs

open Idealize.ShloMosaic Idealize.ShloMosaic.ValueIdx Cert.KernelIdeal.Gen
open scoped BigOperators

/-! ## The ring's sum over the extended reals

A chunk starts as one device's part of it and gains one part at each device it passes; a change of format is the
identity here, so at its owner it is the sum of all sixteen parts. -/

variable (I : Ins Ideal)

/-- What a device holds, read at a place. -/
def xAt (e : Dev nD) (r : Fin 4096) (k : Fin 256) : EReal := I.x e (ix2 r k)
def wAt (e : Dev nD) (k : Fin 256) (j : Fin 2048) : EReal := I.w e (ix2 k j)
/-- The only place of a one-word window. -/
def one1 : S1.Idx := fun a => match a with | ⟨0, _⟩ => (⟨0, Nat.one_pos⟩ : Fin 1)
/-- The two scales of a device, multiplied. -/
def sAt (e : Dev nD) : EReal := (show EReal from I.sx e one1) * (show EReal from I.sw e one1)

/-- Row `r` of the chunk of device `d`. -/
def rowOf (d : Dev nD) (r : Fin 256) : Fin 4096 :=
  ⟨d.val * 256 + r.val, by have : d.val < 16 := d.isLt; have := r.isLt; omega⟩

/-- Device `e`'s part of the chunk of device `d`: at row `r` of the chunk and column `j` of the whole. -/
def shareAt (d e : Dev nD) (r : Fin 256) (j : Fin 2048) : EReal :=
  ∑ k : Fin 256, xAt I e (rowOf d r) k * wAt I e k j

/-- The column of the whole that a lane's column is. -/
def colOf (l : Lane) (q : Fin 256) : Fin 2048 :=
  ⟨half l.1 + l.2.val * 256 + q.val, by
    obtain ⟨b, k⟩ := l; have := k.isLt; have := q.isLt; cases b <;> simp only [half] <;> omega⟩

theorem dotv_at (x : Vec Ideal S256x256 .fp8e5m2) (w : Vec Ideal S256x1024 .fp8e5m2) (r : Fin 256) (q : Fin 1024) :
    dotv x w (ix2 r q) = ∑ k : Fin 256, x (ix2 r k) * w (ix2 k q) := by
  unfold dotv
  rw [shapeCast_self, shapeCast_self]
  refine (Ideal.matmul_plain_apply (φ₁ := .fp8e5m2) (φ₂ := .fp8e5m2) none x w (constant S256x1024 .f32 0x00000000#32) r q).trans ?_
  rw [constant_apply, Ideal.ofBits_zero_f32, zero_add]

theorem row_off : ∀ d : Fin 16, k0_off5 (wd d) = ![d.val * 256, 0] := by decide

theorem part_at (l : Lane) (t : Nat) (c : Dev nD) (r q : Fin 256) :
    colv l.2 (part I l.1 t c) (ix2 r q) = shareAt I (onD t c) c r (colOf l q) := by
  have e : colv l.2 (part I l.1 t c) (ix2 r q)
      = part I l.1 t c (ix2 r ⟨l.2.val * 256 + q.val, by have := l.2.isLt; have := q.isLt; omega⟩) := by
    unfold colv extractStridedSlice
    refine congrArg (part I l.1 t c) (funext fun a => Fin.ext ?_)
    match a with
    | ⟨0, _⟩ => exact Nat.zero_add _
    | ⟨1, _⟩ => rfl
  rw [e, part, dotv_at]
  unfold shareAt
  refine Finset.sum_congr rfl fun k _ => congrArg₂ (· * ·) ?_ ?_
  · refine congrArg (I.x c) (funext fun a => Fin.ext ?_)
    have ho := congrFun (row_off (onD t c)) a
    show k0_off5 (wd (onD t c)) a + 1 * (ix2 (n0 := 256) r k a).val = _
    rw [ho]
    match a with
    | ⟨0, _⟩ => show (onD t c).val * 256 + 1 * r.val = (onD t c).val * 256 + r.val; omega
    | ⟨1, _⟩ => show 0 + 1 * k.val = k.val; omega
  · refine congrArg (I.w c) (funext fun a => Fin.ext ?_)
    match a with
    | ⟨0, _⟩ => show 0 + 1 * k.val = k.val; omega
    | ⟨1, _⟩ =>
      show half l.1 + 1 * (l.2.val * 256 + q.val) = half l.1 + l.2.val * 256 + q.val
      omega

/-! ### The chain of sends -/

/-- The device a chunk was on `u` hops ago. -/
def ago (b : Bool) (u : Nat) (c : Dev nD) : Dev nD := (peer (!b))^[u] c

theorem toff_back : ∀ (b : Bool) (s : Fin 14) (c : Dev nD), onD (toff b s.val) (peer (!b) c) = onD (toff b (s.val + 1)) c := by decide
theorem toff_last : ∀ (b : Bool) (c : Dev nD), onD (toff b 14) (peer (!b) c) = c := by decide
theorem onD_zero : ∀ c : Dev nD, onD 0 c = c := by decide

theorem slotv_cast (v : FVec Ideal S256x256 .bf16) :
    shapeCast S256x256 (slotv v) Facts₀.shapeCasts_S1x1x256x256_S256x256 = v := shapeCast_shapeCast v _ _

theorem sumv_at (k : Fin 4) (v : FVec Ideal S256x256 .bf16) (p : FVec Ideal S256x1024 .f32) (i : S256x256.Idx) :
    sumv k (slotv v) p i = v i + colv k p i := by
  unfold sumv
  rw [slotv_cast]; rfl

/-- What a device sends at hop `s`: the parts of the chunk's owner by the `s + 1` devices it has been on. -/
theorem sentV_at (l : Lane) (r q : Fin 256) : ∀ (s : Nat), s < 15 → ∀ c : Dev nD,
    sentV I l s c (ix2 r q) = ∑ u ∈ Finset.range (s + 1), shareAt I (onD (toff l.1 s) c) (ago l.1 u c) r (colOf l q)
  | 0, _, c => by
    rw [Finset.sum_range_one]
    exact part_at I l (toff l.1 0) c r q
  | s + 1, hs, c => by
    have ih := sentV_at l r q s (by omega) (peer (!l.1) c)
    rw [Finset.sum_range_succ']
    show sumv l.2 (slotv (sentV I l s (peer (!l.1) c))) (part I l.1 (toff l.1 (s + 1)) c) (ix2 r q) = _
    rw [sumv_at, ih, part_at, toff_back l.1 ⟨s, by omega⟩ c]
    rfl

/-- The sixteen devices a chunk passes, by how long ago. -/
theorem ago_inj : ∀ (b : Bool) (c : Dev nD), Function.Injective (fun u : Fin 16 => ago b u.val c) := by decide +kernel

theorem ago_sum (b : Bool) (c : Dev nD) (f : Dev nD → EReal) : ∑ u ∈ Finset.range 16, f (ago b u c) = ∑ e : Dev nD, f e := by
  rw [Finset.sum_range]
  exact Function.Bijective.sum_comp (Finite.injective_iff_bijective.1 (ago_inj b c)) f

/-- At its owner a chunk is the sum of all devices' parts. -/
theorem last_at (l : Lane) (c : Dev nD) (r q : Fin 256) :
    sumv l.2 (slotv (sentV I l 14 (peer (!l.1) c))) (part I l.1 0 c) (ix2 r q) = ∑ e : Dev nD, shareAt I c e r (colOf l q) := by
  rw [sumv_at, sentV_at I l r q 14 (by omega), part_at, toff_last, onD_zero, ← ago_sum l.1 c, Finset.sum_range_succ' _ 15]
  rfl

/-! ### The result -/

/-- `y · 1/(1 + e⁻ʸ)`. -/
def silu (y : EReal) : EReal := y * Ideal.logistic y

theorem outF_at (c : Dev nD) (r : Fin 256) (j : Fin 2048) :
    outF I c (ix2 (n0 := 256) r j) = silu ((∑ e : Dev nD, shareAt I c e r j) * sAt I c) := by
  have hj : colOf (laneOf (ix2 (n0 := 256) r j)) ⟨j.val % 256, Nat.mod_lt _ (by decide)⟩ = j := by
    apply Fin.ext
    show half (decide (j.val < 1024)) + j.val % 1024 / 256 * 256 + j.val % 256 = j.val
    have := j.isLt
    by_cases h2 : j.val < 1024
    · rw [decide_eq_true h2]; simp only [half]; omega
    · rw [decide_eq_false h2]; simp only [half]; omega
  have ht : inTile (ix2 (n0 := 256) r j) = ix2 r ⟨j.val % 256, Nat.mod_lt _ (by decide)⟩ := by
    funext a; match a with
    | ⟨0, _⟩ => rfl
    | ⟨1, _⟩ => rfl
  have hs : scl I c = sAt I c := by
    refine congrArg₂ (fun a b : EReal => a * b) (congrArg (I.sx c) ?_) (congrArg (I.sw c) ?_) <;>
      exact funext fun a => by match a with | ⟨0, _⟩ => rfl
  show tileV I c _ _ = _
  rw [ht]
  refine (congrArg silu (congrArg₂ (fun a b : EReal => a * b) (last_at I (laneOf (ix2 (n0 := 256) r j)) c r _) hs)).trans ?_
  rw [hj]

end Cert.KernelIdeal.RingRs

end
-- ==== Proof.Ref.lean ====
module

public import proofs.«01_k».proof.Proof.Gen.ReferenceIdeal.Frame
public import Idealize.ShloMosaic.Lib.Pipeline.Value

@[expose] public section

set_option maxRecDepth 16384

noncomputable section

namespace Cert.ReferenceIdeal.Plain

open Idealize.ShloMosaic Idealize.ShloMosaic.TcCoe Idealize.SL.Sem
open Idealize.ShloMosaic.Pipeline (Dat)
open Cert.ReferenceIdeal.Gen

variable {F : FTy → Type} [FloatOps F]

/-! ## What the reference leaves in its result

The reference is one call without a grid: every window is its whole array, and the one store fills the result. -/

/-- The only place of a one-word array. -/
def only : S1.Idx := fun a => match a with | ⟨0, _⟩ => (⟨0, Nat.one_pos⟩ : Fin 1)

/-- The reference's result of its four arguments. -/
def refF (x : Vec F S4096x4096 .fp8e5m2) (w : Vec F S4096x2048 .fp8e5m2) (sx sw : Vec F S1 .f32) : FVec F S4096x2048 .f32 :=
  k0_pay1 x w (sx only) (sw only)

theorem origin : (![0, 0] : Fin 2 → Nat) = fun _ => 0 := funext fun a => by fin_cases a <;> rfl

theorem stored (c : Dev nD) (arg0 : Memref sig .tc .vmem S4096x4096 .fp8e5m2) (h0 : arg0.IsWhole)
    (arg1 : Memref sig .tc .vmem S4096x2048 .fp8e5m2) (h1 : arg1.IsWhole) (arg2 : Memref sig .tc .smem S1 .f32) (h2 : arg2.IsWhole)
    (arg3 : Memref sig .tc .smem S1 .f32) (h3 : arg3.IsWhole) (arg4 : Memref sig .tc .vmem S4096x2048 .f32) (h4 : arg4.IsWhole)
    (x0 : Vec F S4096x4096 .fp8e5m2) (x1 : Vec F S4096x2048 .fp8e5m2) (x2 x3 : Vec F S1 .f32) :
    out0_A_4 c arg0 h0 arg1 h1 arg2 h2 arg3 h3 arg4 h4 x0 x1 x2 x3 = refF x0 x1 x2 x3 := by
  unfold out0_A_4
  rw [View.read_writes_junk_eq_canon]
  show View.canon ([⟨Rect.unit ![0, 0] S4096x2048.size Facts₀.inb_S4096x2048_S4096x2048_0_0,
      k0_pay1
        (View.readAt (Elt F) arg0.view (Rect.unit ![0, 0] S4096x4096.size Facts₀.inb_S4096x4096_S4096x4096_0_0).toLoadRect (h0.unread x0))
        (View.readAt (Elt F) arg1.view (Rect.unit ![0, 0] S4096x2048.size Facts₀.inb_S4096x2048_S4096x2048_0_0).toLoadRect (h1.unread x1))
        (View.readAt (Elt F) arg2.view (Rect.unit (s := S1) ![0] S1.size Facts₀.inb_S1_S1_0).toLoadRect (h2.unread x2) _)
        (View.readAt (Elt F) arg3.view (Rect.unit (s := S1) ![0] S1.size Facts₀.inb_S1_S1_0).toLoadRect (h3.unread x3) _)⟩] :
      List (View.Piece (Elt F) S4096x2048 .f32)) = _
  rw [View.canon_unit_zero origin]
  rw [View.readAt_eq_ld, View.readAt_eq_ld, View.readAt_eq_ld, View.readAt_eq_ld, h0.read_unread, h1.read_unread, h2.read_unread,
    h3.read_unread, View.ld_unit_zero origin, View.ld_unit_zero origin]
  refine congrArg₂ (k0_pay1 x0 x1) (congrArg x2 ?_) (congrArg x3 ?_) <;>
    exact funext fun a => by match a with | ⟨0, _⟩ => rfl

variable (m : (ℓ : Loc nD τ sig) → Buf (Elt F) ℓ) (ρ : Dev nD → PrngReg)

/-! ### Each window is its whole array -/

theorem at_zero0 : ∀ t : Fin cfg0.N, ∀ a : Fin 2, win0_0.index t a = 0 := (by decide +kernel : ∀ t : Fin grid0.N, _)
theorem at_zero1 : ∀ t : Fin cfg0.N, ∀ a : Fin 2, win0_1.index t a = 0 := (by decide +kernel : ∀ t : Fin grid0.N, _)
theorem at_zero2 : ∀ t : Fin cfg0.N, ∀ a : Fin 1, win0_2.index t a = 0 := (by decide +kernel : ∀ t : Fin grid0.N, _)
theorem at_zero3 : ∀ t : Fin cfg0.N, ∀ a : Fin 1, win0_3.index t a = 0 := (by decide +kernel : ∀ t : Fin grid0.N, _)
theorem at_zero4 : ∀ t : Fin cfg0.N, ∀ a : Fin 2, win0_4.index t a = 0 := (by decide +kernel : ∀ t : Fin grid0.N, _)

theorem place0 (t : Fin cfg0.N) (j : S4096x4096.Idx) : ((cfg0.win 0).blk t).view.emb j = j := by
  funext a; apply Fin.ext
  show win0_0.index t a * S4096x4096.size a + 1 * (j a).val = (j a).val
  rw [at_zero0 t a]; omega
theorem place1 (t : Fin cfg0.N) (j : S4096x2048.Idx) : ((cfg0.win 1).blk t).view.emb j = j := by
  funext a; apply Fin.ext
  show win0_1.index t a * S4096x2048.size a + 1 * (j a).val = (j a).val
  rw [at_zero1 t a]; omega
theorem place2 (t : Fin cfg0.N) (j : S1.Idx) : ((cfg0.win 2).blk t).view.emb j = j := by
  funext a; apply Fin.ext
  show win0_2.index t a * S1.size a + 1 * (j a).val = (j a).val
  rw [at_zero2 t a]; omega
theorem place3 (t : Fin cfg0.N) (j : S1.Idx) : ((cfg0.win 3).blk t).view.emb j = j := by
  funext a; apply Fin.ext
  show win0_3.index t a * S1.size a + 1 * (j a).val = (j a).val
  rw [at_zero3 t a]; omega
theorem place4 (t : Fin cfg0.N) (j : S4096x2048.Idx) : ((cfg0.win 4).blk t).view.emb j = j := by
  funext a; apply Fin.ext
  show win0_4.index t a * S4096x2048.size a + 1 * (j a).val = (j a).val
  rw [at_zero4 t a]; omega

theorem held0 (c : Dev nD) (t : Fin cfg0.N) : iblk m c 0 t = V m c main_arg0 := by
  funext j; show V m c main_arg0 (((cfg0.win 0).blk t).view.emb j) = V m c main_arg0 j; rw [place0]
theorem held1 (c : Dev nD) (t : Fin cfg0.N) : iblk m c 1 t = V m c main_arg1 := by
  funext j; show V m c main_arg1 (((cfg0.win 1).blk t).view.emb j) = V m c main_arg1 j; rw [place1]
theorem held2 (c : Dev nD) (t : Fin cfg0.N) : iblk m c 2 t = V m c main_arg2 := by
  funext j; show V m c main_arg2 (((cfg0.win 2).blk t).view.emb j) = V m c main_arg2 j; rw [place2]
theorem held3 (c : Dev nD) (t : Fin cfg0.N) : iblk m c 3 t = V m c main_arg3 := by
  funext j; show V m c main_arg3 (((cfg0.win 3).blk t).view.emb j) = V m c main_arg3 j; rw [place3]

/-- The result of device `c`'s arguments. -/
abbrev refOf (c : Dev nD) : FVec F S4096x2048 .f32 :=
  refF (m ((c : Thread nD τ).loc main_arg0)) (m ((c : Thread nD τ).loc main_arg1)) (m ((c : Thread nD τ).loc main_arg2))
    (m ((c : Thread nD τ).loc main_arg3))

theorem wrote (c : Dev nD) (t : Fin cfg0.N) :
    (dats m 0 c).flushed 4 t = ((cfg0.win 4).blk t).view.read (Elt F) (refOf m c) := by
  show (cfg0.win 4).cut (grid0.coords t) ((dats m 0 c).after 4 t) = _
  rw [after0_4, outsAt0, stored, held0, held1, held2, held3]
  funext j
  show refOf m c j = refOf m c (((cfg0.win 4).blk t).view.emb j)
  rw [place4]

theorem everywhere (i : S4096x2048.Idx) :
    ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [place4] at h⟩

/-- The run of the reference: its result array ends with `refF` of its arguments, which it leaves as they were. -/
theorem run : θ_run defs (onTc (τ := τ) (main (F := F))) ⟨m, fun _ => 0, ρ⟩ (fun r => ∀ c : Dev nD,
      r.2.mem ((c : Thread nD τ).loc main_v0) = refOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono
    (fun _ h c => ⟨(h.1 c).1 4 |>.trans ((dats m 0 c).arrAt_eq_of_cover 4 (refOf m c) (fun t _ => wrote m c t) everywhere), h.2 c⟩)
    (θ_run_and (run_main m ρ) (unchanged m ρ))

end Cert.ReferenceIdeal.Plain

end
-- ==== Proof.Value.lean ====
module

public import proofs.«01_k».proof.Proof.Launch
public import proofs.«01_k».proof.Proof.Parts
public import proofs.«01_k».proof.Proof.Ref
public import Idealize.ShloMosaic.Lib.Layout
public import Idealize.ShloMosaic.Lib.IdealHost

@[expose] public section

set_option maxRecDepth 16384

noncomputable section

namespace Cert.Both

open Idealize.ShloMosaic Idealize.ShloMosaic.ValueIdx
open Cert.KernelIdeal.RingRs Cert.ReferenceIdeal.Plain
open scoped BigOperators

/-! ## The reference at a place, and the two results compared -/

section Reference

open Cert.ReferenceIdeal

variable (x : Vec Ideal S4096x4096 .fp8e5m2) (w : Vec Ideal S4096x2048 .fp8e5m2) (sx sw : Vec Ideal S1 .f32)

/-- The whole product at a place, and the scales multiplied. -/
def dotAt (r : Fin 4096) (j : Fin 2048) : EReal :=
  ∑ k : Fin 4096, (show EReal from x (ix2 r k)) * (show EReal from w (ix2 k j))
def scaleAt : EReal := (show EReal from sx only) * (show EReal from sw only)

theorem matmul_whole (r : Fin 4096) (j : Fin 2048) :
    (matmul (φ₁ := .fp8e5m2) (φ₂ := .fp8e5m2) dot_S4096x4096_S4096x2048_S4096x2048_1_0_0_1_n_n none x w (constant S4096x2048 .f32 0x00000000#32) :
      FVec Ideal S4096x2048 .f32) (ix2 r j) = dotAt x w r j := by
  refine (Ideal.matmul_plain_apply (φ₁ := .fp8e5m2) (φ₂ := .fp8e5m2) none x w (constant S4096x2048 .f32 0x00000000#32) r j).trans ?_
  rw [constant_apply, Ideal.ofBits_zero_f32, zero_add]
  rfl

/-- Dividing by `1 + e⁻ʸ`, which is not zero, is multiplying by its reciprocal. -/
theorem div_silu (y : EReal) : Ideal.div y (1 + Ideal.exp (0 - y)) = silu y := by
  have hp : ∀ z : EReal, 0 ≤ Ideal.exp z := fun z => by
    induction z using EReal.rec with
    | bot => exact le_refl _
    | coe r => rw [Ideal.exp_coe]; exact EReal.coe_nonneg.2 (Real.exp_pos r).le
    | top => exact le_top
  have h0 : (1 + Ideal.exp (-y) : EReal) ≠ 0 :=
    ((zero_lt_one : (0 : EReal) < 1).trans_le (le_add_of_nonneg_right (hp _))).ne'
  rw [zero_sub, silu, Ideal.logistic, Ideal.div, if_neg h0, Ideal.div, if_neg h0, one_mul]

theorem refF_at (r : Fin 4096) (j : Fin 2048) : refF x w sx sw (ix2 r j) = silu (dotAt x w r j * scaleAt sx sw) := by
  refine Eq.trans ?_ (div_silu _)
  show Ideal.div (_ * scaleAt sx sw) (Ideal.ofBits .f32 0x3F800000#32 + Ideal.exp (Ideal.ofBits .f32 0x00000000#32 - _ * scaleAt sx sw)) = _
  rw [Ideal.ofBits_one_f32, Ideal.ofBits_zero_f32, matmul_whole]

end Reference

/-- A sum over 4096 places as a sum over the sixteen blocks of 256. -/
theorem sum_blocks (f : Fin 4096 → EReal) :
    ∑ k : Fin 4096, f k = ∑ e : Fin 16, ∑ k : Fin 256, f ⟨e.val * 256 + k.val, by have := e.isLt; have := k.isLt; omega⟩ := by
  rw [← (finProdFinEquiv (m := 16) (n := 256)).sum_comp f, Fintype.sum_prod_type]
  refine Finset.sum_congr rfl fun e _ => Finset.sum_congr rfl fun k _ => congrArg f (Fin.ext ?_)
  show k.val + 256 * e.val = e.val * 256 + k.val
  omega

section Blocks

variable (I : Ins Ideal) (x : Vec Ideal Cert.ReferenceIdeal.S4096x4096 .fp8e5m2) (w : Vec Ideal Cert.ReferenceIdeal.S4096x2048 .fp8e5m2)
  (sx sw : Vec Ideal Cert.ReferenceIdeal.S1 .f32)

/-- The devices hold the blocks of the whole arrays and the same scales. -/
structure Holds : Prop where
  x : ∀ c, I.x c = Layout.block ⟨2, ![4096, 256]⟩ ⟨2, ![4096, 4096]⟩ 1 16 c x
  w : ∀ c, I.w c = Layout.block ⟨2, ![256, 2048]⟩ ⟨2, ![4096, 2048]⟩ 0 16 c w
  sx : ∀ c, I.sx c = sx
  sw : ∀ c, I.sw c = sw

variable {I x w sx sw}

theorem parts_whole (h : Holds I x w sx sw) (c : Dev Cert.KernelIdeal.nD) (r : Fin 256) (j : Fin 2048) :
    ∑ e, shareAt I c e r j = dotAt x w (rowOf c r) j := by
  unfold dotAt
  rw [sum_blocks]
  refine Finset.sum_congr rfl fun e _ => Finset.sum_congr rfl fun k _ => congrArg₂ (fun a b : EReal => a * b) ?_ ?_
  · unfold xAt
    rw [h.x e]
    refine congrArg x (funext fun a => Fin.ext ?_)
    match a with
    | ⟨0, _⟩ => rfl
    | ⟨1, _⟩ => rfl
  · unfold wAt
    rw [h.w e]
    refine congrArg w (funext fun a => Fin.ext ?_)
    match a with
    | ⟨0, _⟩ => rfl
    | ⟨1, _⟩ => rfl

/-- What a device leaves in its result is its block of the reference's. -/
theorem out_block (h : Holds I x w sx sw) (c : Dev Cert.KernelIdeal.nD) :
    outF I c = Layout.block ⟨2, ![256, 2048]⟩ ⟨2, ![4096, 2048]⟩ 0 16 c (refF x w sx sw) := by
  funext i
  obtain ⟨r, j, rfl⟩ : ∃ (r : Fin 256) (j : Fin 2048), i = ix2 r j := ⟨i 0, i 1, eq_ix2 i⟩
  refine (outF_at I c r j).trans ?_
  rw [parts_whole h]
  have hs : sAt I c = scaleAt sx sw := by unfold sAt; rw [h.sx, h.sw]; rfl
  rw [hs, ← refF_at]
  refine congrArg (refF x w sx sw) (funext fun a => Fin.ext ?_)
  match a with
  | ⟨0, _⟩ => rfl
  | ⟨1, _⟩ => rfl

end Blocks

end Cert.Both

end
-- ==== Proof.Real.BodyEq.lean ====
module

public import proofs.«01_k».proof.Proof.Real.Body

@[expose] public section

noncomputable section

namespace Cert.Kernel.RingRs

open Idealize.ShloMosaic Idealize.SL.Sem Cert.Kernel.Gen

variable {F : FTy → Type} [FloatOps F]

set_option maxRecDepth 100000 in
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 = body := by
  chain_rfl

end Cert.Kernel.RingRs
-- ==== Proof.lean ====
module

public import proofs.«01_k».proof.Defs
public import proofs.«01_k».proof.Proof.Value
public import proofs.«01_k».proof.Proof.Real.Launch

@[expose] public section

noncomputable section

-- The claims about Kernel, KernelIdeal, ReferenceIdeal also say that every semaphore counter ends at zero.

namespace Cert.Proof

open Idealize.ShloMosaic Idealize.SL.Sem

/-- The kernel's frame: its arguments end as they began and its counters at zero. -/
theorem kernel_frame : Cert.quiescent_Kernel := fun m g _ =>
  (θ_run _ _ _).mono (fun _ h => ⟨fun c => (h.1 c).2, h.2⟩) (Cert.Kernel.RingRs.run_main m g)

theorem ideal_frame : Cert.quiescent_KernelIdeal := fun m g _ =>
  (θ_run _ _ _).mono (fun _ h => ⟨fun c => (h.1 c).2, h.2⟩) (Cert.KernelIdeal.RingRs.run_main m g)

/-- The value claim: every device's result is its block of the reference's. -/
theorem value : Cert.algebraic_KernelIdeal_ReferenceIdeal := fun m g m' g' _ hin =>
  have hold := Cert.Both.Holds.mk (I := Cert.KernelIdeal.RingRs.ins m) (fun c => (hin c).1) (fun c => (hin c).2.1)
    (fun c => (hin c).2.2.1) (fun c => (hin c).2.2.2)
  ⟨_, (θ_run _ _ _).mono (fun _ h c => ⟨(h.1 c).1.trans (Cert.Both.out_block hold c), (h.1 c).2⟩) (Cert.KernelIdeal.RingRs.run_main m g),
    (θ_run _ _ _).mono (fun _ h => h 0) (Cert.ReferenceIdeal.Plain.run m' g')⟩

theorem claim : Cert.Claim := ⟨Cert.Kernel.Gen.facts, Cert.KernelIdeal.Gen.facts, Cert.ReferenceIdeal.Gen.facts,
  kernel_frame, ideal_frame, fun m g _ => Cert.ReferenceIdeal.Gen.frame m g, trivial, value⟩

end Cert.Proof

end
